-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Decode [hPre_tables_in_range : Cert.Pre_tables_in_range.Facts] (m : (ℓ : Loc Cert.Decode.nD Cert.Decode.τ Cert.Decode.sig) → Buf (Elt Bits) ℓ) : Prop :=
  ∀ c : Dev Cert.Decode.nD,
    (Cert.Pre_tables_in_range.fn (F := Bits) (m ((c.tc : Thread Cert.Decode.nD Cert.Decode.τ).loc Cert.Decode.main_arg0)) (m ((c.tc : Thread Cert.Decode.nD Cert.Decode.τ).loc Cert.Decode.main_arg1)) (m ((c.tc : Thread Cert.Decode.nD Cert.Decode.τ).loc Cert.Decode.main_arg2)) (m ((c.tc : Thread Cert.Decode.nD Cert.Decode.τ).loc Cert.Decode.main_arg3)) (m ((c.tc : Thread Cert.Decode.nD Cert.Decode.τ).loc Cert.Decode.main_arg4)) (m ((c.tc : Thread Cert.Decode.nD Cert.Decode.τ).loc Cert.Decode.main_arg5)) (m ((c.tc : Thread Cert.Decode.nD Cert.Decode.τ).loc Cert.Decode.main_arg6))) = (fun _ => 1#1)

def Pre_DecodeIdeal [hPre_tables_in_range : Cert.Pre_tables_in_range.Facts] (m : (ℓ : Loc Cert.DecodeIdeal.nD Cert.DecodeIdeal.τ Cert.DecodeIdeal.sig) → Buf (Elt Ideal) ℓ) : Prop :=
  ∀ c : Dev Cert.DecodeIdeal.nD,
    (Cert.Pre_tables_in_range.fn (F := Ideal) (m ((c.tc : Thread Cert.DecodeIdeal.nD Cert.DecodeIdeal.τ).loc Cert.DecodeIdeal.main_arg0)) (m ((c.tc : Thread Cert.DecodeIdeal.nD Cert.DecodeIdeal.τ).loc Cert.DecodeIdeal.main_arg1)) (m ((c.tc : Thread Cert.DecodeIdeal.nD Cert.DecodeIdeal.τ).loc Cert.DecodeIdeal.main_arg2)) (m ((c.tc : Thread Cert.DecodeIdeal.nD Cert.DecodeIdeal.τ).loc Cert.DecodeIdeal.main_arg3)) (m ((c.tc : Thread Cert.DecodeIdeal.nD Cert.DecodeIdeal.τ).loc Cert.DecodeIdeal.main_arg4)) (m ((c.tc : Thread Cert.DecodeIdeal.nD Cert.DecodeIdeal.τ).loc Cert.DecodeIdeal.main_arg5)) (m ((c.tc : Thread Cert.DecodeIdeal.nD Cert.DecodeIdeal.τ).loc Cert.DecodeIdeal.main_arg6))) = (fun _ => 1#1)

def Pre_DecodeIdeal_decode_domain [hPre_decode_domain : Cert.Pre_decode_domain.Facts] (m : (ℓ : Loc Cert.DecodeIdeal.nD Cert.DecodeIdeal.τ Cert.DecodeIdeal.sig) → Buf (Elt Ideal) ℓ) : Prop :=
  ∀ c : Dev Cert.DecodeIdeal.nD,
    (Cert.Pre_decode_domain.fn (F := Ideal) (m ((c.tc : Thread Cert.DecodeIdeal.nD Cert.DecodeIdeal.τ).loc Cert.DecodeIdeal.main_arg0)) (m ((c.tc : Thread Cert.DecodeIdeal.nD Cert.DecodeIdeal.τ).loc Cert.DecodeIdeal.main_arg1)) (m ((c.tc : Thread Cert.DecodeIdeal.nD Cert.DecodeIdeal.τ).loc Cert.DecodeIdeal.main_arg2)) (m ((c.tc : Thread Cert.DecodeIdeal.nD Cert.DecodeIdeal.τ).loc Cert.DecodeIdeal.main_arg3)) (m ((c.tc : Thread Cert.DecodeIdeal.nD Cert.DecodeIdeal.τ).loc Cert.DecodeIdeal.main_arg4)) (m ((c.tc : Thread Cert.DecodeIdeal.nD Cert.DecodeIdeal.τ).loc Cert.DecodeIdeal.main_arg5)) (m ((c.tc : Thread Cert.DecodeIdeal.nD Cert.DecodeIdeal.τ).loc Cert.DecodeIdeal.main_arg6))) = (fun _ => 1#1)

def Pre_DecodeReferenceIdeal (m : (ℓ : Loc Cert.DecodeReferenceIdeal.nD Cert.DecodeReferenceIdeal.τ Cert.DecodeReferenceIdeal.sig) → Buf (Elt Ideal) ℓ) : Prop :=
  True

def Pre_DecodeReferenceIdeal_decode_domain [hPre_decode_domain : Cert.Pre_decode_domain.Facts] (m : (ℓ : Loc Cert.DecodeReferenceIdeal.nD Cert.DecodeReferenceIdeal.τ Cert.DecodeReferenceIdeal.sig) → Buf (Elt Ideal) ℓ) : Prop :=
  ∀ c : Dev Cert.DecodeReferenceIdeal.nD,
    (Cert.Pre_decode_domain.fn (F := Ideal) (m ((c.tc : Thread Cert.DecodeReferenceIdeal.nD Cert.DecodeReferenceIdeal.τ).loc Cert.DecodeReferenceIdeal.main_arg0)) (m ((c.tc : Thread Cert.DecodeReferenceIdeal.nD Cert.DecodeReferenceIdeal.τ).loc Cert.DecodeReferenceIdeal.main_arg1)) (m ((c.tc : Thread Cert.DecodeReferenceIdeal.nD Cert.DecodeReferenceIdeal.τ).loc Cert.DecodeReferenceIdeal.main_arg2)) (m ((c.tc : Thread Cert.DecodeReferenceIdeal.nD Cert.DecodeReferenceIdeal.τ).loc Cert.DecodeReferenceIdeal.main_arg3)) (m ((c.tc : Thread Cert.DecodeReferenceIdeal.nD Cert.DecodeReferenceIdeal.τ).loc Cert.DecodeReferenceIdeal.main_arg4)) (m ((c.tc : Thread Cert.DecodeReferenceIdeal.nD Cert.DecodeReferenceIdeal.τ).loc Cert.DecodeReferenceIdeal.main_arg5)) (m ((c.tc : Thread Cert.DecodeReferenceIdeal.nD Cert.DecodeReferenceIdeal.τ).loc Cert.DecodeReferenceIdeal.main_arg6))) = (fun _ => 1#1)

def Pre_Merge [hPre_owner_in_range : Cert.Pre_owner_in_range.Facts] (m : (ℓ : Loc Cert.Merge.nD Cert.Merge.τ Cert.Merge.sig) → Buf (Elt Bits) ℓ) : Prop :=
  ∀ c : Dev Cert.Merge.nD,
    (Cert.Pre_owner_in_range.fn (F := Bits) (m ((c.tc : Thread Cert.Merge.nD Cert.Merge.τ).loc Cert.Merge.main_arg0)) (m ((c.tc : Thread Cert.Merge.nD Cert.Merge.τ).loc Cert.Merge.main_arg1)) (m ((c.tc : Thread Cert.Merge.nD Cert.Merge.τ).loc Cert.Merge.main_arg2)) (m ((c.tc : Thread Cert.Merge.nD Cert.Merge.τ).loc Cert.Merge.main_arg3)) (m ((c.tc : Thread Cert.Merge.nD Cert.Merge.τ).loc Cert.Merge.main_arg4))) = (fun _ => 1#1)

def Pre_MergeIdeal [hPre_owner_in_range : Cert.Pre_owner_in_range.Facts] (m : (ℓ : Loc Cert.MergeIdeal.nD Cert.MergeIdeal.τ Cert.MergeIdeal.sig) → Buf (Elt Ideal) ℓ) : Prop :=
  ∀ c : Dev Cert.MergeIdeal.nD,
    (Cert.Pre_owner_in_range.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_owner_in_range [hPre_owner_in_range : Cert.Pre_owner_in_range.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_owner_in_range.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4))) = (fun _ => 1#1)

def Pre_Owner [hPre_slots_in_range : Cert.Pre_slots_in_range.Facts] (m : (ℓ : Loc Cert.Owner.nD Cert.Owner.τ Cert.Owner.sig) → Buf (Elt Bits) ℓ) : Prop :=
  ∀ c : Dev Cert.Owner.nD,
    (Cert.Pre_slots_in_range.fn (F := Bits) (m ((c.tc : Thread Cert.Owner.nD Cert.Owner.τ).loc Cert.Owner.main_arg0))) = (fun _ => 1#1)

def Pre_OwnerIdeal [hPre_slots_in_range : Cert.Pre_slots_in_range.Facts] (m : (ℓ : Loc Cert.OwnerIdeal.nD Cert.OwnerIdeal.τ Cert.OwnerIdeal.sig) → Buf (Elt Ideal) ℓ) : Prop :=
  ∀ c : Dev Cert.OwnerIdeal.nD,
    (Cert.Pre_slots_in_range.fn (F := Ideal) (m ((c.tc : Thread Cert.OwnerIdeal.nD Cert.OwnerIdeal.τ).loc Cert.OwnerIdeal.main_arg0))) = (fun _ => 1#1)

def Pre_OwnerReferenceIdeal (m : (ℓ : Loc Cert.OwnerReferenceIdeal.nD Cert.OwnerReferenceIdeal.τ Cert.OwnerReferenceIdeal.sig) → Buf (Elt Ideal) ℓ) : Prop :=
  True

def Pre_OwnerReferenceIdeal_slots_in_range [hPre_slots_in_range : Cert.Pre_slots_in_range.Facts] (m : (ℓ : Loc Cert.OwnerReferenceIdeal.nD Cert.OwnerReferenceIdeal.τ Cert.OwnerReferenceIdeal.sig) → Buf (Elt Ideal) ℓ) : Prop :=
  ∀ c : Dev Cert.OwnerReferenceIdeal.nD,
    (Cert.Pre_slots_in_range.fn (F := Ideal) (m ((c.tc : Thread Cert.OwnerReferenceIdeal.nD Cert.OwnerReferenceIdeal.τ).loc Cert.OwnerReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Decode [hDecode : Cert.Decode.Facts] [hPre_tables_in_range : Cert.Pre_tables_in_range.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1)
      ∧ r.2.mem ((c.tc : Thread Cert.Decode.nD Cert.Decode.τ).loc Cert.Decode.main_arg2) = m ((c.tc : Thread Cert.Decode.nD Cert.Decode.τ).loc Cert.Decode.main_arg2)
      ∧ r.2.mem ((c.tc : Thread Cert.Decode.nD Cert.Decode.τ).loc Cert.Decode.main_arg3) = m ((c.tc : Thread Cert.Decode.nD Cert.Decode.τ).loc Cert.Decode.main_arg3)
      ∧ r.2.mem ((c.tc : Thread Cert.Decode.nD Cert.Decode.τ).loc Cert.Decode.main_arg4) = m ((c.tc : Thread Cert.Decode.nD Cert.Decode.τ).loc Cert.Decode.main_arg4)
      ∧ r.2.mem ((c.tc : Thread Cert.Decode.nD Cert.Decode.τ).loc Cert.Decode.main_arg5) = m ((c.tc : Thread Cert.Decode.nD Cert.Decode.τ).loc Cert.Decode.main_arg5)
      ∧ r.2.mem ((c.tc : Thread Cert.Decode.nD Cert.Decode.τ).loc Cert.Decode.main_arg6) = m ((c.tc : Thread Cert.Decode.nD Cert.Decode.τ).loc Cert.Decode.main_arg6))
      ∧ r.2.sem = fun _ => 0)

def quiescent_DecodeIdeal [hDecodeIdeal : Cert.DecodeIdeal.Facts] [hPre_tables_in_range : Cert.Pre_tables_in_range.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
      ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4)
      ∧ r.2.mem ((c.tc : Thread Cert.DecodeIdeal.nD Cert.DecodeIdeal.τ).loc Cert.DecodeIdeal.main_arg5) = m ((c.tc : Thread Cert.DecodeIdeal.nD Cert.DecodeIdeal.τ).loc Cert.DecodeIdeal.main_arg5)
      ∧ r.2.mem ((c.tc : Thread Cert.DecodeIdeal.nD Cert.DecodeIdeal.τ).loc Cert.DecodeIdeal.main_arg6) = m ((c.tc : Thread Cert.DecodeIdeal.nD Cert.DecodeIdeal.τ).loc Cert.DecodeIdeal.main_arg6))
      ∧ r.2.sem = fun _ => 0)

def quiescent_DecodeIdeal_pre_decode_domain [hDecodeIdeal : Cert.DecodeIdeal.Facts] [hPre_decode_domain : Cert.Pre_decode_domain.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal_decode_domain m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
      ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4)
      ∧ r.2.mem ((c.tc : Thread Cert.DecodeIdeal.nD Cert.DecodeIdeal.τ).loc Cert.DecodeIdeal.main_arg5) = m ((c.tc : Thread Cert.DecodeIdeal.nD Cert.DecodeIdeal.τ).loc Cert.DecodeIdeal.main_arg5)
      ∧ r.2.mem ((c.tc : Thread Cert.DecodeIdeal.nD Cert.DecodeIdeal.τ).loc Cert.DecodeIdeal.main_arg6) = m ((c.tc : Thread Cert.DecodeIdeal.nD Cert.DecodeIdeal.τ).loc Cert.DecodeIdeal.main_arg6))
      ∧ r.2.sem = fun _ => 0)

def quiescent_DecodeReferenceIdeal [hDecodeReferenceIdeal : Cert.DecodeReferenceIdeal.Facts] : Prop :=
  ∀ (m : (ℓ : Loc Cert.DecodeReferenceIdeal.nD Cert.DecodeReferenceIdeal.τ Cert.DecodeReferenceIdeal.sig) → Buf (Elt Ideal) ℓ) (g : Dev Cert.DecodeReferenceIdeal.nD → PrngReg), Pre_DecodeReferenceIdeal m →
    θ_run (Cert.DecodeReferenceIdeal.defs (F := Ideal)) (onTc (τ := Cert.DecodeReferenceIdeal.τ) (Cert.DecodeReferenceIdeal.main (F := Ideal))) ⟨m, fun _ => 0, g⟩ (fun r => (∀ c : Dev Cert.DecodeReferenceIdeal.nD,
      r.2.mem ((c.tc : Thread Cert.DecodeReferenceIdeal.nD Cert.DecodeReferenceIdeal.τ).loc Cert.DecodeReferenceIdeal.main_arg0) = m ((c.tc : Thread Cert.DecodeReferenceIdeal.nD Cert.DecodeReferenceIdeal.τ).loc Cert.DecodeReferenceIdeal.main_arg0)
      ∧ r.2.mem ((c.tc : Thread Cert.DecodeReferenceIdeal.nD Cert.DecodeReferenceIdeal.τ).loc Cert.DecodeReferenceIdeal.main_arg1) = m ((c.tc : Thread Cert.DecodeReferenceIdeal.nD Cert.DecodeReferenceIdeal.τ).loc Cert.DecodeReferenceIdeal.main_arg1)
      ∧ r.2.mem ((c.tc : Thread Cert.DecodeReferenceIdeal.nD Cert.DecodeReferenceIdeal.τ).loc Cert.DecodeReferenceIdeal.main_arg2) = m ((c.tc : Thread Cert.DecodeReferenceIdeal.nD Cert.DecodeReferenceIdeal.τ).loc Cert.DecodeReferenceIdeal.main_arg2)
      ∧ r.2.mem ((c.tc : Thread Cert.DecodeReferenceIdeal.nD Cert.DecodeReferenceIdeal.τ).loc Cert.DecodeReferenceIdeal.main_arg3) = m ((c.tc : Thread Cert.DecodeReferenceIdeal.nD Cert.DecodeReferenceIdeal.τ).loc Cert.DecodeReferenceIdeal.main_arg3)
      ∧ r.2.mem ((c.tc : Thread Cert.DecodeReferenceIdeal.nD Cert.DecodeReferenceIdeal.τ).loc Cert.DecodeReferenceIdeal.main_arg4) = m ((c.tc : Thread Cert.DecodeReferenceIdeal.nD Cert.DecodeReferenceIdeal.τ).loc Cert.DecodeReferenceIdeal.main_arg4)
      ∧ r.2.mem ((c.tc : Thread Cert.DecodeReferenceIdeal.nD Cert.DecodeReferenceIdeal.τ).loc Cert.DecodeReferenceIdeal.main_arg5) = m ((c.tc : Thread Cert.DecodeReferenceIdeal.nD Cert.DecodeReferenceIdeal.τ).loc Cert.DecodeReferenceIdeal.main_arg5)
      ∧ r.2.mem ((c.tc : Thread Cert.DecodeReferenceIdeal.nD Cert.DecodeReferenceIdeal.τ).loc Cert.DecodeReferenceIdeal.main_arg6) = m ((c.tc : Thread Cert.DecodeReferenceIdeal.nD Cert.DecodeReferenceIdeal.τ).loc Cert.DecodeReferenceIdeal.main_arg6))
      ∧ r.2.sem = fun _ => 0)

def quiescent_DecodeReferenceIdeal_pre_decode_domain [hDecodeReferenceIdeal : Cert.DecodeReferenceIdeal.Facts] [hPre_decode_domain : Cert.Pre_decode_domain.Facts] : Prop :=
  ∀ (m : (ℓ : Loc Cert.DecodeReferenceIdeal.nD Cert.DecodeReferenceIdeal.τ Cert.DecodeReferenceIdeal.sig) → Buf (Elt Ideal) ℓ) (g : Dev Cert.DecodeReferenceIdeal.nD → PrngReg), Pre_DecodeReferenceIdeal_decode_domain m →
    θ_run (Cert.DecodeReferenceIdeal.defs (F := Ideal)) (onTc (τ := Cert.DecodeReferenceIdeal.τ) (Cert.DecodeReferenceIdeal.main (F := Ideal))) ⟨m, fun _ => 0, g⟩ (fun r => (∀ c : Dev Cert.DecodeReferenceIdeal.nD,
      r.2.mem ((c.tc : Thread Cert.DecodeReferenceIdeal.nD Cert.DecodeReferenceIdeal.τ).loc Cert.DecodeReferenceIdeal.main_arg0) = m ((c.tc : Thread Cert.DecodeReferenceIdeal.nD Cert.DecodeReferenceIdeal.τ).loc Cert.DecodeReferenceIdeal.main_arg0)
      ∧ r.2.mem ((c.tc : Thread Cert.DecodeReferenceIdeal.nD Cert.DecodeReferenceIdeal.τ).loc Cert.DecodeReferenceIdeal.main_arg1) = m ((c.tc : Thread Cert.DecodeReferenceIdeal.nD Cert.DecodeReferenceIdeal.τ).loc Cert.DecodeReferenceIdeal.main_arg1)
      ∧ r.2.mem ((c.tc : Thread Cert.DecodeReferenceIdeal.nD Cert.DecodeReferenceIdeal.τ).loc Cert.DecodeReferenceIdeal.main_arg2) = m ((c.tc : Thread Cert.DecodeReferenceIdeal.nD Cert.DecodeReferenceIdeal.τ).loc Cert.DecodeReferenceIdeal.main_arg2)
      ∧ r.2.mem ((c.tc : Thread Cert.DecodeReferenceIdeal.nD Cert.DecodeReferenceIdeal.τ).loc Cert.DecodeReferenceIdeal.main_arg3) = m ((c.tc : Thread Cert.DecodeReferenceIdeal.nD Cert.DecodeReferenceIdeal.τ).loc Cert.DecodeReferenceIdeal.main_arg3)
      ∧ r.2.mem ((c.tc : Thread Cert.DecodeReferenceIdeal.nD Cert.DecodeReferenceIdeal.τ).loc Cert.DecodeReferenceIdeal.main_arg4) = m ((c.tc : Thread Cert.DecodeReferenceIdeal.nD Cert.DecodeReferenceIdeal.τ).loc Cert.DecodeReferenceIdeal.main_arg4)
      ∧ r.2.mem ((c.tc : Thread Cert.DecodeReferenceIdeal.nD Cert.DecodeReferenceIdeal.τ).loc Cert.DecodeReferenceIdeal.main_arg5) = m ((c.tc : Thread Cert.DecodeReferenceIdeal.nD Cert.DecodeReferenceIdeal.τ).loc Cert.DecodeReferenceIdeal.main_arg5)
      ∧ r.2.mem ((c.tc : Thread Cert.DecodeReferenceIdeal.nD Cert.DecodeReferenceIdeal.τ).loc Cert.DecodeReferenceIdeal.main_arg6) = m ((c.tc : Thread Cert.DecodeReferenceIdeal.nD Cert.DecodeReferenceIdeal.τ).loc Cert.DecodeReferenceIdeal.main_arg6))
      ∧ r.2.sem = fun _ => 0)

def quiescent_Merge [hMerge : Cert.Merge.Facts] [hPre_owner_in_range : Cert.Pre_owner_in_range.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] [hPre_owner_in_range : Cert.Pre_owner_in_range.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_MergeReferenceIdeal_pre_owner_in_range [hMergeReferenceIdeal : Cert.MergeReferenceIdeal.Facts] [hPre_owner_in_range : Cert.Pre_owner_in_range.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_owner_in_range m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Owner [hOwner : Cert.Owner.Facts] [hPre_slots_in_range : Cert.Pre_slots_in_range.Facts] : Prop :=
  ∀ (m : (ℓ : Loc Cert.Owner.nD Cert.Owner.τ Cert.Owner.sig) → Buf (Elt Bits) ℓ) (g : Dev Cert.Owner.nD → PrngReg), Pre_Owner m →
    θ_run (Cert.Owner.defs (F := Bits)) (onTc (τ := Cert.Owner.τ) (Cert.Owner.main (F := Bits))) ⟨m, fun _ => 0, g⟩ (fun r => (∀ c : Dev Cert.Owner.nD,
      r.2.mem ((c.tc : Thread Cert.Owner.nD Cert.Owner.τ).loc Cert.Owner.main_arg0) = m ((c.tc : Thread Cert.Owner.nD Cert.Owner.τ).loc Cert.Owner.main_arg0))
      ∧ r.2.sem = fun _ => 0)

def quiescent_OwnerIdeal [hOwnerIdeal : Cert.OwnerIdeal.Facts] [hPre_slots_in_range : Cert.Pre_slots_in_range.Facts] : Prop :=
  ∀ (m : (ℓ : Loc Cert.OwnerIdeal.nD Cert.OwnerIdeal.τ Cert.OwnerIdeal.sig) → Buf (Elt Ideal) ℓ) (g : Dev Cert.OwnerIdeal.nD → PrngReg), Pre_OwnerIdeal m →
    θ_run (Cert.OwnerIdeal.defs (F := Ideal)) (onTc (τ := Cert.OwnerIdeal.τ) (Cert.OwnerIdeal.main (F := Ideal))) ⟨m, fun _ => 0, g⟩ (fun r => (∀ c : Dev Cert.OwnerIdeal.nD,
      r.2.mem ((c.tc : Thread Cert.OwnerIdeal.nD Cert.OwnerIdeal.τ).loc Cert.OwnerIdeal.main_arg0) = m ((c.tc : Thread Cert.OwnerIdeal.nD Cert.OwnerIdeal.τ).loc Cert.OwnerIdeal.main_arg0))
      ∧ r.2.sem = fun _ => 0)

def quiescent_OwnerReferenceIdeal [hOwnerReferenceIdeal : Cert.OwnerReferenceIdeal.Facts] : Prop :=
  ∀ (m : (ℓ : Loc Cert.OwnerReferenceIdeal.nD Cert.OwnerReferenceIdeal.τ Cert.OwnerReferenceIdeal.sig) → Buf (Elt Ideal) ℓ) (g : Dev Cert.OwnerReferenceIdeal.nD → PrngReg), Pre_OwnerReferenceIdeal m →
    θ_run (Cert.OwnerReferenceIdeal.defs (F := Ideal)) (onTc (τ := Cert.OwnerReferenceIdeal.τ) (Cert.OwnerReferenceIdeal.main (F := Ideal))) ⟨m, fun _ => 0, g⟩ (fun r => (∀ c : Dev Cert.OwnerReferenceIdeal.nD,
      r.2.mem ((c.tc : Thread Cert.OwnerReferenceIdeal.nD Cert.OwnerReferenceIdeal.τ).loc Cert.OwnerReferenceIdeal.main_arg0) = m ((c.tc : Thread Cert.OwnerReferenceIdeal.nD Cert.OwnerReferenceIdeal.τ).loc Cert.OwnerReferenceIdeal.main_arg0))
      ∧ r.2.sem = fun _ => 0)

def quiescent_OwnerReferenceIdeal_pre_slots_in_range [hOwnerReferenceIdeal : Cert.OwnerReferenceIdeal.Facts] [hPre_slots_in_range : Cert.Pre_slots_in_range.Facts] : Prop :=
  ∀ (m : (ℓ : Loc Cert.OwnerReferenceIdeal.nD Cert.OwnerReferenceIdeal.τ Cert.OwnerReferenceIdeal.sig) → Buf (Elt Ideal) ℓ) (g : Dev Cert.OwnerReferenceIdeal.nD → PrngReg), Pre_OwnerReferenceIdeal_slots_in_range m →
    θ_run (Cert.OwnerReferenceIdeal.defs (F := Ideal)) (onTc (τ := Cert.OwnerReferenceIdeal.τ) (Cert.OwnerReferenceIdeal.main (F := Ideal))) ⟨m, fun _ => 0, g⟩ (fun r => (∀ c : Dev Cert.OwnerReferenceIdeal.nD,
      r.2.mem ((c.tc : Thread Cert.OwnerReferenceIdeal.nD Cert.OwnerReferenceIdeal.τ).loc Cert.OwnerReferenceIdeal.main_arg0) = m ((c.tc : Thread Cert.OwnerReferenceIdeal.nD Cert.OwnerReferenceIdeal.τ).loc Cert.OwnerReferenceIdeal.main_arg0))
      ∧ r.2.sem = fun _ => 0)

def preserves_Kernel_KernelIdeal : Prop :=
  IdealRules.named_const.Statement Cert.KernelIdeal.κ "mask" .f32 0xC7C35000#32 ⊥

def algebraic_KernelIdeal_ReferenceIdeal_on_prompt_rows_pre_finite_qk [hKernelIdeal : Cert.KernelIdeal.Facts] [hReferenceIdeal : Cert.ReferenceIdeal.Facts] [hPre_finite_qk : Cert.Pre_finite_qk.Facts] [hOn_prompt_rows : Cert.On_prompt_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4112, 2048]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4112, 2048]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v33) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Decode_DecodeIdeal : Prop :=
  IdealRules.named_const.Statement Cert.DecodeIdeal.κ "mask" .f32 0xC7C35000#32 ⊥

def algebraic_DecodeIdeal_DecodeReferenceIdeal_pre_decode_domain [hDecodeIdeal : Cert.DecodeIdeal.Facts] [hDecodeReferenceIdeal : Cert.DecodeReferenceIdeal.Facts] [hPre_decode_domain : Cert.Pre_decode_domain.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.DecodeReferenceIdeal.nD Cert.DecodeReferenceIdeal.τ Cert.DecodeReferenceIdeal.sig) → Buf (Elt Ideal) ℓ) (g' : Dev Cert.DecodeReferenceIdeal.nD → PrngReg), Pre_DecodeIdeal_decode_domain m →
    (∀ c : Dev Cert.DecodeIdeal.nD,
      m' ((c.tc : Thread Cert.DecodeReferenceIdeal.nD Cert.DecodeReferenceIdeal.τ).loc Cert.DecodeReferenceIdeal.main_arg0) = m ((c.tc : Thread Cert.DecodeIdeal.nD Cert.DecodeIdeal.τ).loc Cert.DecodeIdeal.main_arg0)
      ∧ m' ((c.tc : Thread Cert.DecodeReferenceIdeal.nD Cert.DecodeReferenceIdeal.τ).loc Cert.DecodeReferenceIdeal.main_arg1) = m ((c.tc : Thread Cert.DecodeIdeal.nD Cert.DecodeIdeal.τ).loc Cert.DecodeIdeal.main_arg1)
      ∧ m' ((c.tc : Thread Cert.DecodeReferenceIdeal.nD Cert.DecodeReferenceIdeal.τ).loc Cert.DecodeReferenceIdeal.main_arg2) = m ((c.tc : Thread Cert.DecodeIdeal.nD Cert.DecodeIdeal.τ).loc Cert.DecodeIdeal.main_arg2)
      ∧ m' ((c.tc : Thread Cert.DecodeReferenceIdeal.nD Cert.DecodeReferenceIdeal.τ).loc Cert.DecodeReferenceIdeal.main_arg3) = m ((c.tc : Thread Cert.DecodeIdeal.nD Cert.DecodeIdeal.τ).loc Cert.DecodeIdeal.main_arg3)
      ∧ m' ((c.tc : Thread Cert.DecodeReferenceIdeal.nD Cert.DecodeReferenceIdeal.τ).loc Cert.DecodeReferenceIdeal.main_arg4) = m ((c.tc : Thread Cert.DecodeIdeal.nD Cert.DecodeIdeal.τ).loc Cert.DecodeIdeal.main_arg4)
      ∧ m' ((c.tc : Thread Cert.DecodeReferenceIdeal.nD Cert.DecodeReferenceIdeal.τ).loc Cert.DecodeReferenceIdeal.main_arg5) = m ((c.tc : Thread Cert.DecodeIdeal.nD Cert.DecodeIdeal.τ).loc Cert.DecodeIdeal.main_arg5)
      ∧ m' ((c.tc : Thread Cert.DecodeReferenceIdeal.nD Cert.DecodeReferenceIdeal.τ).loc Cert.DecodeReferenceIdeal.main_arg6) = m ((c.tc : Thread Cert.DecodeIdeal.nD Cert.DecodeIdeal.τ).loc Cert.DecodeIdeal.main_arg6)) →
    ∃ (v0 : (c : Dev Cert.DecodeIdeal.nD) → Buf (Elt Ideal) ((c.tc : Thread Cert.DecodeIdeal.nD Cert.DecodeIdeal.τ).loc Cert.DecodeIdeal.main_v10)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v10) = v0 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
          ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
          ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
          ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4)
          ∧ r.2.mem ((c.tc : Thread Cert.DecodeIdeal.nD Cert.DecodeIdeal.τ).loc Cert.DecodeIdeal.main_arg5) = m ((c.tc : Thread Cert.DecodeIdeal.nD Cert.DecodeIdeal.τ).loc Cert.DecodeIdeal.main_arg5)
          ∧ r.2.mem ((c.tc : Thread Cert.DecodeIdeal.nD Cert.DecodeIdeal.τ).loc Cert.DecodeIdeal.main_arg6) = m ((c.tc : Thread Cert.DecodeIdeal.nD Cert.DecodeIdeal.τ).loc Cert.DecodeIdeal.main_arg6))
      ∧ θ_run (Cert.DecodeReferenceIdeal.defs (F := Ideal)) (onTc (τ := Cert.DecodeReferenceIdeal.τ) (Cert.DecodeReferenceIdeal.main (F := Ideal))) ⟨m', fun _ => 0, g'⟩ (fun r => ∀ c : Dev Cert.DecodeReferenceIdeal.nD,
          r.2.mem ((c.tc : Thread Cert.DecodeReferenceIdeal.nD Cert.DecodeReferenceIdeal.τ).loc Cert.DecodeReferenceIdeal.main_v39) = v0 c
          ∧ r.2.mem ((c.tc : Thread Cert.DecodeReferenceIdeal.nD Cert.DecodeReferenceIdeal.τ).loc Cert.DecodeReferenceIdeal.main_arg0) = m' ((c.tc : Thread Cert.DecodeReferenceIdeal.nD Cert.DecodeReferenceIdeal.τ).loc Cert.DecodeReferenceIdeal.main_arg0)
          ∧ r.2.mem ((c.tc : Thread Cert.DecodeReferenceIdeal.nD Cert.DecodeReferenceIdeal.τ).loc Cert.DecodeReferenceIdeal.main_arg1) = m' ((c.tc : Thread Cert.DecodeReferenceIdeal.nD Cert.DecodeReferenceIdeal.τ).loc Cert.DecodeReferenceIdeal.main_arg1)
          ∧ r.2.mem ((c.tc : Thread Cert.DecodeReferenceIdeal.nD Cert.DecodeReferenceIdeal.τ).loc Cert.DecodeReferenceIdeal.main_arg2) = m' ((c.tc : Thread Cert.DecodeReferenceIdeal.nD Cert.DecodeReferenceIdeal.τ).loc Cert.DecodeReferenceIdeal.main_arg2)
          ∧ r.2.mem ((c.tc : Thread Cert.DecodeReferenceIdeal.nD Cert.DecodeReferenceIdeal.τ).loc Cert.DecodeReferenceIdeal.main_arg3) = m' ((c.tc : Thread Cert.DecodeReferenceIdeal.nD Cert.DecodeReferenceIdeal.τ).loc Cert.DecodeReferenceIdeal.main_arg3)
          ∧ r.2.mem ((c.tc : Thread Cert.DecodeReferenceIdeal.nD Cert.DecodeReferenceIdeal.τ).loc Cert.DecodeReferenceIdeal.main_arg4) = m' ((c.tc : Thread Cert.DecodeReferenceIdeal.nD Cert.DecodeReferenceIdeal.τ).loc Cert.DecodeReferenceIdeal.main_arg4)
          ∧ r.2.mem ((c.tc : Thread Cert.DecodeReferenceIdeal.nD Cert.DecodeReferenceIdeal.τ).loc Cert.DecodeReferenceIdeal.main_arg5) = m' ((c.tc : Thread Cert.DecodeReferenceIdeal.nD Cert.DecodeReferenceIdeal.τ).loc Cert.DecodeReferenceIdeal.main_arg5)
          ∧ r.2.mem ((c.tc : Thread Cert.DecodeReferenceIdeal.nD Cert.DecodeReferenceIdeal.τ).loc Cert.DecodeReferenceIdeal.main_arg6) = m' ((c.tc : Thread Cert.DecodeReferenceIdeal.nD Cert.DecodeReferenceIdeal.τ).loc Cert.DecodeReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] [hPre_owner_in_range : Cert.Pre_owner_in_range.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v12) = v0 c
          ∧ r.2.mem ((c.tc : Thread Cert.MergeReferenceIdeal.nD Cert.MergeReferenceIdeal.τ).loc Cert.MergeReferenceIdeal.main_v15) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Owner_OwnerIdeal : Prop :=
  True

def algebraic_OwnerIdeal_OwnerReferenceIdeal [hOwnerIdeal : Cert.OwnerIdeal.Facts] [hOwnerReferenceIdeal : Cert.OwnerReferenceIdeal.Facts] [hPre_slots_in_range : Cert.Pre_slots_in_range.Facts] : Prop :=
  ∀ (m : (ℓ : Loc Cert.OwnerIdeal.nD Cert.OwnerIdeal.τ Cert.OwnerIdeal.sig) → Buf (Elt Ideal) ℓ) (g : Dev Cert.OwnerIdeal.nD → PrngReg)
    (m' : (ℓ : Loc Cert.OwnerReferenceIdeal.nD Cert.OwnerReferenceIdeal.τ Cert.OwnerReferenceIdeal.sig) → Buf (Elt Ideal) ℓ) (g' : Dev Cert.OwnerReferenceIdeal.nD → PrngReg), Pre_OwnerIdeal m →
    (∀ c : Dev Cert.OwnerIdeal.nD,
      m' ((c.tc : Thread Cert.OwnerReferenceIdeal.nD Cert.OwnerReferenceIdeal.τ).loc Cert.OwnerReferenceIdeal.main_arg0) = m ((c.tc : Thread Cert.OwnerIdeal.nD Cert.OwnerIdeal.τ).loc Cert.OwnerIdeal.main_arg0)) →
    ∃ (v0 : (c : Dev Cert.OwnerIdeal.nD) → Buf (Elt Ideal) ((c.tc : Thread Cert.OwnerIdeal.nD Cert.OwnerIdeal.τ).loc Cert.OwnerIdeal.main_v0)),
      θ_run (Cert.OwnerIdeal.defs (F := Ideal)) (onTc (τ := Cert.OwnerIdeal.τ) (Cert.OwnerIdeal.main (F := Ideal))) ⟨m, fun _ => 0, g⟩ (fun r => ∀ c : Dev Cert.OwnerIdeal.nD,
          r.2.mem ((c.tc : Thread Cert.OwnerIdeal.nD Cert.OwnerIdeal.τ).loc Cert.OwnerIdeal.main_v0) = v0 c
          ∧ r.2.mem ((c.tc : Thread Cert.OwnerIdeal.nD Cert.OwnerIdeal.τ).loc Cert.OwnerIdeal.main_arg0) = m ((c.tc : Thread Cert.OwnerIdeal.nD Cert.OwnerIdeal.τ).loc Cert.OwnerIdeal.main_arg0))
      ∧ θ_run (Cert.OwnerReferenceIdeal.defs (F := Ideal)) (onTc (τ := Cert.OwnerReferenceIdeal.τ) (Cert.OwnerReferenceIdeal.main (F := Ideal))) ⟨m', fun _ => 0, g'⟩ (fun r => ∀ c : Dev Cert.OwnerReferenceIdeal.nD,
          r.2.mem ((c.tc : Thread Cert.OwnerReferenceIdeal.nD Cert.OwnerReferenceIdeal.τ).loc Cert.OwnerReferenceIdeal.main_v8) = v0 c
          ∧ r.2.mem ((c.tc : Thread Cert.OwnerReferenceIdeal.nD Cert.OwnerReferenceIdeal.τ).loc Cert.OwnerReferenceIdeal.main_arg0) = m' ((c.tc : Thread Cert.OwnerReferenceIdeal.nD Cert.OwnerReferenceIdeal.τ).loc Cert.OwnerReferenceIdeal.main_arg0))

def Claim : Prop :=
  ∃ (hKernel : Cert.Kernel.Facts) (hKernelIdeal : Cert.KernelIdeal.Facts) (hReferenceIdeal : Cert.ReferenceIdeal.Facts) (hDecode : Cert.Decode.Facts) (hDecodeIdeal : Cert.DecodeIdeal.Facts) (hDecodeReferenceIdeal : Cert.DecodeReferenceIdeal.Facts) (hMerge : Cert.Merge.Facts) (hMergeIdeal : Cert.MergeIdeal.Facts) (hMergeReferenceIdeal : Cert.MergeReferenceIdeal.Facts) (hOwner : Cert.Owner.Facts) (hOwnerIdeal : Cert.OwnerIdeal.Facts) (hOwnerReferenceIdeal : Cert.OwnerReferenceIdeal.Facts) (hPre_finite_qk : Cert.Pre_finite_qk.Facts) (hPre_tables_in_range : Cert.Pre_tables_in_range.Facts) (hPre_decode_domain : Cert.Pre_decode_domain.Facts) (hPre_owner_in_range : Cert.Pre_owner_in_range.Facts) (hPre_slots_in_range : Cert.Pre_slots_in_range.Facts) (hOn_prompt_rows : Cert.On_prompt_rows.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Decode (hDecode := hDecode) (hPre_tables_in_range := hPre_tables_in_range)
    ∧ quiescent_DecodeIdeal (hDecodeIdeal := hDecodeIdeal) (hPre_tables_in_range := hPre_tables_in_range)
    ∧ quiescent_DecodeIdeal_pre_decode_domain (hDecodeIdeal := hDecodeIdeal) (hPre_decode_domain := hPre_decode_domain)
    ∧ quiescent_DecodeReferenceIdeal (hDecodeReferenceIdeal := hDecodeReferenceIdeal)
    ∧ quiescent_DecodeReferenceIdeal_pre_decode_domain (hDecodeReferenceIdeal := hDecodeReferenceIdeal) (hPre_decode_domain := hPre_decode_domain)
    ∧ quiescent_Merge (hMerge := hMerge) (hPre_owner_in_range := hPre_owner_in_range)
    ∧ quiescent_MergeIdeal (hMergeIdeal := hMergeIdeal) (hPre_owner_in_range := hPre_owner_in_range)
    ∧ quiescent_MergeReferenceIdeal (hMergeReferenceIdeal := hMergeReferenceIdeal)
    ∧ quiescent_MergeReferenceIdeal_pre_owner_in_range (hMergeReferenceIdeal := hMergeReferenceIdeal) (hPre_owner_in_range := hPre_owner_in_range)
    ∧ quiescent_Owner (hOwner := hOwner) (hPre_slots_in_range := hPre_slots_in_range)
    ∧ quiescent_OwnerIdeal (hOwnerIdeal := hOwnerIdeal) (hPre_slots_in_range := hPre_slots_in_range)
    ∧ quiescent_OwnerReferenceIdeal (hOwnerReferenceIdeal := hOwnerReferenceIdeal)
    ∧ quiescent_OwnerReferenceIdeal_pre_slots_in_range (hOwnerReferenceIdeal := hOwnerReferenceIdeal) (hPre_slots_in_range := hPre_slots_in_range)
    ∧ preserves_Kernel_KernelIdeal
    ∧ algebraic_KernelIdeal_ReferenceIdeal_on_prompt_rows_pre_finite_qk (hKernelIdeal := hKernelIdeal) (hReferenceIdeal := hReferenceIdeal) (hPre_finite_qk := hPre_finite_qk) (hOn_prompt_rows := hOn_prompt_rows)
    ∧ preserves_Decode_DecodeIdeal
    ∧ algebraic_DecodeIdeal_DecodeReferenceIdeal_pre_decode_domain (hDecodeIdeal := hDecodeIdeal) (hDecodeReferenceIdeal := hDecodeReferenceIdeal) (hPre_decode_domain := hPre_decode_domain)
    ∧ preserves_Merge_MergeIdeal
    ∧ algebraic_MergeIdeal_MergeReferenceIdeal (hMergeIdeal := hMergeIdeal) (hMergeReferenceIdeal := hMergeReferenceIdeal) (hPre_owner_in_range := hPre_owner_in_range)
    ∧ preserves_Owner_OwnerIdeal
    ∧ algebraic_OwnerIdeal_OwnerReferenceIdeal (hOwnerIdeal := hOwnerIdeal) (hOwnerReferenceIdeal := hOwnerReferenceIdeal) (hPre_slots_in_range := hPre_slots_in_range)
-- ==== On_prompt_rows.lean ====
abbrev S4112x2048 : Shape := ⟨2, ![4112, 2048]⟩
abbrev S_ : Shape := ⟨0, ![]⟩

class Facts : Prop where
  bcast_S_S4112x2048 : S_.BroadcastsInDim S4112x2048 (![] : Fin 0 → Fin S4112x2048.rank)

variable [Facts]

def fn {F : FTy → Type} [FloatOps F] (main_arg0 : FVec F S4112x2048 .f32) (main_arg1 : FVec F S4112x2048 .f32) (main_arg2 : FVec F S4112x2048 .f32) : IVec S4112x2048 1 :=
  let main_v0 : IVec S4112x2048 32 := iotaInDim S4112x2048 32 0
  let main_c : IVec S_ 32 := constantI S_ 32 4096#32
  let main_v1 : IVec S4112x2048 32 := broadcastInDim S4112x2048 ![] bcast_S_S4112x2048 main_c
  let main_v2 : IVec S4112x2048 1 := cmpi .slt main_v0 main_v1
  main_v2
-- ==== Pre_decode_domain.lean ====
abbrev S16x64 : Shape := ⟨2, ![16, 64]⟩
abbrev S16 : Shape := ⟨1, ![16]⟩
abbrev S4112x16x128 : Shape := ⟨3, ![4112, 16, 128]⟩
abbrev S512x16x16x16x8 : Shape := ⟨5, ![512, 16, 16, 16, 8]⟩
abbrev S512x16x17x128 : Shape := ⟨4, ![512, 16, 17, 128]⟩
abbrev S512x16x16x128 : Shape := ⟨4, ![512, 16, 16, 128]⟩
abbrev S_ : Shape := ⟨0, ![]⟩
abbrev S512x16x1x1 : Shape := ⟨4, ![512, 16, 1, 1]⟩
abbrev S512x16 : Shape := ⟨2, ![512, 16]⟩

class Facts : Prop where
  bcast_S_S16x64 : S_.BroadcastsInDim S16x64 (![] : Fin 0 → Fin S16x64.rank)
  reducesTo_S16x64_S_d0_1 : S16x64.ReducesTo [0, 1] S_
  h_S_ : 0 < S_.numel
  bcast_S_S16 : S_.BroadcastsInDim S16 (![] : Fin 0 → Fin S16.rank)
  reducesTo_S16_S_d0 : S16.ReducesTo [0] S_
  slices_S512x16x17x128_S512x16x1x1_0_0_16_0 : S512x16x17x128.Slices ![0, 0, 16, 0] S512x16x1x1
  shapeCasts_S512x16x1x1_S512x16 : S512x16x1x1.ShapeCasts S512x16
  bcast_S_S512x16 : S_.BroadcastsInDim S512x16 (![] : Fin 0 → Fin S512x16.rank)
  reducesTo_S512x16_S_d0_1 : S512x16.ReducesTo [0, 1] S_
  bcast_S_S4112x16x128 : S_.BroadcastsInDim S4112x16x128 (![] : Fin 0 → Fin S4112x16x128.rank)
  reducesTo_S4112x16x128_S_d0_1_2 : S4112x16x128.ReducesTo [0, 1, 2] S_
  bcast_S_S512x16x16x16x8 : S_.BroadcastsInDim S512x16x16x16x8 (![] : Fin 0 → Fin S512x16x16x16x8.rank)
  reducesTo_S512x16x16x16x8_S_d0_1_2_3_4 : S512x16x16x16x8.ReducesTo [0, 1, 2, 3, 4] S_
  bcast_S_S512x16x17x128 : S_.BroadcastsInDim S512x16x17x128 (![] : Fin 0 → Fin S512x16x17x128.rank)
  reducesTo_S512x16x17x128_S_d0_1_2_3 : S512x16x17x128.ReducesTo [0, 1, 2, 3] S_

variable [Facts]

def fn_part2 {F : FTy → Type} [FloatOps F] (main_v5 : IVec S_ 1) (main_v11 : IVec S_ 1) (main_v19 : IVec S_ 1) (main_v28 : IVec S_ 1) (main_v32 : IVec S_ 1) : IVec S_ 1 :=
  let main_v33 : IVec S_ 1 := andi main_v28 main_v32
  let main_v34 : IVec S_ 1 := andi main_v5 main_v11
  let main_v35 : IVec S_ 1 := andi main_v34 main_v19
  let main_v36 : IVec S_ 1 := andi main_v35 main_v33
  main_v36

def fn_part1 {F : FTy → Type} [FloatOps F] (main_arg2 : FVec F S4112x16x128 .f32) (main_arg3 : FVec F S512x16x16x16x8 .f32) (main_arg4 : FVec F S512x16x17x128 .f32) (main_v5 : IVec S_ 1) (main_v11 : IVec S_ 1) (main_v13 : FVec F S512x16 .f32) (main_v15 : IVec S512x16 1) (main_cst_5 : FVec F S_ .f32) : IVec S_ 1 :=
  let main_v16 : FVec F S512x16 .f32 := broadcastInDim S512x16 ![] bcast_S_S512x16 main_cst_5
  let main_v17 : IVec S512x16 1 := cmpf .oeq main_v13 main_v16
  let main_v18 : IVec S512x16 1 := ori main_v15 main_v17
  let main_c_6 : IVec S_ 1 := constantI S_ 1 1#1
  let main_v19 : IVec S_ 1 := (fun x v => Host.reduce IntOp.andi x v reducesTo_S512x16_S_d0_1 h_S_) main_v18 main_c_6
  let main_v20 : FVec F S4112x16x128 .f32 := Host.absf main_arg2
  let main_cst_7 : FVec F S_ .f32 := constant S_ .f32 0x7F800000#32
  let main_v21 : FVec F S4112x16x128 .f32 := broadcastInDim S4112x16x128 ![] bcast_S_S4112x16x128 main_cst_7
  let main_v22 : IVec S4112x16x128 1 := cmpf .olt main_v20 main_v21
  let main_c_8 : IVec S_ 1 := constantI S_ 1 1#1
  let main_v23 : IVec S_ 1 := (fun x v => Host.reduce IntOp.andi x v reducesTo_S4112x16x128_S_d0_1_2 h_S_) main_v22 main_c_8
  let main_v24 : FVec F S512x16x16x16x8 .f32 := Host.absf main_arg3
  let main_cst_9 : FVec F S_ .f32 := constant S_ .f32 0x7F800000#32
  let main_v25 : FVec F S512x16x16x16x8 .f32 := broadcastInDim S512x16x16x16x8 ![] bcast_S_S512x16x16x16x8 main_cst_9
  let main_v26 : IVec S512x16x16x16x8 1 := cmpf .olt main_v24 main_v25
  let main_c_10 : IVec S_ 1 := constantI S_ 1 1#1
  let main_v27 : IVec S_ 1 := (fun x v => Host.reduce IntOp.andi x v reducesTo_S512x16x16x16x8_S_d0_1_2_3_4 h_S_) main_v26 main_c_10
  let main_v28 : IVec S_ 1 := andi main_v23 main_v27
  let main_v29 : FVec F S512x16x17x128 .f32 := Host.absf main_arg4
  let main_cst_11 : FVec F S_ .f32 := constant S_ .f32 0x7F800000#32
  let main_v30 : FVec F S512x16x17x128 .f32 := broadcastInDim S512x16x17x128 ![] bcast_S_S512x16x17x128 main_cst_11
  let main_v31 : IVec S512x16x17x128 1 := cmpf .olt main_v29 main_v30
  let main_c_12 : IVec S_ 1 := constantI S_ 1 1#1
  let main_v32 : IVec S_ 1 := (fun x v => Host.reduce IntOp.andi x v reducesTo_S512x16x17x128_S_d0_1_2_3 h_S_) main_v31 main_c_12
  fn_part2 (F := F) main_v5 main_v11 main_v19 main_v28 main_v32

def fn {F : FTy → Type} [FloatOps F] (main_arg0 : IVec S16x64 32) (main_arg1 : IVec S16 32) (main_arg2 : FVec F S4112x16x128 .f32) (main_arg3 : FVec F S512x16x16x16x8 .f32) (main_arg4 : FVec F S512x16x17x128 .f32) (main_arg5 : FVec F S512x16x16x128 .f32) (main_arg6 : FVec F S4112x16x128 .f32) : IVec S_ 1 :=
  let main_c : IVec S_ 32 := constantI S_ 32 0#32
  let main_v0 : IVec S16x64 32 := broadcastInDim S16x64 ![] bcast_S_S16x64 main_c
  let main_v1 : IVec S16x64 1 := cmpi .sge main_arg0 main_v0
  let main_c_0 : IVec S_ 32 := constantI S_ 32 512#32
  let main_v2 : IVec S16x64 32 := broadcastInDim S16x64 ![] bcast_S_S16x64 main_c_0
  let main_v3 : IVec S16x64 1 := cmpi .slt main_arg0 main_v2
  let main_v4 : IVec S16x64 1 := andi main_v1 main_v3
  let main_c_1 : IVec S_ 1 := constantI S_ 1 1#1
  let main_v5 : IVec S_ 1 := (fun x v => Host.reduce IntOp.andi x v reducesTo_S16x64_S_d0_1 h_S_) main_v4 main_c_1
  let main_c_2 : IVec S_ 32 := constantI S_ 32 1#32
  let main_v6 : IVec S16 32 := broadcastInDim S16 ![] bcast_S_S16 main_c_2
  let main_v7 : IVec S16 1 := cmpi .sge main_arg1 main_v6
  let main_c_3 : IVec S_ 32 := constantI S_ 32 1024#32
  let main_v8 : IVec S16 32 := broadcastInDim S16 ![] bcast_S_S16 main_c_3
  let main_v9 : IVec S16 1 := cmpi .sle main_arg1 main_v8
  let main_v10 : IVec S16 1 := andi main_v7 main_v9
  let main_c_4 : IVec S_ 1 := constantI S_ 1 1#1
  let main_v11 : IVec S_ 1 := (fun x v => Host.reduce IntOp.andi x v reducesTo_S16_S_d0 h_S_) main_v10 main_c_4
  let main_v12 : FVec F S512x16x1x1 .f32 := (extractStridedSlice S512x16x1x1 ![0, 0, 16, 0] · slices_S512x16x17x128_S512x16x1x1_0_0_16_0) main_arg4
  let main_v13 : FVec F S512x16 .f32 := shapeCast S512x16 main_v12 shapeCasts_S512x16x1x1_S512x16
  let main_cst : FVec F S_ .f32 := constant S_ .f32 0x00000000#32
  let main_v14 : FVec F S512x16 .f32 := broadcastInDim S512x16 ![] bcast_S_S512x16 main_cst
  let main_v15 : IVec S512x16 1 := cmpf .oeq main_v13 main_v14
  let main_cst_5 : FVec F S_ .f32 := constant S_ .f32 0x3F800000#32
  fn_part1 (F := F) main_arg2 main_arg3 main_arg4 main_v5 main_v11 main_v13 main_v15 main_cst_5
-- ==== Pre_finite_qk.lean ====
abbrev S4112x2048 : Shape := ⟨2, ![4112, 2048]⟩
abbrev S_ : Shape := ⟨0, ![]⟩

class Facts : Prop where
  bcast_S_S4112x2048 : S_.BroadcastsInDim S4112x2048 (![] : Fin 0 → Fin S4112x2048.rank)

variable [Facts]

def fn {F : FTy → Type} [FloatOps F] (main_arg0 : FVec F S4112x2048 .f32) (main_arg1 : FVec F S4112x2048 .f32) (main_arg2 : FVec F S4112x2048 .f32) : IVec S4112x2048 1 :=
  let main_v0 : FVec F S4112x2048 .f32 := Host.absf main_arg0
  let main_cst : FVec F S_ .f32 := constant S_ .f32 0x7F800000#32
  let main_v1 : FVec F S4112x2048 .f32 := broadcastInDim S4112x2048 ![] bcast_S_S4112x2048 main_cst
  let main_v2 : IVec S4112x2048 1 := cmpf .olt main_v0 main_v1
  let main_v3 : FVec F S4112x2048 .f32 := Host.absf main_arg1
  let main_cst_0 : FVec F S_ .f32 := constant S_ .f32 0x7F800000#32
  let main_v4 : FVec F S4112x2048 .f32 := broadcastInDim S4112x2048 ![] bcast_S_S4112x2048 main_cst_0
  let main_v5 : IVec S4112x2048 1 := cmpf .olt main_v3 main_v4
  let main_v6 : IVec S4112x2048 1 := andi main_v2 main_v5
  main_v6
-- ==== Pre_owner_in_range.lean ====
abbrev S4112x16x128 : Shape := ⟨3, ![4112, 16, 128]⟩
abbrev S512x16x16x128 : Shape := ⟨4, ![512, 16, 16, 128]⟩
abbrev S4112 : Shape := ⟨1, ![4112]⟩
abbrev S8192 : Shape := ⟨1, ![8192]⟩
abbrev S_ : Shape := ⟨0, ![]⟩

class Facts : Prop where
  bcast_S_S8192 : S_.BroadcastsInDim S8192 (![] : Fin 0 → Fin S8192.rank)

variable [Facts]

def fn {F : FTy → Type} [FloatOps F] (main_arg0 : FVec F S4112x16x128 .f32) (main_arg1 : FVec F S4112x16x128 .f32) (main_arg2 : FVec F S512x16x16x128 .f32) (main_arg3 : IVec S4112 32) (main_arg4 : IVec S8192 32) : IVec S8192 1 :=
  let main_c : IVec S_ 32 := constantI S_ 32 4112#32
  let main_v0 : IVec S8192 32 := broadcastInDim S8192 ![] bcast_S_S8192 main_c
  let main_v1 : IVec S8192 1 := cmpi .slt main_arg4 main_v0
  main_v1
-- ==== Pre_slots_in_range.lean ====
abbrev S4112 : Shape := ⟨1, ![4112]⟩
abbrev S_ : Shape := ⟨0, ![]⟩

class Facts : Prop where
  bcast_S_S4112 : S_.BroadcastsInDim S4112 (![] : Fin 0 → Fin S4112.rank)

variable [Facts]

def fn {F : FTy → Type} [FloatOps F] (main_arg0 : IVec S4112 32) : IVec S4112 1 :=
  let main_c : IVec S_ 32 := constantI S_ 32 0#32
  let main_v0 : IVec S4112 32 := broadcastInDim S4112 ![] bcast_S_S4112 main_c
  let main_v1 : IVec S4112 1 := cmpi .sge main_arg0 main_v0
  let main_c_0 : IVec S_ 32 := constantI S_ 32 8192#32
  let main_v2 : IVec S4112 32 := broadcastInDim S4112 ![] bcast_S_S4112 main_c_0
  let main_v3 : IVec S4112 1 := cmpi .slt main_arg0 main_v2
  let main_v4 : IVec S4112 1 := andi main_v1 main_v3
  main_v4
-- ==== Pre_tables_in_range.lean ====
abbrev S16x64 : Shape := ⟨2, ![16, 64]⟩
abbrev S16 : Shape := ⟨1, ![16]⟩
abbrev S4112x16x128 : Shape := ⟨3, ![4112, 16, 128]⟩
abbrev S512x16x16x16x8 : Shape := ⟨5, ![512, 16, 16, 16, 8]⟩
abbrev S512x16x17x128 : Shape := ⟨4, ![512, 16, 17, 128]⟩
abbrev S512x16x16x128 : Shape := ⟨4, ![512, 16, 16, 128]⟩
abbrev S_ : Shape := ⟨0, ![]⟩

class Facts : Prop where
  bcast_S_S16x64 : S_.BroadcastsInDim S16x64 (![] : Fin 0 → Fin S16x64.rank)

variable [Facts]

def fn {F : FTy → Type} [FloatOps F] (main_arg0 : IVec S16x64 32) (main_arg1 : IVec S16 32) (main_arg2 : FVec F S4112x16x128 .f32) (main_arg3 : FVec F S512x16x16x16x8 .f32) (main_arg4 : FVec F S512x16x17x128 .f32) (main_arg5 : FVec F S512x16x16x128 .f32) (main_arg6 : FVec F S4112x16x128 .f32) : IVec S16x64 1 :=
  let main_c : IVec S_ 32 := constantI S_ 32 0#32
  let main_v0 : IVec S16x64 32 := broadcastInDim S16x64 ![] bcast_S_S16x64 main_c
  let main_v1 : IVec S16x64 1 := cmpi .sge main_arg0 main_v0
  let main_c_0 : IVec S_ 32 := constantI S_ 32 512#32
  let main_v2 : IVec S16x64 32 := broadcastInDim S16x64 ![] bcast_S_S16x64 main_c_0
  let main_v3 : IVec S16x64 1 := cmpi .slt main_arg0 main_v2
  let main_v4 : IVec S16x64 1 := andi main_v1 main_v3
  main_v4
-- ==== Kernel.lean ====
abbrev S4112x2048 : Shape := ⟨2, ![4112, 2048]⟩
abbrev S256x128 : Shape := ⟨2, ![256, 128]⟩
abbrev S2048x128 : Shape := ⟨2, ![2048, 128]⟩
abbrev S256x1 : Shape := ⟨2, ![256, 1]⟩
abbrev S512x128 : Shape := ⟨2, ![512, 128]⟩
abbrev S256x512 : Shape := ⟨2, ![256, 512]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S4112x2048, .f32⟩
  | .hbm, ⟨1, _⟩ => ⟨S4112x2048, .f32⟩
  | .hbm, ⟨2, _⟩ => ⟨S4112x2048, .f32⟩
  | .hbm, ⟨3, _⟩ => ⟨S4112x2048, .f32⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | _, _ => ⟨S4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 8], ![false, false, false]⟩

@[reducible] def k0_t1_loop (i : grid0.Coords) : Scf.Loop 32 :=
  let c0_i32_7 : BitVec 32 := 0#32
  let arg2 : BitVec 32 := BitVec.ofNat 32 (i 2).val
  let c256_i32 : BitVec 32 := 256#32
  let v4 : BitVec 32 := Scalar.muli arg2 c256_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v24 : BitVec 32 := Scalar.subi v21 c0_i32_7
  let c1_i32_8 : BitVec 32 := 1#32
  let v26 : BitVec 32 := Scalar.divsi v24 c1_i32_8
  let v27 : BitVec 32 := Scalar.muli v26 c1_i32_8
  let v28 : BitVec 32 := Scalar.addi c0_i32_7 v27
  let c1_i32_9 : BitVec 32 := 1#32
  ⟨c0_i32_7, v28, c1_i32_9⟩
def k0_off1 (i : grid0.Coords) (k0_t1 : Fin (k0_t1_loop i).trips) : Fin 2 → Nat :=
  let c0_i32_7 : BitVec 32 := 0#32
  let c1_i32_9 : BitVec 32 := 1#32
  let arg7 : BitVec 32 := Scf.iv c0_i32_7 c1_i32_9 k0_t1
  let c512_i32_24 : BitVec 32 := 512#32
  let v63 : BitVec 32 := Scalar.muli arg7 c512_i32_24
  let v64 : Index := Scalar.indexCast v63
  let c0_25 : Index := 0#32
  ![v64.toNat, 0]
@[reducible] def k0_t2_loop (i : grid0.Coords) : Scf.Loop 32 :=
  let c0_i32_7 : BitVec 32 := 0#32
  let arg2 : BitVec 32 := BitVec.ofNat 32 (i 2).val
  let c256_i32 : BitVec 32 := 256#32
  let v4 : BitVec 32 := Scalar.muli arg2 c256_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v24 : BitVec 32 := Scalar.subi v21 c0_i32_7
  let c1_i32_8 : BitVec 32 := 1#32
  let v26 : BitVec 32 := Scalar.divsi v24 c1_i32_8
  let v27 : BitVec 32 := Scalar.muli v26 c1_i32_8
  let v28 : BitVec 32 := Scalar.addi c0_i32_7 v27
  let v25 : BitVec 32 := Scalar.addi c0_i32_7 v24
  let c1_i32_10 : BitVec 32 := 1#32
  ⟨v28, v25, c1_i32_10⟩
def k0_off2 (i : grid0.Coords) (k0_t2 : Fin (k0_t2_loop i).trips) : Fin 2 → Nat :=
  let c0_i32_7 : BitVec 32 := 0#32
  let arg2 : BitVec 32 := BitVec.ofNat 32 (i 2).val
  let c256_i32 : BitVec 32 := 256#32
  let v4 : BitVec 32 := Scalar.muli arg2 c256_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v24 : BitVec 32 := Scalar.subi v21 c0_i32_7
  let c1_i32_8 : BitVec 32 := 1#32
  let v26 : BitVec 32 := Scalar.divsi v24 c1_i32_8
  let v27 : BitVec 32 := Scalar.muli v26 c1_i32_8
  let v28 : BitVec 32 := Scalar.addi c0_i32_7 v27
  let c1_i32_10 : BitVec 32 := 1#32
  let arg7 : BitVec 32 := Scf.iv v28 c1_i32_10 k0_t2
  let c512_i32_24 : BitVec 32 := 512#32
  let v63 : BitVec 32 := Scalar.muli arg7 c512_i32_24
  let v64 : Index := Scalar.indexCast v63
  let c0_25 : Index := 0#32
  ![v64.toNat, 0]
def k0_off3 (i : grid0.Coords) : Fin 2 → Nat :=
  let arg2 : BitVec 32 := BitVec.ofNat 32 (i 2).val
  let c256_i32 : BitVec 32 := 256#32
  let v4 : BitVec 32 := Scalar.muli arg2 c256_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_11 : BitVec 32 := 512#32
  let v31 : BitVec 32 := Scalar.muli v21 c512_i32_11
  let v32 : Index := Scalar.indexCast v31
  let c0_12 : Index := 0#32
  ![v32.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4112x2048 : Shape := ⟨2, ![4112, 2048]⟩
abbrev S4112x16x128 : Shape := ⟨3, ![4112, 16, 128]⟩
abbrev S4096x16x128 : Shape := ⟨3, ![4096, 16, 128]⟩
abbrev S2x2048x16x128 : Shape := ⟨4, ![2, 2048, 16, 128]⟩
abbrev S_ : Shape := ⟨0, ![]⟩
abbrev S2x16x2048x2048 : Shape := ⟨4, ![2, 16, 2048, 2048]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩
abbrev S2x16x128x2048 : Shape := ⟨4, ![2, 16, 128, 2048]⟩
abbrev S4096x2048 : Shape := ⟨2, ![4096, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4112x2048, .f32⟩
  | .hbm, ⟨1, _⟩ => ⟨S4112x2048, .f32⟩
  | .hbm, ⟨2, _⟩ => ⟨S4112x2048, .f32⟩
  | .hbm, ⟨3, _⟩ => ⟨S4112x16x128, .f32⟩
  | .hbm, ⟨4, _⟩ => ⟨S4112x16x128, .f32⟩
  | .hbm, ⟨5, _⟩ => ⟨S4112x16x128, .f32⟩
  | .hbm, ⟨6, _⟩ => ⟨S4096x16x128, .f32⟩
  | .hbm, ⟨7, _⟩ => ⟨S2x2048x16x128, .f32⟩
  | .hbm, ⟨8, _⟩ => ⟨S_, .f32⟩
  | .hbm, ⟨9, _⟩ => ⟨S2x2048x16x128, .f32⟩
  | .hbm, ⟨10, _⟩ => ⟨S2x2048x16x128, .f32⟩
  | .hbm, ⟨11, _⟩ => ⟨S4096x16x128, .f32⟩
  | .hbm, ⟨12, _⟩ => ⟨S2x2048x16x128, .f32⟩
  | .hbm, ⟨13, _⟩ => ⟨S4096x16x128, .f32⟩
  | .hbm, ⟨14, _⟩ => ⟨S2x2048x16x128, .f32⟩
  | .hbm, ⟨15, _⟩ => ⟨S2x16x2048x2048, .f32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S1x1x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S_, .f32⟩
  | .hbm, ⟨30, _⟩ => ⟨S2x16x2048, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x2048, .f32⟩
  | .hbm, ⟨36, _⟩ => ⟨S_, .f32⟩
  | .hbm, ⟨37, _⟩ => ⟨S2x16x2048, .f32⟩
  | .hbm, ⟨38, _⟩ => ⟨S2x16x2048x1, .f32⟩
  | .hbm, ⟨39, _⟩ => ⟨S2x16x2048x2048, .f32⟩
  | .hbm, ⟨40, _⟩ => ⟨S2x16x2048x2048, .f32⟩
  | .hbm, ⟨41, _⟩ => ⟨S2x16x128x2048, .f32⟩
  | .hbm, ⟨42, _⟩ => ⟨S2x2048x16x128, .f32⟩
  | .hbm, ⟨43, _⟩ => ⟨S4096x2048, .f32⟩
  | .hbm, ⟨44, _⟩ => ⟨S_, .i32⟩
  | .hbm, ⟨45, _⟩ => ⟨S_, .f32⟩
  | .hbm, ⟨46, _⟩ => ⟨S4112x2048, .f32⟩
  | _, _ => ⟨S4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c : Ref sig .tc := ⟨.hbm, 44, rfl⟩
abbrev main_call1_v0 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Decode.lean ====
abbrev S16x64 : Shape := ⟨2, ![16, 64]⟩
abbrev S16 : Shape := ⟨1, ![16]⟩
abbrev S4112x16x128 : Shape := ⟨3, ![4112, 16, 128]⟩
abbrev S512x16x16x16x8 : Shape := ⟨5, ![512, 16, 16, 16, 8]⟩
abbrev S512x16x17x128 : Shape := ⟨4, ![512, 16, 17, 128]⟩
abbrev S512x16x16x128 : Shape := ⟨4, ![512, 16, 16, 128]⟩
abbrev S64 : Shape := ⟨1, ![64]⟩
abbrev S1x64 : Shape := ⟨2, ![1, 64]⟩
abbrev S_ : Shape := ⟨0, ![]⟩
abbrev S16x1 : Shape := ⟨2, ![16, 1]⟩
abbrev S16x64x1 : Shape := ⟨3, ![16, 64, 1]⟩
abbrev S1x16x128 : Shape := ⟨3, ![1, 16, 128]⟩
abbrev S1x16x16x16x8 : Shape := ⟨5, ![1, 16, 16, 16, 8]⟩
abbrev S1x1 : Shape := ⟨2, ![1, 1]⟩
abbrev S1x16x17x128 : Shape := ⟨4, ![1, 16, 17, 128]⟩
abbrev S1x16x16x128 : Shape := ⟨4, ![1, 16, 16, 128]⟩
abbrev S16x128 : Shape := ⟨2, ![16, 128]⟩
abbrev S1 : Shape := ⟨1, ![1]⟩
abbrev S16x16x16x8 : Shape := ⟨4, ![16, 16, 16, 8]⟩
abbrev S16x16x1x8 : Shape := ⟨4, ![16, 16, 1, 8]⟩
abbrev S16x16 : Shape := ⟨2, ![16, 16]⟩
abbrev S16x17x128 : Shape := ⟨3, ![16, 17, 128]⟩
abbrev S16x16x128 : Shape := ⟨3, ![16, 16, 128]⟩
abbrev S16x1x1 : Shape := ⟨3, ![16, 1, 1]⟩
abbrev S16x16x1 : Shape := ⟨3, ![16, 16, 1]⟩

abbrev nBuf : Space → Nat
  | .hbm => 42
  | .vmem => 12
  | .smem => 2
  | _ => 0

abbrev bufTy : (tb : Table) → Fin (tcTables nBuf tb) → BufTy
  | .hbm, ⟨0, _⟩ => ⟨S16x64, .i32⟩
  | .hbm, ⟨1, _⟩ => ⟨S4112x16x128, .f32⟩
  | .hbm, ⟨2, _⟩ => ⟨S512x16x16x16x8, .f32⟩
  | .hbm, ⟨3, _⟩ => ⟨S512x16x17x128, .f32⟩
  | .hbm, ⟨4, _⟩ => ⟨S512x16x16x128, .f32⟩
  | .hbm, ⟨5, _⟩ => ⟨S4112x16x128, .f32⟩
  | .hbm, ⟨6, _⟩ => ⟨S64, .i32⟩
  | .hbm, ⟨7, _⟩ => ⟨S1x64, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S16, .i32⟩
  | .hbm, ⟨20, _⟩ => ⟨S16, .i32⟩
  | .hbm, ⟨21, _⟩ => ⟨S_, .i32⟩
  | .hbm, ⟨22, _⟩ => ⟨S16, .i32⟩
  | .hbm, ⟨23, _⟩ => ⟨S16, .i1⟩
  | .hbm, ⟨24, _⟩ => ⟨S16, .i1⟩
  | .hbm, ⟨25, _⟩ => ⟨S_, .i32⟩
  | .hbm, ⟨26, _⟩ => ⟨S16, .i32⟩
  | .hbm, ⟨27, _⟩ => ⟨S16, .i32⟩
  | .hbm, ⟨28, _⟩ => ⟨S16, .i32⟩
  | .hbm, ⟨29, _⟩ => ⟨S16x1, .i32⟩
  | .hbm, ⟨30, _⟩ => ⟨S16x64, .i32⟩
  | .hbm, ⟨31, _⟩ => ⟨S16x64, .i32⟩
  | .hbm, ⟨32, _⟩ => ⟨S16x64, .i32⟩
  | .hbm, ⟨33, _⟩ => ⟨S_, .i32⟩
  | .hbm, ⟨34, _⟩ => ⟨S16x64, .i32⟩
  | .hbm, ⟨35, _⟩ => ⟨S16x64, .i1⟩
  | .hbm, ⟨36, _⟩ => ⟨S_, .i32⟩
  | .hbm, ⟨37, _⟩ => ⟨S16x64, .i32⟩
  | .hbm, ⟨38, _⟩ => ⟨S16x64, .i32⟩
  | .hbm, ⟨39, _⟩ => ⟨S16x64, .i32⟩
  | .hbm, ⟨40, _⟩ => ⟨S16x64x1, .i32⟩
  | .hbm, ⟨41, _⟩ => ⟨S4112x16x128, .f32⟩
  | .local _ .vmem, ⟨0, _⟩ => ⟨S1x16x128, .f32⟩
  | .local _ .vmem, ⟨1, _⟩ => ⟨S1x16x128, .f32⟩
  | .local _ .vmem, ⟨2, _⟩ => ⟨S1x16x16x16x8, .f32⟩
  | .local _ .vmem, ⟨3, _⟩ => ⟨S1x16x16x16x8, .f32⟩
  | .local _ .vmem, ⟨4, _⟩ => ⟨S1x16x17x128, .f32⟩
  | .local _ .vmem, ⟨5, _⟩ => ⟨S1x16x17x128, .f32⟩
  | .local _ .vmem, ⟨6, _⟩ => ⟨S1x16x16x128, .f32⟩
  | .local _ .vmem, ⟨7, _⟩ => ⟨S1x16x16x128, .f32⟩
  | .local _ .vmem, ⟨8, _⟩ => ⟨S1x16x128, .f32⟩
  | .local _ .vmem, ⟨9, _⟩ => ⟨S1x16x128, .f32⟩
  | .local _ .vmem, ⟨10, _⟩ => ⟨S16x128, .f32⟩
  | .local _ .vmem, ⟨11, _⟩ => ⟨S16x1, .f32⟩
  | .local _ .smem, ⟨0, _⟩ => ⟨S16x64, .i32⟩
  | .local _ .smem, ⟨1, _⟩ => ⟨S16, .i32⟩
  | _, _ => ⟨S16x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_v10 : Ref sig .tc := ⟨.hbm, 41, rfl⟩
abbrev main_v9 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 64], ![false, false]⟩

abbrev pre0 : Pipeline.Prefetch sig := ⟨2, ![main_v9.idx, main_arg1.idx], fun | 0 => main_v9.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def k0_off2 (i : grid0.Coords) : Fin 1 → Nat :=
  let arg0 : BitVec 32 := BitVec.ofNat 32 (i 0).val
  let v4 : Index := Scalar.indexCast arg0
  ![v4.toNat]
def k0_off3 (i : grid0.Coords) : Fin 1 → Nat :=
  let arg0 : BitVec 32 := BitVec.ofNat 32 (i 0).val
  let v43 : Index := Scalar.indexCast arg0
  ![v43.toNat]
def k0_cond3 (i : grid0.Coords) : BitVec 1 :=
  let arg1 : BitVec 32 := BitVec.ofNat 32 (i 1).val
  let c63_i32 : BitVec 32 := 63#32
  let v9 : BitVec 1 := Scalar.cmpi .eq arg1 c63_i32
  let v10 : BitVec 32 := Scalar.extui v9
  let c0_i32_2 : BitVec 32 := 0#32
  let v11 : BitVec 1 := Scalar.cmpi .ne v10 c0_i32_2
  v11

def cc0_transform_0 (i : grid0.Coords) : Fin 3 → Nat :=
  let arg0 : BitVec 32 := BitVec.ofNat 32 (i 0).val
  let arg1 : BitVec 32 := BitVec.ofNat 32 (i 1).val
  let c4096_i32 : BitVec 32 := 4096#32
  let v0 : BitVec 32 := Scalar.addi c4096_i32 arg0
  let c0_i32 : BitVec 32 := 0#32
  let c0_i32_0 : BitVec 32 := 0#32
  let c0_i32_1 : BitVec 32 := 0#32
  ![v0.toNat, c0_i32.toNat, c0_i32_0.toNat]

def cc0_transform_1 (k0_off1_inb : ∀ i : grid0.Coords, ∀ a, (k0_off1 i) a + S1x1.size a ≤ S16x64.size a) (numel1_S1x1 : S1x1.numel = 1) (pf : pre0.Contents (Elt F)) (i : grid0.Coords) : Fin 5 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S16x64) ![v0.toNat, v1.toNat] S1x1.size (k0_off1_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v2.toNat, c0_i32.toNat, c0_i32_0.toNat, c0_i32_1.toNat, c0_i32_2.toNat]

def cc0_transform_2 (k0_off1_inb : ∀ i : grid0.Coords, ∀ a, (k0_off1 i) a + S1x1.size a ≤ S16x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S16x64) ![v0.toNat, v1.toNat] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_3 (k0_off1_inb : ∀ i : grid0.Coords, ∀ a, (k0_off1 i) a + S1x1.size a ≤ S16x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S16x64) ![v0.toNat, v1.toNat] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c4096_i32 : BitVec 32 := 4096#32
  let v0 : BitVec 32 := Scalar.addi c4096_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x16x16x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x17x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DecodeIdeal.lean ====
variable {F : FTy → Type} [FloatOps F] [Named F]
def κ : String → Option EReal := fun
  | "mask" => some ⊥
  | _ => none
-- ==== DecodeReferenceIdeal.lean ====
abbrev S16x64 : Shape := ⟨2, ![16, 64]⟩
abbrev S16 : Shape := ⟨1, ![16]⟩
abbrev S4112x16x128 : Shape := ⟨3, ![4112, 16, 128]⟩
abbrev S512x16x16x16x8 : Shape := ⟨5, ![512, 16, 16, 16, 8]⟩
abbrev S512x16x17x128 : Shape := ⟨4, ![512, 16, 17, 128]⟩
abbrev S512x16x16x128 : Shape := ⟨4, ![512, 16, 16, 128]⟩
abbrev S16x16x128 : Shape := ⟨3, ![16, 16, 128]⟩
abbrev S_ : Shape := ⟨0, ![]⟩
abbrev S1024 : Shape := ⟨1, ![1024]⟩
abbrev S16x64x1 : Shape := ⟨3, ![16, 64, 1]⟩
abbrev S16x64x16x16x16x8 : Shape := ⟨6, ![16, 64, 16, 16, 16, 8]⟩
abbrev S16x1024x16x128 : Shape := ⟨4, ![16, 1024, 16, 128]⟩
abbrev S16x64x16x17x128 : Shape := ⟨5, ![16, 64, 16, 17, 128]⟩
abbrev S16x1024x17x128 : Shape := ⟨4, ![16, 1024, 17, 128]⟩
abbrev S16x64x16x16x128 : Shape := ⟨5, ![16, 64, 16, 16, 128]⟩
abbrev S16x1024x1x1 : Shape := ⟨4, ![16, 1024, 1, 1]⟩
abbrev S16x16x1024 : Shape := ⟨3, ![16, 16, 1024]⟩
abbrev S1x1x1024 : Shape := ⟨3, ![1, 1, 1024]⟩
abbrev S16x1x1 : Shape := ⟨3, ![16, 1, 1]⟩
abbrev S16x1x1024 : Shape := ⟨3, ![16, 1, 1024]⟩
abbrev S16x16 : Shape := ⟨2, ![16, 16]⟩
abbrev S16x16x1 : Shape := ⟨3, ![16, 16, 1]⟩
abbrev S4096x16x128 : Shape := ⟨3, ![4096, 16, 128]⟩

abbrev nBuf : Space → Nat
  | .hbm => 60
  | .vmem => 0
  | .smem => 0
  | _ => 0

abbrev bufTy : (tb : Table) → Fin (tcTables nBuf tb) → BufTy
  | .hbm, ⟨0, _⟩ => ⟨S16x64, .i32⟩
  | .hbm, ⟨1, _⟩ => ⟨S16, .i32⟩
  | .hbm, ⟨2, _⟩ => ⟨S4112x16x128, .f32⟩
  | .hbm, ⟨3, _⟩ => ⟨S512x16x16x16x8, .f32⟩
  | .hbm, ⟨4, _⟩ => ⟨S512x16x17x128, .f32⟩
  | .hbm, ⟨5, _⟩ => ⟨S512x16x16x128, .f32⟩
  | .hbm, ⟨6, _⟩ => ⟨S4112x16x128, .f32⟩
  | .hbm, ⟨7, _⟩ => ⟨S16x16x128, .f32⟩
  | .hbm, ⟨8, _⟩ => ⟨S_, .f32⟩
  | .hbm, ⟨9, _⟩ => ⟨S16x16x128, .f32⟩
  | .hbm, ⟨10, _⟩ => ⟨S16x16x128, .f32⟩
  | .hbm, ⟨11, _⟩ => ⟨S1024, .i32⟩
  | .hbm, ⟨12, _⟩ => ⟨S16x64x1, .i32⟩
  | .hbm, ⟨13, _⟩ => ⟨S16x64x16x16x16x8, .f32⟩
  | .hbm, ⟨14, _⟩ => ⟨S16x64x16x16x16x8, .f32⟩
  | .hbm, ⟨15, _⟩ => ⟨S16x1024x16x128, .f32⟩
  | .hbm, ⟨16, _⟩ => ⟨S16x64x1, .i32⟩
  | .hbm, ⟨17, _⟩ => ⟨S16x64x16x17x128, .f32⟩
  | .hbm, ⟨18, _⟩ => ⟨S16x1024x17x128, .f32⟩
  | .hbm, ⟨19, _⟩ => ⟨S16x64x1, .i32⟩
  | .hbm, ⟨20, _⟩ => ⟨S16x64x16x16x128, .f32⟩
  | .hbm, ⟨21, _⟩ => ⟨S16x64x16x16x128, .f32⟩
  | .hbm, ⟨22, _⟩ => ⟨S16x1024x16x128, .f32⟩
  | .hbm, ⟨23, _⟩ => ⟨S16x1024x1x1, .f32⟩
  | .hbm, ⟨24, _⟩ => ⟨S_, .f32⟩
  | .hbm, ⟨25, _⟩ => ⟨S16x1024x1x1, .f32⟩
  | .hbm, ⟨26, _⟩ => ⟨S16x1024x1x1, .i1⟩
  | .hbm, ⟨27, _⟩ => ⟨S16x1024x16x128, .f32⟩
  | .hbm, ⟨28, _⟩ => ⟨S16x1024x16x128, .i1⟩
  | .hbm, ⟨29, _⟩ => ⟨S16x1024x16x128, .f32⟩
  | .hbm, ⟨30, _⟩ => ⟨S16x16x1024, .f32⟩
  | .hbm, ⟨31, _⟩ => ⟨S1x1x1024, .i32⟩
  | .hbm, ⟨32, _⟩ => ⟨S16x1x1, .i32⟩
  | .hbm, ⟨33, _⟩ => ⟨S16x1x1024, .i32⟩
  | .hbm, ⟨34, _⟩ => ⟨S16x1x1024, .i32⟩
  | .hbm, ⟨35, _⟩ => ⟨S16x1x1024, .i1⟩
  | .hbm, ⟨36, _⟩ => ⟨S_, .f32⟩
  | .hbm, ⟨37, _⟩ => ⟨S_, .f32⟩
  | .hbm, ⟨38, _⟩ => ⟨S16x1x1024, .f32⟩
  | .hbm, ⟨39, _⟩ => ⟨S16x1x1024, .f32⟩
  | .hbm, ⟨40, _⟩ => ⟨S16x1x1024, .f32⟩
  | .hbm, ⟨41, _⟩ => ⟨S16x16x1024, .f32⟩
  | .hbm, ⟨42, _⟩ => ⟨S16x16x1024, .f32⟩
  | .hbm, ⟨43, _⟩ => ⟨S_, .f32⟩
  | .hbm, ⟨44, _⟩ => ⟨S16x16, .f32⟩
  | .hbm, ⟨45, _⟩ => ⟨S_, .f32⟩
  | .hbm, ⟨46, _⟩ => ⟨S16x16, .f32⟩
  | .hbm, ⟨47, _⟩ => ⟨S16x16, .f32⟩
  | .hbm, ⟨48, _⟩ => ⟨S16x16x1, .f32⟩
  | .hbm, ⟨49, _⟩ => ⟨S16x16x1024, .f32⟩
  | .hbm, ⟨50, _⟩ => ⟨S16x16x1024, .f32⟩
  | .hbm, ⟨51, _⟩ => ⟨S16x16x1024, .f32⟩
  | .hbm, ⟨52, _⟩ => ⟨S_, .f32⟩
  | .hbm, ⟨53, _⟩ => ⟨S16x16, .f32⟩
  | .hbm, ⟨54, _⟩ => ⟨S16x16x1, .f32⟩
  | .hbm, ⟨55, _⟩ => ⟨S16x16x1024, .f32⟩
  | .hbm, ⟨56, _⟩ => ⟨S16x16x1024, .f32⟩
  | .hbm, ⟨57, _⟩ => ⟨S16x16x128, .f32⟩
  | .hbm, ⟨58, _⟩ => ⟨S4096x16x128, .f32⟩
  | .hbm, ⟨59, _⟩ => ⟨S4112x16x128, .f32⟩
  | _, _ => ⟨S16x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_call2_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call3_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_cst_2 : Ref sig .tc := ⟨.hbm, 37, rfl⟩
abbrev main_call4_v0 : Ref sig .tc := ⟨.hbm, 38, rfl⟩
abbrev main_call4_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Merge.lean ====
abbrev S4112x16x128 : Shape := ⟨3, ![4112, 16, 128]⟩
abbrev S512x16x16x128 : Shape := ⟨4, ![512, 16, 16, 128]⟩
abbrev S4112 : Shape := ⟨1, ![4112]⟩
abbrev S8192 : Shape := ⟨1, ![8192]⟩
abbrev S512x16x17x128 : Shape := ⟨4, ![512, 16, 17, 128]⟩
abbrev S1x16x16x128 : Shape := ⟨4, ![1, 16, 16, 128]⟩
abbrev S1x16x128 : Shape := ⟨3, ![1, 16, 128]⟩
abbrev S1 : Shape := ⟨1, ![1]⟩
abbrev S1x16x17x128 : Shape := ⟨4, ![1, 16, 17, 128]⟩
abbrev S16x16x128 : Shape := ⟨3, ![16, 16, 128]⟩
abbrev S16x128 : Shape := ⟨2, ![16, 128]⟩
abbrev S16x1x128 : Shape := ⟨3, ![16, 1, 128]⟩
abbrev S1x16x1x128 : Shape := ⟨4, ![1, 16, 1, 128]⟩
abbrev S1x1x16x128 : Shape := ⟨4, ![1, 1, 16, 128]⟩
abbrev S1x128 : Shape := ⟨2, ![1, 128]⟩
abbrev S1x1x1x128 : Shape := ⟨4, ![1, 1, 1, 128]⟩

abbrev nBuf : Space → Nat
  | .hbm => 5
  | .vmem => 70
  | .smem => 2
  | _ => 0

abbrev bufTy : (tb : Table) → Fin (tcTables nBuf tb) → BufTy
  | .hbm, ⟨0, _⟩ => ⟨S4112x16x128, .f32⟩
  | .hbm, ⟨1, _⟩ => ⟨S4112x16x128, .f32⟩
  | .hbm, ⟨2, _⟩ => ⟨S512x16x16x128, .f32⟩
  | .hbm, ⟨3, _⟩ => ⟨S512x16x16x128, .f32⟩
  | .hbm, ⟨4, _⟩ => ⟨S512x16x17x128, .f32⟩
  | .local _ .vmem, ⟨0, _⟩ => ⟨S1x16x16x128, .f32⟩
  | .local _ .vmem, ⟨1, _⟩ => ⟨S1x16x16x128, .f32⟩
  | .local _ .vmem, ⟨2, _⟩ => ⟨S1x16x128, .f32⟩
  | .local _ .vmem, ⟨3, _⟩ => ⟨S1x16x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S1x16x128, .f32⟩
  | .local _ .vmem, ⟨9, _⟩ => ⟨S1x16x128, .f32⟩
  | .local _ .vmem, ⟨10, _⟩ => ⟨S1x16x128, .f32⟩
  | .local _ .vmem, ⟨11, _⟩ => ⟨S1x16x128, .f32⟩
  | .local _ .vmem, ⟨12, _⟩ => ⟨S1x16x128, .f32⟩
  | .local _ .vmem, ⟨13, _⟩ => ⟨S1x16x128, .f32⟩
  | .local _ .vmem, ⟨14, _⟩ => ⟨S1x16x128, .f32⟩
  | .local _ .vmem, ⟨15, _⟩ => ⟨S1x16x128, .f32⟩
  | .local _ .vmem, ⟨16, _⟩ => ⟨S1x16x128, .f32⟩
  | .local _ .vmem, ⟨17, _⟩ => ⟨S1x16x128, .f32⟩
  | .local _ .vmem, ⟨18, _⟩ => ⟨S1x16x128, .f32⟩
  | .local _ .vmem, ⟨19, _⟩ => ⟨S1x16x128, .f32⟩
  | .local _ .vmem, ⟨20, _⟩ => ⟨S1x16x128, .f32⟩
  | .local _ .vmem, ⟨21, _⟩ => ⟨S1x16x128, .f32⟩
  | .local _ .vmem, ⟨22, _⟩ => ⟨S1x16x128, .f32⟩
  | .local _ .vmem, ⟨23, _⟩ => ⟨S1x16x128, .f32⟩
  | .local _ .vmem, ⟨24, _⟩ => ⟨S1x16x128, .f32⟩
  | .local _ .vmem, ⟨25, _⟩ => ⟨S1x16x128, .f32⟩
  | .local _ .vmem, ⟨26, _⟩ => ⟨S1x16x128, .f32⟩
  | .local _ .vmem, ⟨27, _⟩ => ⟨S1x16x128, .f32⟩
  | .local _ .vmem, ⟨28, _⟩ => ⟨S1x16x128, .f32⟩
  | .local _ .vmem, ⟨29, _⟩ => ⟨S1x16x128, .f32⟩
  | .local _ .vmem, ⟨30, _⟩ => ⟨S1x16x128, .f32⟩
  | .local _ .vmem, ⟨31, _⟩ => ⟨S1x16x128, .f32⟩
  | .local _ .vmem, ⟨32, _⟩ => ⟨S1x16x128, .f32⟩
  | .local _ .vmem, ⟨33, _⟩ => ⟨S1x16x128, .f32⟩
  | .local _ .vmem, ⟨34, _⟩ => ⟨S1x16x128, .f32⟩
  | .local _ .vmem, ⟨35, _⟩ => ⟨S1x16x128, .f32⟩
  | .local _ .vmem, ⟨36, _⟩ => ⟨S1x16x128, .f32⟩
  | .local _ .vmem, ⟨37, _⟩ => ⟨S1x16x128, .f32⟩
  | .local _ .vmem, ⟨38, _⟩ => ⟨S1x16x128, .f32⟩
  | .local _ .vmem, ⟨39, _⟩ => ⟨S1x16x128, .f32⟩
  | .local _ .vmem, ⟨40, _⟩ => ⟨S1x16x128, .f32⟩
  | .local _ .vmem, ⟨41, _⟩ => ⟨S1x16x128, .f32⟩
  | .local _ .vmem, ⟨42, _⟩ => ⟨S1x16x128, .f32⟩
  | .local _ .vmem, ⟨43, _⟩ => ⟨S1x16x128, .f32⟩
  | .local _ .vmem, ⟨44, _⟩ => ⟨S1x16x128, .f32⟩
  | .local _ .vmem, ⟨45, _⟩ => ⟨S1x16x128, .f32⟩
  | .local _ .vmem, ⟨46, _⟩ => ⟨S1x16x128, .f32⟩
  | .local _ .vmem, ⟨47, _⟩ => ⟨S1x16x128, .f32⟩
  | .local _ .vmem, ⟨48, _⟩ => ⟨S1x16x128, .f32⟩
  | .local _ .vmem, ⟨49, _⟩ => ⟨S1x16x128, .f32⟩
  | .local _ .vmem, ⟨50, _⟩ => ⟨S1x16x128, .f32⟩
  | .local _ .vmem, ⟨51, _⟩ => ⟨S1x16x128, .f32⟩
  | .local _ .vmem, ⟨52, _⟩ => ⟨S1x16x128, .f32⟩
  | .local _ .vmem, ⟨53, _⟩ => ⟨S1x16x128, .f32⟩
  | .local _ .vmem, ⟨54, _⟩ => ⟨S1x16x128, .f32⟩
  | .local _ .vmem, ⟨55, _⟩ => ⟨S1x16x128, .f32⟩
  | .local _ .vmem, ⟨56, _⟩ => ⟨S1x16x128, .f32⟩
  | .local _ .vmem, ⟨57, _⟩ => ⟨S1x16x128, .f32⟩
  | .local _ .vmem, ⟨58, _⟩ => ⟨S1x16x128, .f32⟩
  | .local _ .vmem, ⟨59, _⟩ => ⟨S1x16x128, .f32⟩
  | .local _ .vmem, ⟨60, _⟩ => ⟨S1x16x128, .f32⟩
  | .local _ .vmem, ⟨61, _⟩ => ⟨S1x16x128, .f32⟩
  | .local _ .vmem, ⟨62, _⟩ => ⟨S1x16x128, .f32⟩
  | .local _ .vmem, ⟨63, _⟩ => ⟨S1x16x128, .f32⟩
  | .local _ .vmem, ⟨64, _⟩ => ⟨S1x16x128, .f32⟩
  | .local _ .vmem, ⟨65, _⟩ => ⟨S1x16x128, .f32⟩
  | .local _ .vmem, ⟨66, _⟩ => ⟨S1x16x16x128, .f32⟩
  | .local _ .vmem, ⟨67, _⟩ => ⟨S1x16x16x128, .f32⟩
  | .local _ .vmem, ⟨68, _⟩ => ⟨S1x16x17x128, .f32⟩
  | .local _ .vmem, ⟨69, _⟩ => ⟨S1x16x17x128, .f32⟩
  | .local _ .smem, ⟨0, _⟩ => ⟨S4112, .i32⟩
  | .local _ .smem, ⟨1, _⟩ => ⟨S8192, .i32⟩
  | _, _ => ⟨S4112x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69

abbrev nD : Nat := 1
abbrev τ : Topo := Topo.v7x

variable {F : FTy → Type} [FloatOps F]

abbrev grid0 : Pipeline.Grid := ⟨1, ![512], ![false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let v1 : BitVec 32 := Scalar.addi v0 c0_i32
  let v2 : Index := Scalar.indexCast v1
  ![v2.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 1 (Rect.unit (s := S8192) ![v2.toNat] S1.size (k0_off1_inb i 0)) numel1_S1
  let c0_i32_0 : BitVec 32 := 0#32
  let v4 : BitVec 32 := Scalar.maxsi v3 c0_i32_0
  let c0_i32_1 : BitVec 32 := 0#32
  let c0_i32_2 : BitVec 32 := 0#32
  let c0_i32_3 : BitVec 32 := 0#32
  ![v4.toNat, c0_i32_1.toNat, c0_i32_2.toNat]

def cc0_transform_2 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 1 (Rect.unit (s := S8192) ![v2.toNat] S1.size (k0_off1_inb i 1)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_3 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 1 (Rect.unit (s := S8192) ![v2.toNat] S1.size (k0_off1_inb i 2)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_4 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 1 (Rect.unit (s := S8192) ![v2.toNat] S1.size (k0_off1_inb i 3)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_5 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 1 (Rect.unit (s := S8192) ![v2.toNat] S1.size (k0_off1_inb i 4)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_6 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 1 (Rect.unit (s := S8192) ![v2.toNat] S1.size (k0_off1_inb i 5)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_7 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 1 (Rect.unit (s := S8192) ![v2.toNat] S1.size (k0_off1_inb i 6)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_8 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 1 (Rect.unit (s := S8192) ![v2.toNat] S1.size (k0_off1_inb i 7)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_9 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 1 (Rect.unit (s := S8192) ![v2.toNat] S1.size (k0_off1_inb i 8)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_10 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 1 (Rect.unit (s := S8192) ![v2.toNat] S1.size (k0_off1_inb i 9)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_11 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 1 (Rect.unit (s := S8192) ![v2.toNat] S1.size (k0_off1_inb i 10)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_12 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 1 (Rect.unit (s := S8192) ![v2.toNat] S1.size (k0_off1_inb i 11)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_13 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 1 (Rect.unit (s := S8192) ![v2.toNat] S1.size (k0_off1_inb i 12)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_14 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 1 (Rect.unit (s := S8192) ![v2.toNat] S1.size (k0_off1_inb i 13)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_15 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 1 (Rect.unit (s := S8192) ![v2.toNat] S1.size (k0_off1_inb i 14)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_16 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 1 (Rect.unit (s := S8192) ![v2.toNat] S1.size (k0_off1_inb i 15)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_17 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 1 (Rect.unit (s := S8192) ![v2.toNat] S1.size (k0_off1_inb i 0)) numel1_S1
  let c0_i32_0 : BitVec 32 := 0#32
  let v4 : BitVec 32 := Scalar.maxsi v3 c0_i32_0
  let c0_i32_1 : BitVec 32 := 0#32
  let c0_i32_2 : BitVec 32 := 0#32
  let c0_i32_3 : BitVec 32 := 0#32
  ![v4.toNat, c0_i32_1.toNat, c0_i32_2.toNat]

def cc0_transform_18 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 1 (Rect.unit (s := S8192) ![v2.toNat] S1.size (k0_off1_inb i 1)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_19 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 1 (Rect.unit (s := S8192) ![v2.toNat] S1.size (k0_off1_inb i 2)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_20 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 1 (Rect.unit (s := S8192) ![v2.toNat] S1.size (k0_off1_inb i 3)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_21 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 1 (Rect.unit (s := S8192) ![v2.toNat] S1.size (k0_off1_inb i 4)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_22 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 1 (Rect.unit (s := S8192) ![v2.toNat] S1.size (k0_off1_inb i 5)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_23 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 1 (Rect.unit (s := S8192) ![v2.toNat] S1.size (k0_off1_inb i 6)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_24 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 1 (Rect.unit (s := S8192) ![v2.toNat] S1.size (k0_off1_inb i 7)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_25 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 1 (Rect.unit (s := S8192) ![v2.toNat] S1.size (k0_off1_inb i 8)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_26 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 1 (Rect.unit (s := S8192) ![v2.toNat] S1.size (k0_off1_inb i 9)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_27 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 1 (Rect.unit (s := S8192) ![v2.toNat] S1.size (k0_off1_inb i 10)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_28 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 1 (Rect.unit (s := S8192) ![v2.toNat] S1.size (k0_off1_inb i 11)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_29 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 1 (Rect.unit (s := S8192) ![v2.toNat] S1.size (k0_off1_inb i 12)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_30 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 1 (Rect.unit (s := S8192) ![v2.toNat] S1.size (k0_off1_inb i 13)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_31 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 1 (Rect.unit (s := S8192) ![v2.toNat] S1.size (k0_off1_inb i 14)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_32 (k0_off1_inb : ∀ i : grid0.Coords, ∀ (r : Fin 16), ∀ a, (k0_off1 i (BitVec.ofNat 32 r.val)) a + S1.size a ≤ S8192.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 1 (Rect.unit (s := S8192) ![v2.toNat] S1.size (k0_off1_inb i 15)) numel1_S1
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v4.toNat, c0_i32_0.toNat, c0_i32_1.toNat]

def cc0_transform_33 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_34 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x16x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x16x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x16x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x16x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x16x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x16x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x16x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x16x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x16x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x16x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x16x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x16x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x16x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x16x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x16x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x16x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x16x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x16x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x16x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x16x16x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x16x17x128 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]
-- ==== MergeReferenceIdeal.lean ====
abbrev S4112x16x128 : Shape := ⟨3, ![4112, 16, 128]⟩
abbrev S512x16x16x128 : Shape := ⟨4, ![512, 16, 16, 128]⟩
abbrev S4112 : Shape := ⟨1, ![4112]⟩
abbrev S8192 : Shape := ⟨1, ![8192]⟩
abbrev S512x16 : Shape := ⟨2, ![512, 16]⟩
abbrev S_ : Shape := ⟨0, ![]⟩
abbrev S8192x1 : Shape := ⟨2, ![8192, 1]⟩
abbrev S8192x16x128 : Shape := ⟨3, ![8192, 16, 128]⟩
abbrev S512x1x16x1 : Shape := ⟨4, ![512, 1, 16, 1]⟩
abbrev S512x16x1x1 : Shape := ⟨4, ![512, 16, 1, 1]⟩
abbrev S512x16x1x128 : Shape := ⟨4, ![512, 16, 1, 128]⟩
abbrev S512x16x17x128 : Shape := ⟨4, ![512, 16, 17, 128]⟩

abbrev nBuf : Space → Nat
  | .hbm => 30
  | .vmem => 0
  | .smem => 0
  | _ => 0

abbrev bufTy : (tb : Table) → Fin (tcTables nBuf tb) → BufTy
  | .hbm, ⟨0, _⟩ => ⟨S4112x16x128, .f32⟩
  | .hbm, ⟨1, _⟩ => ⟨S4112x16x128, .f32⟩
  | .hbm, ⟨2, _⟩ => ⟨S512x16x16x128, .f32⟩
  | .hbm, ⟨3, _⟩ => ⟨S4112, .i32⟩
  | .hbm, ⟨4, _⟩ => ⟨S8192, .i32⟩
  | .hbm, ⟨5, _⟩ => ⟨S512x16, .i32⟩
  | .hbm, ⟨6, _⟩ => ⟨S_, .i32⟩
  | .hbm, ⟨7, _⟩ => ⟨S512x16, .i32⟩
  | .hbm, ⟨8, _⟩ => ⟨S512x16, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x16x128, .f32⟩
  | .hbm, ⟨14, _⟩ => ⟨S512x16x16x128, .f32⟩
  | .hbm, ⟨15, _⟩ => ⟨S8192x1, .i32⟩
  | .hbm, ⟨16, _⟩ => ⟨S8192x16x128, .f32⟩
  | .hbm, ⟨17, _⟩ => ⟨S512x16x16x128, .f32⟩
  | .hbm, ⟨18, _⟩ => ⟨S512x16x16x128, .f32⟩
  | .hbm, ⟨19, _⟩ => ⟨S_, .f32⟩
  | .hbm, ⟨20, _⟩ => ⟨S_, .f32⟩
  | .hbm, ⟨21, _⟩ => ⟨S512x16, .f32⟩
  | .hbm, ⟨22, _⟩ => ⟨S512x16, .f32⟩
  | .hbm, ⟨23, _⟩ => ⟨S512x16, .f32⟩
  | .hbm, ⟨24, _⟩ => ⟨S512x1x16x1, .i1⟩
  | .hbm, ⟨25, _⟩ => ⟨S512x16x16x128, .i1⟩
  | .hbm, ⟨26, _⟩ => ⟨S512x16x16x128, .f32⟩
  | .hbm, ⟨27, _⟩ => ⟨S512x16x1x1, .f32⟩
  | .hbm, ⟨28, _⟩ => ⟨S512x16x1x128, .f32⟩
  | .hbm, ⟨29, _⟩ => ⟨S512x16x17x128, .f32⟩
  | _, _ => ⟨S4112x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_cst_1 : Ref sig .tc := ⟨.hbm, 20, rfl⟩
abbrev main_call2_v0 : Ref sig .tc := ⟨.hbm, 21, rfl⟩
abbrev main_call2_v1 : Ref sig .tc := ⟨.hbm, 22, rfl⟩
abbrev main_v10 : Ref sig .tc := ⟨.hbm, 23, rfl⟩
abbrev main_v11 : Ref sig .tc := ⟨.hbm, 24, rfl⟩
abbrev main_call3_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== Owner.lean ====
abbrev S4112 : Shape := ⟨1, ![4112]⟩
abbrev S8192 : Shape := ⟨1, ![8192]⟩
abbrev S1 : Shape := ⟨1, ![1]⟩

abbrev nBuf : Space → Nat
  | .hbm => 1
  | .vmem => 0
  | .smem => 2
  | _ => 0

abbrev bufTy : (tb : Table) → Fin (tcTables nBuf tb) → BufTy
  | .hbm, ⟨0, _⟩ => ⟨S8192, .i32⟩
  | .local _ .smem, ⟨0, _⟩ => ⟨S4112, .i32⟩
  | .local _ .smem, ⟨1, _⟩ => ⟨S8192, .i32⟩
  | _, _ => ⟨S8192, .i32⟩

abbrev bufScoped : (cs : CoreSpace) → Fin (nBuf (.core cs)) → Bool
  | .smem, ⟨1, _⟩ => true
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_v0 : Ref sig .tc := ⟨.hbm, 0, rfl⟩
abbrev main_arg0 : Ref sig .tc := ⟨.smem, 0, rfl⟩
abbrev cc0_stg0_0 : Ref sig .tc := ⟨.smem, 1, rfl⟩
abbrev cc0_sem0_0 : DmaSem sig := 0

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8192_i32 : BitVec 32 := 8192#32
  let v0 : BitVec 32 := Scalar.addi c0_i32 c8192_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg3 : BitVec 32 := Scf.iv c0_i32 c1_i32 k0_t1
  let v2 : Index := Scalar.indexCast arg3
  ![v2.toNat]
@[reducible] def k0_t2_loop : Scf.Loop 32 :=
  let c0_i32_1 : BitVec 32 := 0#32
  let c4112_i32 : BitVec 32 := 4112#32
  let v1 : BitVec 32 := Scalar.addi c0_i32_1 c4112_i32
  let c1_i32_2 : BitVec 32 := 1#32
  ⟨c0_i32_1, v1, c1_i32_2⟩
def k0_off2 (k0_t2 : Fin k0_t2_loop.trips) : Fin 1 → Nat :=
  let c0_i32_1 : BitVec 32 := 0#32
  let c1_i32_2 : BitVec 32 := 1#32
  let arg3 : BitVec 32 := Scf.iv c0_i32_1 c1_i32_2 k0_t2
  let v2 : Index := Scalar.indexCast arg3
  ![v2.toNat]
def k0_off3 (v3 : BitVec 32) : Fin 1 → Nat :=
  let v4 : Index := Scalar.indexCast v3
  ![v4.toNat]

def k0_chk1 (v3 : BitVec 32) : Prop :=
  (∀ a, (k0_off3 v3) a + S1.size a ≤ S8192.size a)
theorem k0_off3_inb : ∀ (v3 : BitVec 32) (k0_hw1 : k0_chk1 v3), ∀ a, (k0_off3 v3) a + S1.size a ≤ S8192.size a := fun v3 k0_hw1 => k0_hw1

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S8192 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== OwnerReferenceIdeal.lean ====
abbrev S4112 : Shape := ⟨1, ![4112]⟩
abbrev S_ : Shape := ⟨0, ![]⟩
abbrev S8192 : Shape := ⟨1, ![8192]⟩
abbrev S4112x1 : Shape := ⟨2, ![4112, 1]⟩

abbrev nBuf : Space → Nat
  | .hbm => 13
  | .vmem => 0
  | .smem => 0
  | _ => 0

abbrev bufTy : (tb : Table) → Fin (tcTables nBuf tb) → BufTy
  | .hbm, ⟨0, _⟩ => ⟨S4112, .i32⟩
  | .hbm, ⟨1, _⟩ => ⟨S_, .i32⟩
  | .hbm, ⟨2, _⟩ => ⟨S8192, .i32⟩
  | .hbm, ⟨3, _⟩ => ⟨S4112, .i32⟩
  | .hbm, ⟨4, _⟩ => ⟨S_, .i32⟩
  | .hbm, ⟨5, _⟩ => ⟨S4112, .i32⟩
  | .hbm, ⟨6, _⟩ => ⟨S4112, .i1⟩
  | .hbm, ⟨7, _⟩ => ⟨S_, .i32⟩
  | .hbm, ⟨8, _⟩ => ⟨S4112, .i32⟩
  | .hbm, ⟨9, _⟩ => ⟨S4112, .i32⟩
  | .hbm, ⟨10, _⟩ => ⟨S4112, .i32⟩
  | .hbm, ⟨11, _⟩ => ⟨S4112x1, .i32⟩
  | .hbm, ⟨12, _⟩ => ⟨S8192, .i32⟩
  | _, _ => ⟨S4112, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.DecodeIdealFrame.lean ====
/-
  The frame of the decode program `DecodeIdeal`, for every contents of its two prefetched tables whose blocks lie inside the arrays
  (`Gen.Ok`): what the output block and the two running sums hold at every grid point, the body's obligation at every
  point, the run, and that the seven arguments end unchanged. The run of the body in each of its six cases is generated
  (`Gen.kernelRun0_A` … `Gen.kernelRun0_F`); this module follows the generated one, its six equations of `outsAt0`
  proved by rewriting.
-/
module

public import proofs.«01_k».proof.Proof.Gen.DecodeIdeal.Frame.RunF
public import Idealize.ShloMosaic.Lib.Claim

@[expose] public section

set_option maxRecDepth 16384

noncomputable section

namespace Cert.DecodeIdeal.Attention

open Cert.DecodeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (arg4 : Memref sig .tc .vmem S1x16x128 .f32) (harg4 : arg4.IsWhole) (arg5 : Memref sig .tc .vmem S1x16x16x16x8 .f32) (harg5 : arg5.IsWhole) (arg6 : Memref sig .tc .vmem S1x16x17x128 .f32) (harg6 : arg6.IsWhole) (arg7 : Memref sig .tc .vmem S1x16x16x128 .f32) (harg7 : arg7.IsWhole) (arg9 : Memref sig .tc .vmem S1x16x128 .f32) (harg9 : arg9.IsWhole) (arg10 : Memref sig .tc .vmem S16x128 .f32) (harg10 : arg10.IsWhole) (arg11 : Memref sig .tc .vmem S16x1 .f32) (harg11 : arg11.IsWhole) (hc0 : cond0_0 i) (hc2 : ¬cond0_2 i) (x0 : Vec F S1x16x128 .f32) (x1 : Vec F S1x16x16x16x8 .f32) (x2 : Vec F S1x16x17x128 .f32) (x3 : Vec F S1x16x16x128 .f32) (xt0 : TbBuf0 (F := F) c tbM0_0) (xt1 : TbBuf0 (F := F) c tbM0_1) (hc1 : cond0_1 i (tbM0_1.view.readAt (Elt F) (Rect.unit (s := S16) (k0_off2 i) S1.size (k0_off2_inb i)).toLoadRect xt1 (Shape.Idx.first (numel1_S1.symm ▸ Nat.one_pos))))

/-- Case A stores nothing into output 4 (the window is idle at its points and not written back there):
    no pieces — a placeholder (junk read back) that nothing consults, since at these points the window is neither
    written back nor read at the next point (Lib/Pipeline.lean "Idle points"). -/
def out0_A_4 : Vec F S1x16x128 .f32 :=
  VO0_4.read (Elt F) (VO0_4.writes (Elt F) VO0_4.junk (kernelRun0_A c i arg4 harg4 arg5 harg5 arg6 harg6 arg7 harg7 arg9 harg9 arg10 harg10 arg11 harg11 hc0 hc2 x0 x1 x2 x3 xt0 xt1 hc1).1)

/-- Case A's pieces for scratch `arg10`, which the kernel carries between points, cover it: 2 pieces of `S16x128` tiling it (Lib/Ring.lean `Piece.tiledL`). -/
theorem scover0_A_0 (y : S16x128.Idx) :
    ∃ pc ∈ (kernelRun0_A c i arg4 harg4 arg5 harg5 arg6 harg6 arg7 harg7 arg9 harg9 arg10 harg10 arg11 harg11 hc0 hc2 x0 x1 x2 x3 xt0 xt1 hc1).2.1, y ∈ pc.1.set :=
  View.cover_of_tiledL (kernelRun0_A c i arg4 harg4 arg5 harg5 arg6 harg6 arg7 harg7 arg9 harg9 arg10 harg10 arg11 harg11 hc0 hc2 x0 x1 x2 x3 xt0 xt1 hc1).2.1 S16x128.size (by sl_kernel_rfl) y

/-- What case A leaves in scratch `arg10`: its pieces read back over junk. -/
def sout0_A_0 : Vec F S16x128 .f32 :=
  VS0_0.read (Elt F) (VS0_0.writes (Elt F) VS0_0.junk (kernelRun0_A c i arg4 harg4 arg5 harg5 arg6 harg6 arg7 harg7 arg9 harg9 arg10 harg10 arg11 harg11 hc0 hc2 x0 x1 x2 x3 xt0 xt1 hc1).2.1)

/-- Case A's pieces for scratch `arg11`, which the kernel carries between points, cover it: 2 pieces of `S16x1` tiling it (Lib/Ring.lean `Piece.tiledL`). -/
theorem scover0_A_1 (y : S16x1.Idx) :
    ∃ pc ∈ (kernelRun0_A c i arg4 harg4 arg5 harg5 arg6 harg6 arg7 harg7 arg9 harg9 arg10 harg10 arg11 harg11 hc0 hc2 x0 x1 x2 x3 xt0 xt1 hc1).2.2.1, y ∈ pc.1.set :=
  View.cover_of_tiledL (kernelRun0_A c i arg4 harg4 arg5 harg5 arg6 harg6 arg7 harg7 arg9 harg9 arg10 harg10 arg11 harg11 hc0 hc2 x0 x1 x2 x3 xt0 xt1 hc1).2.2.1 S16x1.size (by sl_kernel_rfl) y

/-- What case A leaves in scratch `arg11`: its pieces read back over junk. -/
def sout0_A_1 : Vec F S16x1 .f32 :=
  VS0_1.read (Elt F) (VS0_1.writes (Elt F) VS0_1.junk (kernelRun0_A c i arg4 harg4 arg5 harg5 arg6 harg6 arg7 harg7 arg9 harg9 arg10 harg10 arg11 harg11 hc0 hc2 x0 x1 x2 x3 xt0 xt1 hc1).2.2.1)

end

section
variable (c : Dev nD) (i : grid0.Coords) (arg4 : Memref sig .tc .vmem S1x16x128 .f32) (harg4 : arg4.IsWhole) (arg5 : Memref sig .tc .vmem S1x16x16x16x8 .f32) (harg5 : arg5.IsWhole) (arg6 : Memref sig .tc .vmem S1x16x17x128 .f32) (harg6 : arg6.IsWhole) (arg7 : Memref sig .tc .vmem S1x16x16x128 .f32) (harg7 : arg7.IsWhole) (arg9 : Memref sig .tc .vmem S1x16x128 .f32) (harg9 : arg9.IsWhole) (arg10 : Memref sig .tc .vmem S16x128 .f32) (harg10 : arg10.IsWhole) (arg11 : Memref sig .tc .vmem S16x1 .f32) (harg11 : arg11.IsWhole) (hc0 : cond0_0 i) (hc2 : ¬cond0_2 i) (x0 : Vec F S1x16x128 .f32) (x1 : Vec F S1x16x16x16x8 .f32) (x2 : Vec F S1x16x17x128 .f32) (x3 : Vec F S1x16x16x128 .f32) (xt0 : TbBuf0 (F := F) c tbM0_0) (xt1 : TbBuf0 (F := F) c tbM0_1) (hc1 : ¬cond0_1 i (tbM0_1.view.readAt (Elt F) (Rect.unit (s := S16) (k0_off2 i) S1.size (k0_off2_inb i)).toLoadRect xt1 (Shape.Idx.first (numel1_S1.symm ▸ Nat.one_pos))))

/-- Case B stores nothing into output 4 (the window is idle at its points and not written back there):
    no pieces — a placeholder (junk read back) that nothing consults, since at these points the window is neither
    written back nor read at the next point (Lib/Pipeline.lean "Idle points"). -/
def out0_B_4 : Vec F S1x16x128 .f32 :=
  VO0_4.read (Elt F) (VO0_4.writes (Elt F) VO0_4.junk (kernelRun0_B c i arg4 harg4 arg5 harg5 arg6 harg6 arg7 harg7 arg9 harg9 arg10 harg10 arg11 harg11 hc0 hc2 x0 x1 x2 x3 xt0 xt1 hc1).1)

/-- Case B's pieces for scratch `arg10`, which the kernel carries between points, cover it: 1 piece of `S16x128` tiling it (Lib/Ring.lean `Piece.tiledL`). -/
theorem scover0_B_0 (y : S16x128.Idx) :
    ∃ pc ∈ (kernelRun0_B c i arg4 harg4 arg5 harg5 arg6 harg6 arg7 harg7 arg9 harg9 arg10 harg10 arg11 harg11 hc0 hc2 x0 x1 x2 x3 xt0 xt1 hc1).2.1, y ∈ pc.1.set :=
  View.cover_of_tiledL (kernelRun0_B c i arg4 harg4 arg5 harg5 arg6 harg6 arg7 harg7 arg9 harg9 arg10 harg10 arg11 harg11 hc0 hc2 x0 x1 x2 x3 xt0 xt1 hc1).2.1 S16x128.size (by sl_kernel_rfl) y

/-- What case B leaves in scratch `arg10`: its pieces read back over junk. -/
def sout0_B_0 : Vec F S16x128 .f32 :=
  VS0_0.read (Elt F) (VS0_0.writes (Elt F) VS0_0.junk (kernelRun0_B c i arg4 harg4 arg5 harg5 arg6 harg6 arg7 harg7 arg9 harg9 arg10 harg10 arg11 harg11 hc0 hc2 x0 x1 x2 x3 xt0 xt1 hc1).2.1)

/-- Case B's pieces for scratch `arg11`, which the kernel carries between points, cover it: 1 piece of `S16x1` tiling it (Lib/Ring.lean `Piece.tiledL`). -/
theorem scover0_B_1 (y : S16x1.Idx) :
    ∃ pc ∈ (kernelRun0_B c i arg4 harg4 arg5 harg5 arg6 harg6 arg7 harg7 arg9 harg9 arg10 harg10 arg11 harg11 hc0 hc2 x0 x1 x2 x3 xt0 xt1 hc1).2.2.1, y ∈ pc.1.set :=
  View.cover_of_tiledL (kernelRun0_B c i arg4 harg4 arg5 harg5 arg6 harg6 arg7 harg7 arg9 harg9 arg10 harg10 arg11 harg11 hc0 hc2 x0 x1 x2 x3 xt0 xt1 hc1).2.2.1 S16x1.size (by sl_kernel_rfl) y

/-- What case B leaves in scratch `arg11`: its pieces read back over junk. -/
def sout0_B_1 : Vec F S16x1 .f32 :=
  VS0_1.read (Elt F) (VS0_1.writes (Elt F) VS0_1.junk (kernelRun0_B c i arg4 harg4 arg5 harg5 arg6 harg6 arg7 harg7 arg9 harg9 arg10 harg10 arg11 harg11 hc0 hc2 x0 x1 x2 x3 xt0 xt1 hc1).2.2.1)

end

section
variable (c : Dev nD) (i : grid0.Coords) (arg4 : Memref sig .tc .vmem S1x16x128 .f32) (harg4 : arg4.IsWhole) (arg5 : Memref sig .tc .vmem S1x16x16x16x8 .f32) (harg5 : arg5.IsWhole) (arg6 : Memref sig .tc .vmem S1x16x17x128 .f32) (harg6 : arg6.IsWhole) (arg7 : Memref sig .tc .vmem S1x16x16x128 .f32) (harg7 : arg7.IsWhole) (arg9 : Memref sig .tc .vmem S1x16x128 .f32) (harg9 : arg9.IsWhole) (arg10 : Memref sig .tc .vmem S16x128 .f32) (harg10 : arg10.IsWhole) (arg11 : Memref sig .tc .vmem S16x1 .f32) (harg11 : arg11.IsWhole) (hc0 : ¬cond0_0 i) (hc2 : ¬cond0_2 i) (x0 : Vec F S1x16x128 .f32) (x1 : Vec F S1x16x16x16x8 .f32) (x2 : Vec F S1x16x17x128 .f32) (x3 : Vec F S1x16x16x128 .f32) (xt0 : TbBuf0 (F := F) c tbM0_0) (xt1 : TbBuf0 (F := F) c tbM0_1) (xs0 : Vec F S16x128 .f32) (xs1 : Vec F S16x1 .f32) (hc1 : cond0_1 i (tbM0_1.view.readAt (Elt F) (Rect.unit (s := S16) (k0_off2 i) S1.size (k0_off2_inb i)).toLoadRect xt1 (Shape.Idx.first (numel1_S1.symm ▸ Nat.one_pos))))

/-- Case C stores nothing into output 4 (the window is idle at its points and not written back there):
    no pieces — a placeholder (junk read back) that nothing consults, since at these points the window is neither
    written back nor read at the next point (Lib/Pipeline.lean "Idle points"). -/
def out0_C_4 : Vec F S1x16x128 .f32 :=
  VO0_4.read (Elt F) (VO0_4.writes (Elt F) VO0_4.junk (kernelRun0_C c i arg4 harg4 arg5 harg5 arg6 harg6 arg7 harg7 arg9 harg9 arg10 harg10 arg11 harg11 hc0 hc2 x0 x1 x2 x3 xt0 xt1 xs0 xs1 hc1).1)

/-- Case C's pieces for scratch `arg10`, which the kernel carries between points, cover it: 1 piece of `S16x128` tiling it (Lib/Ring.lean `Piece.tiledL`). -/
theorem scover0_C_0 (y : S16x128.Idx) :
    ∃ pc ∈ (kernelRun0_C c i arg4 harg4 arg5 harg5 arg6 harg6 arg7 harg7 arg9 harg9 arg10 harg10 arg11 harg11 hc0 hc2 x0 x1 x2 x3 xt0 xt1 xs0 xs1 hc1).2.1, y ∈ pc.1.set :=
  View.cover_of_tiledL (kernelRun0_C c i arg4 harg4 arg5 harg5 arg6 harg6 arg7 harg7 arg9 harg9 arg10 harg10 arg11 harg11 hc0 hc2 x0 x1 x2 x3 xt0 xt1 xs0 xs1 hc1).2.1 S16x128.size (by sl_kernel_rfl) y

/-- What case C leaves in scratch `arg10`: its pieces read back over junk. -/
def sout0_C_0 : Vec F S16x128 .f32 :=
  VS0_0.read (Elt F) (VS0_0.writes (Elt F) VS0_0.junk (kernelRun0_C c i arg4 harg4 arg5 harg5 arg6 harg6 arg7 harg7 arg9 harg9 arg10 harg10 arg11 harg11 hc0 hc2 x0 x1 x2 x3 xt0 xt1 xs0 xs1 hc1).2.1)

/-- Case C's pieces for scratch `arg11`, which the kernel carries between points, cover it: 1 piece of `S16x1` tiling it (Lib/Ring.lean `Piece.tiledL`). -/
theorem scover0_C_1 (y : S16x1.Idx) :
    ∃ pc ∈ (kernelRun0_C c i arg4 harg4 arg5 harg5 arg6 harg6 arg7 harg7 arg9 harg9 arg10 harg10 arg11 harg11 hc0 hc2 x0 x1 x2 x3 xt0 xt1 xs0 xs1 hc1).2.2.1, y ∈ pc.1.set :=
  View.cover_of_tiledL (kernelRun0_C c i arg4 harg4 arg5 harg5 arg6 harg6 arg7 harg7 arg9 harg9 arg10 harg10 arg11 harg11 hc0 hc2 x0 x1 x2 x3 xt0 xt1 xs0 xs1 hc1).2.2.1 S16x1.size (by sl_kernel_rfl) y

/-- What case C leaves in scratch `arg11`: its pieces read back over junk. -/
def sout0_C_1 : Vec F S16x1 .f32 :=
  VS0_1.read (Elt F) (VS0_1.writes (Elt F) VS0_1.junk (kernelRun0_C c i arg4 harg4 arg5 harg5 arg6 harg6 arg7 harg7 arg9 harg9 arg10 harg10 arg11 harg11 hc0 hc2 x0 x1 x2 x3 xt0 xt1 xs0 xs1 hc1).2.2.1)

end

section
variable (c : Dev nD) (i : grid0.Coords) (arg4 : Memref sig .tc .vmem S1x16x128 .f32) (harg4 : arg4.IsWhole) (arg5 : Memref sig .tc .vmem S1x16x16x16x8 .f32) (harg5 : arg5.IsWhole) (arg6 : Memref sig .tc .vmem S1x16x17x128 .f32) (harg6 : arg6.IsWhole) (arg7 : Memref sig .tc .vmem S1x16x16x128 .f32) (harg7 : arg7.IsWhole) (arg9 : Memref sig .tc .vmem S1x16x128 .f32) (harg9 : arg9.IsWhole) (arg10 : Memref sig .tc .vmem S16x128 .f32) (harg10 : arg10.IsWhole) (arg11 : Memref sig .tc .vmem S16x1 .f32) (harg11 : arg11.IsWhole) (hc0 : ¬cond0_0 i) (hc2 : ¬cond0_2 i) (x0 : Vec F S1x16x128 .f32) (x1 : Vec F S1x16x16x16x8 .f32) (x2 : Vec F S1x16x17x128 .f32) (x3 : Vec F S1x16x16x128 .f32) (xt0 : TbBuf0 (F := F) c tbM0_0) (xt1 : TbBuf0 (F := F) c tbM0_1) (xs0 : Vec F S16x128 .f32) (xs1 : Vec F S16x1 .f32) (hc1 : ¬cond0_1 i (tbM0_1.view.readAt (Elt F) (Rect.unit (s := S16) (k0_off2 i) S1.size (k0_off2_inb i)).toLoadRect xt1 (Shape.Idx.first (numel1_S1.symm ▸ Nat.one_pos))))

/-- Case D stores nothing into output 4 (the window is idle at its points and not written back there):
    no pieces — a placeholder (junk read back) that nothing consults, since at these points the window is neither
    written back nor read at the next point (Lib/Pipeline.lean "Idle points"). -/
def out0_D_4 : Vec F S1x16x128 .f32 :=
  VO0_4.read (Elt F) (VO0_4.writes (Elt F) VO0_4.junk (kernelRun0_D c i arg4 harg4 arg5 harg5 arg6 harg6 arg7 harg7 arg9 harg9 arg10 harg10 arg11 harg11 hc0 hc2 x0 x1 x2 x3 xt0 xt1 xs0 xs1 hc1).1)

end

/-- Case D stores nothing into scratch `arg10`: it holds what the point before left. -/
def sout0_D_0 (c : Dev nD) (i : grid0.Coords) (arg4 : Memref sig .tc .vmem S1x16x128 .f32) (harg4 : arg4.IsWhole) (arg5 : Memref sig .tc .vmem S1x16x16x16x8 .f32) (harg5 : arg5.IsWhole) (arg6 : Memref sig .tc .vmem S1x16x17x128 .f32) (harg6 : arg6.IsWhole) (arg7 : Memref sig .tc .vmem S1x16x16x128 .f32) (harg7 : arg7.IsWhole) (arg9 : Memref sig .tc .vmem S1x16x128 .f32) (harg9 : arg9.IsWhole) (arg10 : Memref sig .tc .vmem S16x128 .f32) (harg10 : arg10.IsWhole) (arg11 : Memref sig .tc .vmem S16x1 .f32) (harg11 : arg11.IsWhole) (hc0 : ¬cond0_0 i) (hc2 : ¬cond0_2 i)
    (x0 : Vec F S1x16x128 .f32) (x1 : Vec F S1x16x16x16x8 .f32) (x2 : Vec F S1x16x17x128 .f32) (x3 : Vec F S1x16x16x128 .f32) (xt0 : TbBuf0 (F := F) c tbM0_0) (xt1 : TbBuf0 (F := F) c tbM0_1) (xs0 : Vec F S16x128 .f32) (xs1 : Vec F S16x1 .f32) (hc1 : ¬cond0_1 i (tbM0_1.view.readAt (Elt F) (Rect.unit (s := S16) (k0_off2 i) S1.size (k0_off2_inb i)).toLoadRect xt1 (Shape.Idx.first (numel1_S1.symm ▸ Nat.one_pos)))) : Vec F S16x128 .f32 := xs0

/-- Case D stores nothing into scratch `arg11`: it holds what the point before left. -/
def sout0_D_1 (c : Dev nD) (i : grid0.Coords) (arg4 : Memref sig .tc .vmem S1x16x128 .f32) (harg4 : arg4.IsWhole) (arg5 : Memref sig .tc .vmem S1x16x16x16x8 .f32) (harg5 : arg5.IsWhole) (arg6 : Memref sig .tc .vmem S1x16x17x128 .f32) (harg6 : arg6.IsWhole) (arg7 : Memref sig .tc .vmem S1x16x16x128 .f32) (harg7 : arg7.IsWhole) (arg9 : Memref sig .tc .vmem S1x16x128 .f32) (harg9 : arg9.IsWhole) (arg10 : Memref sig .tc .vmem S16x128 .f32) (harg10 : arg10.IsWhole) (arg11 : Memref sig .tc .vmem S16x1 .f32) (harg11 : arg11.IsWhole) (hc0 : ¬cond0_0 i) (hc2 : ¬cond0_2 i)
    (x0 : Vec F S1x16x128 .f32) (x1 : Vec F S1x16x16x16x8 .f32) (x2 : Vec F S1x16x17x128 .f32) (x3 : Vec F S1x16x16x128 .f32) (xt0 : TbBuf0 (F := F) c tbM0_0) (xt1 : TbBuf0 (F := F) c tbM0_1) (xs0 : Vec F S16x128 .f32) (xs1 : Vec F S16x1 .f32) (hc1 : ¬cond0_1 i (tbM0_1.view.readAt (Elt F) (Rect.unit (s := S16) (k0_off2 i) S1.size (k0_off2_inb i)).toLoadRect xt1 (Shape.Idx.first (numel1_S1.symm ▸ Nat.one_pos)))) : Vec F S16x1 .f32 := xs1

section
variable (c : Dev nD) (i : grid0.Coords) (arg4 : Memref sig .tc .vmem S1x16x128 .f32) (harg4 : arg4.IsWhole) (arg5 : Memref sig .tc .vmem S1x16x16x16x8 .f32) (harg5 : arg5.IsWhole) (arg6 : Memref sig .tc .vmem S1x16x17x128 .f32) (harg6 : arg6.IsWhole) (arg7 : Memref sig .tc .vmem S1x16x16x128 .f32) (harg7 : arg7.IsWhole) (arg9 : Memref sig .tc .vmem S1x16x128 .f32) (harg9 : arg9.IsWhole) (arg10 : Memref sig .tc .vmem S16x128 .f32) (harg10 : arg10.IsWhole) (arg11 : Memref sig .tc .vmem S16x1 .f32) (harg11 : arg11.IsWhole) (hc0 : ¬cond0_0 i) (hc2 : cond0_2 i) (x0 : Vec F S1x16x128 .f32) (x1 : Vec F S1x16x16x16x8 .f32) (x2 : Vec F S1x16x17x128 .f32) (x3 : Vec F S1x16x16x128 .f32) (xt0 : TbBuf0 (F := F) c tbM0_0) (xt1 : TbBuf0 (F := F) c tbM0_1) (xs0 : Vec F S16x128 .f32) (xs1 : Vec F S16x1 .f32) (hc1 : cond0_1 i (tbM0_1.view.readAt (Elt F) (Rect.unit (s := S16) (k0_off2 i) S1.size (k0_off2_inb i)).toLoadRect xt1 (Shape.Idx.first (numel1_S1.symm ▸ Nat.one_pos))))

/-- Case E's pieces for output 4 tile its block (1 store of `S1x16x128`, checked by the kernel's evaluation: Lib/Ring.lean `Piece.tiledL`, linear in the pieces, through a loop's `@[irreducible]` trip theorem too), so they cover it. -/
theorem cover0_E_4 (y : S1x16x128.Idx) :
    ∃ pc ∈ (kernelRun0_E c i arg4 harg4 arg5 harg5 arg6 harg6 arg7 harg7 arg9 harg9 arg10 harg10 arg11 harg11 hc0 hc2 x0 x1 x2 x3 xt0 xt1 xs0 xs1 hc1).1, y ∈ pc.1.set :=
  View.cover_of_tiledL (kernelRun0_E c i arg4 harg4 arg5 harg5 arg6 harg6 arg7 harg7 arg9 harg9 arg10 harg10 arg11 harg11 hc0 hc2 x0 x1 x2 x3 xt0 xt1 xs0 xs1 hc1).1 S1x16x128.size (by sl_kernel_rfl) y

/-- What case E leaves in output 4's staging buffer: its pieces read back over junk. -/
def out0_E_4 : Vec F S1x16x128 .f32 :=
  VO0_4.read (Elt F) (VO0_4.writes (Elt F) VO0_4.junk (kernelRun0_E c i arg4 harg4 arg5 harg5 arg6 harg6 arg7 harg7 arg9 harg9 arg10 harg10 arg11 harg11 hc0 hc2 x0 x1 x2 x3 xt0 xt1 xs0 xs1 hc1).1)

/-- Case E's pieces for scratch `arg10`, which the kernel carries between points, cover it: 1 piece of `S16x128` tiling it (Lib/Ring.lean `Piece.tiledL`). -/
theorem scover0_E_0 (y : S16x128.Idx) :
    ∃ pc ∈ (kernelRun0_E c i arg4 harg4 arg5 harg5 arg6 harg6 arg7 harg7 arg9 harg9 arg10 harg10 arg11 harg11 hc0 hc2 x0 x1 x2 x3 xt0 xt1 xs0 xs1 hc1).2.1, y ∈ pc.1.set :=
  View.cover_of_tiledL (kernelRun0_E c i arg4 harg4 arg5 harg5 arg6 harg6 arg7 harg7 arg9 harg9 arg10 harg10 arg11 harg11 hc0 hc2 x0 x1 x2 x3 xt0 xt1 xs0 xs1 hc1).2.1 S16x128.size (by sl_kernel_rfl) y

/-- What case E leaves in scratch `arg10`: its pieces read back over junk. -/
def sout0_E_0 : Vec F S16x128 .f32 :=
  VS0_0.read (Elt F) (VS0_0.writes (Elt F) VS0_0.junk (kernelRun0_E c i arg4 harg4 arg5 harg5 arg6 harg6 arg7 harg7 arg9 harg9 arg10 harg10 arg11 harg11 hc0 hc2 x0 x1 x2 x3 xt0 xt1 xs0 xs1 hc1).2.1)

/-- Case E's pieces for scratch `arg11`, which the kernel carries between points, cover it: 1 piece of `S16x1` tiling it (Lib/Ring.lean `Piece.tiledL`). -/
theorem scover0_E_1 (y : S16x1.Idx) :
    ∃ pc ∈ (kernelRun0_E c i arg4 harg4 arg5 harg5 arg6 harg6 arg7 harg7 arg9 harg9 arg10 harg10 arg11 harg11 hc0 hc2 x0 x1 x2 x3 xt0 xt1 xs0 xs1 hc1).2.2.1, y ∈ pc.1.set :=
  View.cover_of_tiledL (kernelRun0_E c i arg4 harg4 arg5 harg5 arg6 harg6 arg7 harg7 arg9 harg9 arg10 harg10 arg11 harg11 hc0 hc2 x0 x1 x2 x3 xt0 xt1 xs0 xs1 hc1).2.2.1 S16x1.size (by sl_kernel_rfl) y

/-- What case E leaves in scratch `arg11`: its pieces read back over junk. -/
def sout0_E_1 : Vec F S16x1 .f32 :=
  VS0_1.read (Elt F) (VS0_1.writes (Elt F) VS0_1.junk (kernelRun0_E c i arg4 harg4 arg5 harg5 arg6 harg6 arg7 harg7 arg9 harg9 arg10 harg10 arg11 harg11 hc0 hc2 x0 x1 x2 x3 xt0 xt1 xs0 xs1 hc1).2.2.1)

end

section
variable (c : Dev nD) (i : grid0.Coords) (arg4 : Memref sig .tc .vmem S1x16x128 .f32) (harg4 : arg4.IsWhole) (arg5 : Memref sig .tc .vmem S1x16x16x16x8 .f32) (harg5 : arg5.IsWhole) (arg6 : Memref sig .tc .vmem S1x16x17x128 .f32) (harg6 : arg6.IsWhole) (arg7 : Memref sig .tc .vmem S1x16x16x128 .f32) (harg7 : arg7.IsWhole) (arg9 : Memref sig .tc .vmem S1x16x128 .f32) (harg9 : arg9.IsWhole) (arg10 : Memref sig .tc .vmem S16x128 .f32) (harg10 : arg10.IsWhole) (arg11 : Memref sig .tc .vmem S16x1 .f32) (harg11 : arg11.IsWhole) (hc0 : ¬cond0_0 i) (hc2 : cond0_2 i) (x0 : Vec F S1x16x128 .f32) (x1 : Vec F S1x16x16x16x8 .f32) (x2 : Vec F S1x16x17x128 .f32) (x3 : Vec F S1x16x16x128 .f32) (xt0 : TbBuf0 (F := F) c tbM0_0) (xt1 : TbBuf0 (F := F) c tbM0_1) (xs0 : Vec F S16x128 .f32) (xs1 : Vec F S16x1 .f32) (hc1 : ¬cond0_1 i (tbM0_1.view.readAt (Elt F) (Rect.unit (s := S16) (k0_off2 i) S1.size (k0_off2_inb i)).toLoadRect xt1 (Shape.Idx.first (numel1_S1.symm ▸ Nat.one_pos))))

/-- Case F's pieces for output 4 tile its block (1 store of `S1x16x128`, checked by the kernel's evaluation: Lib/Ring.lean `Piece.tiledL`, linear in the pieces, through a loop's `@[irreducible]` trip theorem too), so they cover it. -/
theorem cover0_F_4 (y : S1x16x128.Idx) :
    ∃ pc ∈ (kernelRun0_F c i arg4 harg4 arg5 harg5 arg6 harg6 arg7 harg7 arg9 harg9 arg10 harg10 arg11 harg11 hc0 hc2 x0 x1 x2 x3 xt0 xt1 xs0 xs1 hc1).1, y ∈ pc.1.set :=
  View.cover_of_tiledL (kernelRun0_F c i arg4 harg4 arg5 harg5 arg6 harg6 arg7 harg7 arg9 harg9 arg10 harg10 arg11 harg11 hc0 hc2 x0 x1 x2 x3 xt0 xt1 xs0 xs1 hc1).1 S1x16x128.size (by sl_kernel_rfl) y

/-- What case F leaves in output 4's staging buffer: its pieces read back over junk. -/
def out0_F_4 : Vec F S1x16x128 .f32 :=
  VO0_4.read (Elt F) (VO0_4.writes (Elt F) VO0_4.junk (kernelRun0_F c i arg4 harg4 arg5 harg5 arg6 harg6 arg7 harg7 arg9 harg9 arg10 harg10 arg11 harg11 hc0 hc2 x0 x1 x2 x3 xt0 xt1 xs0 xs1 hc1).1)

end

/-- Case F stores nothing into scratch `arg10`: it holds what the point before left. -/
def sout0_F_0 (c : Dev nD) (i : grid0.Coords) (arg4 : Memref sig .tc .vmem S1x16x128 .f32) (harg4 : arg4.IsWhole) (arg5 : Memref sig .tc .vmem S1x16x16x16x8 .f32) (harg5 : arg5.IsWhole) (arg6 : Memref sig .tc .vmem S1x16x17x128 .f32) (harg6 : arg6.IsWhole) (arg7 : Memref sig .tc .vmem S1x16x16x128 .f32) (harg7 : arg7.IsWhole) (arg9 : Memref sig .tc .vmem S1x16x128 .f32) (harg9 : arg9.IsWhole) (arg10 : Memref sig .tc .vmem S16x128 .f32) (harg10 : arg10.IsWhole) (arg11 : Memref sig .tc .vmem S16x1 .f32) (harg11 : arg11.IsWhole) (hc0 : ¬cond0_0 i) (hc2 : cond0_2 i)
    (x0 : Vec F S1x16x128 .f32) (x1 : Vec F S1x16x16x16x8 .f32) (x2 : Vec F S1x16x17x128 .f32) (x3 : Vec F S1x16x16x128 .f32) (xt0 : TbBuf0 (F := F) c tbM0_0) (xt1 : TbBuf0 (F := F) c tbM0_1) (xs0 : Vec F S16x128 .f32) (xs1 : Vec F S16x1 .f32) (hc1 : ¬cond0_1 i (tbM0_1.view.readAt (Elt F) (Rect.unit (s := S16) (k0_off2 i) S1.size (k0_off2_inb i)).toLoadRect xt1 (Shape.Idx.first (numel1_S1.symm ▸ Nat.one_pos)))) : Vec F S16x128 .f32 := xs0

/-- Case F stores nothing into scratch `arg11`: it holds what the point before left. -/
def sout0_F_1 (c : Dev nD) (i : grid0.Coords) (arg4 : Memref sig .tc .vmem S1x16x128 .f32) (harg4 : arg4.IsWhole) (arg5 : Memref sig .tc .vmem S1x16x16x16x8 .f32) (harg5 : arg5.IsWhole) (arg6 : Memref sig .tc .vmem S1x16x17x128 .f32) (harg6 : arg6.IsWhole) (arg7 : Memref sig .tc .vmem S1x16x16x128 .f32) (harg7 : arg7.IsWhole) (arg9 : Memref sig .tc .vmem S1x16x128 .f32) (harg9 : arg9.IsWhole) (arg10 : Memref sig .tc .vmem S16x128 .f32) (harg10 : arg10.IsWhole) (arg11 : Memref sig .tc .vmem S16x1 .f32) (harg11 : arg11.IsWhole) (hc0 : ¬cond0_0 i) (hc2 : cond0_2 i)
    (x0 : Vec F S1x16x128 .f32) (x1 : Vec F S1x16x16x16x8 .f32) (x2 : Vec F S1x16x17x128 .f32) (x3 : Vec F S1x16x16x128 .f32) (xt0 : TbBuf0 (F := F) c tbM0_0) (xt1 : TbBuf0 (F := F) c tbM0_1) (xs0 : Vec F S16x128 .f32) (xs1 : Vec F S16x1 .f32) (hc1 : ¬cond0_1 i (tbM0_1.view.readAt (Elt F) (Rect.unit (s := S16) (k0_off2 i) S1.size (k0_off2_inb i)).toLoadRect xt1 (Shape.Idx.first (numel1_S1.symm ▸ Nat.one_pos)))) : Vec F S16x1 .f32 := xs1

/-! ## What the outputs hold after each point -/

/-- THE ACCUMULATION. What the outputs' staging buffers and the scratch the kernel carries between points hold after the body at position `n` (a tuple: the outputs in window order, then the scratch):
    the case the closed forms and the word conditions select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1x16x128 .f32 × Vec F S16x128 .f32 × Vec F S16x1 .f32
  | 0, hn => if h1 : cond0_1 (grid0.coords ⟨0, hn⟩) (tbM0_1.view.readAt (Elt F) (Rect.unit (s := S16) (k0_off2 (grid0.coords ⟨0, hn⟩)) S1.size (k0_off2_inb (grid0.coords ⟨0, hn⟩))).toLoadRect (tbl m 1) (Shape.Idx.first (numel1_S1.symm ▸ Nat.one_pos))) then
      (out0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1, sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1, sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1)
    else
      (out0_B_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1, sout0_B_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1, sout0_B_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1)
  | n + 1, hn =>
    if h1 : cond0_1 (grid0.coords ⟨n + 1, hn⟩) (tbM0_1.view.readAt (Elt F) (Rect.unit (s := S16) (k0_off2 (grid0.coords ⟨n + 1, hn⟩)) S1.size (k0_off2_inb (grid0.coords ⟨n + 1, hn⟩))).toLoadRect (tbl m 1) (Shape.Idx.first (numel1_S1.symm ▸ Nat.one_pos))) then
      if h0 : (n + 1) % 64 = 0 then
        if h2 : (n + 1) % 64 = 63 then
          False.elim (by have hN : n + 1 < 1024 := lt_of_lt_of_eq hn (show (cfgM m hO).N = 1024 from N_0); omega)
        else
          (out0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1, sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1, sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1)
      else
        if h2 : (n + 1) % 64 = 63 then
          (out0_E_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1, sout0_E_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1, sout0_E_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1)
        else
          (out0_C_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1, sout0_C_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1)
    else
      if h0 : (n + 1) % 64 = 0 then
        if h2 : (n + 1) % 64 = 63 then
          False.elim (by have hN : n + 1 < 1024 := lt_of_lt_of_eq hn (show (cfgM m hO).N = 1024 from N_0); omega)
        else
          (out0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1, sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1)
      else
        if h2 : (n + 1) % 64 = 63 then
          (out0_F_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1, sout0_F_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1, sout0_F_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1)
        else
          (out0_D_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1, sout0_D_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1, sout0_D_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1)

set_option maxHeartbeats 4000000 in
/-- `outsAt0` at a point of case A: that case's contents. -/
theorem outsAt0_A (hO : Ok m) (c : Dev nD) (t : Fin (cfgM m hO).N) (h0 : t.val % 64 = 0) (h1 : cond0_1 (grid0.coords t) (tbM0_1.view.readAt (Elt F) (Rect.unit (s := S16) (k0_off2 (grid0.coords t)) S1.size (k0_off2_inb (grid0.coords t))).toLoadRect (tbl m 1) (Shape.Idx.first (numel1_S1.symm ▸ Nat.one_pos)))) (h2 : ¬t.val % 64 = 63) :
    outsAt0 m hO c t.val t.isLt = (out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1, sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1) := by
  obtain ⟨n, hn⟩ := t
  cases n with
  | zero => rw [outsAt0]; rw [dif_pos h1]
  | succ n => rw [outsAt0]; rw [dif_pos h1]; rw [dif_pos h0]; rw [dif_neg h2]

set_option maxHeartbeats 4000000 in
/-- `outsAt0` at a point of case B: that case's contents. -/
theorem outsAt0_B (hO : Ok m) (c : Dev nD) (t : Fin (cfgM m hO).N) (h0 : t.val % 64 = 0) (h1 : ¬cond0_1 (grid0.coords t) (tbM0_1.view.readAt (Elt F) (Rect.unit (s := S16) (k0_off2 (grid0.coords t)) S1.size (k0_off2_inb (grid0.coords t))).toLoadRect (tbl m 1) (Shape.Idx.first (numel1_S1.symm ▸ Nat.one_pos)))) (h2 : ¬t.val % 64 = 63) :
    outsAt0 m hO c t.val t.isLt = (out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1) := by
  obtain ⟨n, hn⟩ := t
  cases n with
  | zero => rw [outsAt0]; rw [dif_neg h1]
  | succ n => rw [outsAt0]; rw [dif_neg h1]; rw [dif_pos h0]; rw [dif_neg h2]

set_option maxHeartbeats 4000000 in
/-- `outsAt0` at a point of case C: that case's contents, over what the point before left. -/
theorem outsAt0_C (hO : Ok m) (c : Dev nD) (t : Fin (cfgM m hO).N) (h0 : ¬t.val % 64 = 0) (h1 : cond0_1 (grid0.coords t) (tbM0_1.view.readAt (Elt F) (Rect.unit (s := S16) (k0_off2 (grid0.coords t)) S1.size (k0_off2_inb (grid0.coords t))).toLoadRect (tbl m 1) (Shape.Idx.first (numel1_S1.symm ▸ Nat.one_pos)))) (h2 : ¬t.val % 64 = 63) :
    outsAt0 m hO c t.val t.isLt = (out0_C_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1, sout0_C_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1) := by
  obtain ⟨n, hn⟩ := t
  cases n with
  | zero => exact (by exfalso; (try dsimp only at h0); exact absurd (Nat.zero_mod _) h0)
  | succ n => rw [outsAt0]; rw [dif_pos h1]; rw [dif_neg h0]; rw [dif_neg h2]; rfl

set_option maxHeartbeats 4000000 in
/-- `outsAt0` at a point of case D: that case's contents, over what the point before left. -/
theorem outsAt0_D (hO : Ok m) (c : Dev nD) (t : Fin (cfgM m hO).N) (h0 : ¬t.val % 64 = 0) (h1 : ¬cond0_1 (grid0.coords t) (tbM0_1.view.readAt (Elt F) (Rect.unit (s := S16) (k0_off2 (grid0.coords t)) S1.size (k0_off2_inb (grid0.coords t))).toLoadRect (tbl m 1) (Shape.Idx.first (numel1_S1.symm ▸ Nat.one_pos)))) (h2 : ¬t.val % 64 = 63) :
    outsAt0 m hO c t.val t.isLt = (out0_D_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1, sout0_D_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) (fun h => h2 ((hcond0_2 t).mp h)) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1) := by
  obtain ⟨n, hn⟩ := t
  cases n with
  | zero => exact (by exfalso; (try dsimp only at h0); exact absurd (Nat.zero_mod _) h0)
  | succ n => rw [outsAt0]; rw [dif_neg h1]; rw [dif_neg h0]; rw [dif_neg h2]; rfl

set_option maxHeartbeats 4000000 in
/-- `outsAt0` at a point of case E: that case's contents, over what the point before left. -/
theorem outsAt0_E (hO : Ok m) (c : Dev nD) (t : Fin (cfgM m hO).N) (h0 : ¬t.val % 64 = 0) (h1 : cond0_1 (grid0.coords t) (tbM0_1.view.readAt (Elt F) (Rect.unit (s := S16) (k0_off2 (grid0.coords t)) S1.size (k0_off2_inb (grid0.coords t))).toLoadRect (tbl m 1) (Shape.Idx.first (numel1_S1.symm ▸ Nat.one_pos)))) (h2 : t.val % 64 = 63) :
    outsAt0 m hO c t.val t.isLt = (out0_E_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1, sout0_E_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1, sout0_E_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1) := by
  obtain ⟨n, hn⟩ := t
  cases n with
  | zero => exact (by exfalso; (try dsimp only at h0); exact absurd (Nat.zero_mod _) h0)
  | succ n => rw [outsAt0]; rw [dif_pos h1]; rw [dif_neg h0]; rw [dif_pos h2]; rfl

set_option maxHeartbeats 4000000 in
/-- `outsAt0` at a point of case F: that case's contents, over what the point before left. -/
theorem outsAt0_F (hO : Ok m) (c : Dev nD) (t : Fin (cfgM m hO).N) (h0 : ¬t.val % 64 = 0) (h1 : ¬cond0_1 (grid0.coords t) (tbM0_1.view.readAt (Elt F) (Rect.unit (s := S16) (k0_off2 (grid0.coords t)) S1.size (k0_off2_inb (grid0.coords t))).toLoadRect (tbl m 1) (Shape.Idx.first (numel1_S1.symm ▸ Nat.one_pos)))) (h2 : t.val % 64 = 63) :
    outsAt0 m hO c t.val t.isLt = (out0_F_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1, sout0_F_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1, sout0_F_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1) := by
  obtain ⟨n, hn⟩ := t
  cases n with
  | zero => exact (by exfalso; (try dsimp only at h0); exact absurd (Nat.zero_mod _) h0)
  | succ n => rw [outsAt0]; rw [dif_neg h1]; rw [dif_neg h0]; rw [dif_pos h2]; rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 1024 := lt_of_lt_of_eq t.isLt (show (cfgM m hO).N = 1024 from N_0)
  by_cases h0 : t.val % 64 = 0
  · by_cases h1 : cond0_1 (grid0.coords t) (tbM0_1.view.readAt (Elt F) (Rect.unit (s := S16) (k0_off2 (grid0.coords t)) S1.size (k0_off2_inb (grid0.coords t))).toLoadRect (tbl m 1) (Shape.Idx.first (numel1_S1.symm ▸ Nat.one_pos)))
    · by_cases h2 : t.val % 64 = 63
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_A m hO t ((hcond0_0 t).mpr h0) (fun h => h2 ((hcond0_2 t).mp h))) (noFlush0_4_A m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold sout0_A_0 sout0_A_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HT0]; · iexact HT0
          isplitl [HT1]; · iexact HT1
          iintro ⟨H0, H1, H2, H3, H4, ⟨%es0, HS0⟩, ⟨%es1, HS1⟩, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _)
                unfold owns; iexists _; isplitr
                swap; · iexact HS1
                ipureintro; exact View.read_writes_of_cover _ _ _ _ _ (scover0_A_1 c _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
        · rw [PhiS_castSucc m hO c t, PhiS_pos m hO c _ _ hz, PhiT0_eq]
          rw [outsAt0_A m hO c t h0 h1 h2]
          unfold sout0_A_0 sout0_A_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HS1]; · iexists _; iexact HS1
          isplitl [HT0]; · iexact HT0
          isplitl [HT1]; · iexact HT1
          iintro ⟨H0, H1, H2, H3, H4, ⟨%es0, HS0⟩, ⟨%es1, HS1⟩, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _)
                unfold owns; iexists _; isplitr
                swap; · iexact HS1
                ipureintro; exact View.read_writes_of_cover _ _ _ _ _ (scover0_A_1 c _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
    · by_cases h2 : t.val % 64 = 63
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_B m hO t ((hcond0_0 t).mpr h0) (fun h => h2 ((hcond0_2 t).mp h))) (noFlush0_4_B m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_B m hO c t h0 h1 h2]
          unfold sout0_B_0 sout0_B_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HT0]; · iexact HT0
          isplitl [HT1]; · iexact HT1
          iintro ⟨H0, H1, H2, H3, H4, ⟨%es0, HS0⟩, ⟨%es1, HS1⟩, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _)
                unfold owns; iexists _; isplitr
                swap; · iexact HS1
                ipureintro; exact View.read_writes_of_cover _ _ _ _ _ (scover0_B_1 c _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
        · rw [PhiS_castSucc m hO c t, PhiS_pos m hO c _ _ hz, PhiT0_eq]
          rw [outsAt0_B m hO c t h0 h1 h2]
          unfold sout0_B_0 sout0_B_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HS1]; · iexists _; iexact HS1
          isplitl [HT0]; · iexact HT0
          isplitl [HT1]; · iexact HT1
          iintro ⟨H0, H1, H2, H3, H4, ⟨%es0, HS0⟩, ⟨%es1, HS1⟩, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _)
                unfold owns; iexists _; isplitr
                swap; · iexact HS1
                ipureintro; exact View.read_writes_of_cover _ _ _ _ _ (scover0_B_1 c _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
  · by_cases h1 : cond0_1 (grid0.coords t) (tbM0_1.view.readAt (Elt F) (Rect.unit (s := S16) (k0_off2 (grid0.coords t)) S1.size (k0_off2_inb (grid0.coords t))).toLoadRect (tbl m 1) (Shape.Idx.first (numel1_S1.symm ▸ Nat.one_pos)))
    · by_cases h2 : t.val % 64 = 63
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4_E m hO t (fun h => h0 ((hcond0_0 t).mp h)) ((hcond0_2 t).mpr h2)]; try rfl, after0_4]
        by_cases hz : t.val = 0
        · exfalso; have hN : t.val < 1024 := lt_of_lt_of_eq t.isLt (show (cfgM m hO).N = 1024 from N_0); omega
        · rw [PhiS_castSucc m hO c t, PhiS_pos m hO c _ _ hz, PhiT0_eq]
          rw [outsAt0_E m hO c t h0 h1 h2]
          unfold out0_E_4 sout0_E_0 sout0_E_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_E c (grid0.coords t) _ _ _ _ _ _ _ _ _ _ _ _ _ _ (fun h => h0 ((hcond0_0 t).mp h)) ((hcond0_2 t).mpr h2) (iblk m hO c 0 t) (iblk m hO c 1 t) (iblk m hO c 2 t) (iblk m hO c 3 t) (tbl m 0) (tbl m 1) _ _ h1).2.2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HS1]; · iexact HS1
          isplitl [HT0]; · iexact HT0
          isplitl [HT1]; · iexact HT1
          iintro ⟨H0, H1, H2, H3, ⟨%e4, H4⟩, ⟨%es0, HS0⟩, ⟨%es1, HS1⟩, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_E_0 c _ _ _ _ _ _ _ _ _ _ _ _ _ _ _ _ _ _ _ _ _ _ _ _ _ _)
                unfold owns; iexists _; isplitr
                swap; · iexact HS1
                ipureintro; exact View.read_writes_of_cover _ _ _ _ _ (scover0_E_1 c _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_E_4 c _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_C m hO t (fun h => h0 ((hcond0_0 t).mp h)) (fun h => h2 ((hcond0_2 t).mp h))) (noFlush0_4_C m hO t (fun h => h0 ((hcond0_0 t).mp h)) (fun h => h2 ((hcond0_2 t).mp h)))]
        by_cases hz : t.val = 0
        · exfalso; have hN : t.val < 1024 := lt_of_lt_of_eq t.isLt (show (cfgM m hO).N = 1024 from N_0); omega
        · rw [PhiS_castSucc m hO c t, PhiS_pos m hO c _ _ hz, PhiT0_eq]
          rw [outsAt0_C m hO c t h0 h1 h2]
          unfold sout0_C_0 sout0_C_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_C c (grid0.coords t) _ _ _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (tbl m 0) (tbl m 1) _ _ h1).2.2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HT0]; · iexact HT0
          isplitl [HT1]; · iexact HT1
          iintro ⟨H0, H1, H2, H3, H4, ⟨%es0, HS0⟩, ⟨%es1, HS1⟩, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_C_0 c _ _ _ _ _ _ _ _ _ _ _ _ _ _ _ _ _ _ _ _ _ _ _ _ _ _)
                unfold owns; iexists _; isplitr
                swap; · iexact HS1
                ipureintro; exact View.read_writes_of_cover _ _ _ _ _ (scover0_C_1 c _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
    · by_cases h2 : t.val % 64 = 63
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4_F m hO t (fun h => h0 ((hcond0_0 t).mp h)) ((hcond0_2 t).mpr h2)]; try rfl, after0_4]
        by_cases hz : t.val = 0
        · exfalso; have hN : t.val < 1024 := lt_of_lt_of_eq t.isLt (show (cfgM m hO).N = 1024 from N_0); omega
        · rw [PhiS_castSucc m hO c t, PhiS_pos m hO c _ _ hz, PhiT0_eq]
          rw [outsAt0_F m hO c t h0 h1 h2]
          unfold out0_F_4 sout0_F_0 sout0_F_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_F c (grid0.coords t) _ _ _ _ _ _ _ _ _ _ _ _ _ _ (fun h => h0 ((hcond0_0 t).mp h)) ((hcond0_2 t).mpr h2) (iblk m hO c 0 t) (iblk m hO c 1 t) (iblk m hO c 2 t) (iblk m hO c 3 t) (tbl m 0) (tbl m 1) _ _ h1).2.2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HS1]; · iexact HS1
          isplitl [HT0]; · iexact HT0
          isplitl [HT1]; · iexact HT1
          iintro ⟨H0, H1, H2, H3, ⟨%e4, H4⟩, HS0, HS1, HT0, HT1⟩
          isplitl [HS0 HS1 Hg HT0 HT1]
          · isplitl [HS0 HS1 Hg]
            · isplitl [HS0 HS1]
              · isplitl [HS0]
                · iexact HS0
                iexact HS1
              iexact Hg
            isplitl [HT0]; · iexact HT0
            iexact HT1
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_F_4 c _ _ _ _ _ _ _ _ _ _ _ _ _ _ _ _ _ _ _ _ _ _ _ _ _ _)
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_D m hO t (fun h => h0 ((hcond0_0 t).mp h)) (fun h => h2 ((hcond0_2 t).mp h))) (noFlush0_4_D m hO t (fun h => h0 ((hcond0_0 t).mp h)) (fun h => h2 ((hcond0_2 t).mp h)))]
        by_cases hz : t.val = 0
        · exfalso; have hN : t.val < 1024 := lt_of_lt_of_eq t.isLt (show (cfgM m hO).N = 1024 from N_0); omega
        · rw [PhiS_castSucc m hO c t, PhiS_pos m hO c _ _ hz, PhiT0_eq]
          rw [outsAt0_D m hO c t h0 h1 h2]
          unfold sout0_D_0 sout0_D_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_D c (grid0.coords t) _ _ _ _ _ _ _ _ _ _ _ _ _ _ (fun h => h0 ((hcond0_0 t).mp h)) (fun h => h2 ((hcond0_2 t).mp h)) (iblk m hO c 0 t) (iblk m hO c 1 t) (iblk m hO c 2 t) (iblk m hO c 3 t) (tbl m 0) (tbl m 1) _ _ h1).2.2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HT0]; · iexact HT0
          isplitl [HT1]; · iexact HT1
          iintro ⟨H0, H1, H2, H3, H4, HS0, HS1, HT0, HT1⟩
          isplitl [HS0 HS1 Hg HT0 HT1]
          · isplitl [HS0 HS1 Hg]
            · isplitl [HS0 HS1]
              · isplitl [HS0]
                · iexact HS0
                iexact HS1
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 1024 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: under `Gen.Ok m` every execution ends with the seven arguments as they were and no counter left. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.DecodeIdeal.Attention

end
-- ==== Proof.Softmax.lean ====
/-
  One row of causal attention over the extended reals, apart from any program: the weighted mean of the values of
  the keys up to a row, the sum by blocks that reaches it, and the softmax that equals it when the scores are real.
-/
module

public import Idealize.ShloMosaic.PureOps.Ideal
public import Idealize.ShloMosaic.PureOps.Ideal.Laws

@[expose] public section

noncomputable section

namespace Cert.Attention

open Idealize.ShloMosaic Finset

/-- The weights' sum of the first `n` keys: the sum of the exponentials of their scores. -/
def den (s : ℕ → EReal) (n : ℕ) : EReal := ∑ t ∈ range n, Ideal.exp (s t)

/-- The values of the first `n` keys, each multiplied by the exponential of its score, summed. -/
def num (s v : ℕ → EReal) (n : ℕ) : EReal := ∑ t ∈ range n, Ideal.exp (s t) * v t

/-- Attention over the first `n` keys: the mean of the values, weighted by the exponentials of the scores. -/
def attend (s v : ℕ → EReal) (n : ℕ) : EReal := Ideal.div (num s v n) (den s n)

/-- A score kept where `c` holds and made −∞ elsewhere. -/
def masked (c : Prop) [Decidable c] (x : EReal) : EReal := if c then x else ⊥

/-- Adding −∞ outside a condition, and 0 inside it, masks a score. -/
theorem add_mask (c : Prop) [Decidable c] (x : EReal) : x + (if c then 0 else ⊥) = masked c x := by
  unfold masked; split <;> simp

/-- The exponential of a masked score is zero outside the mask's condition. -/
theorem exp_masked (c : Prop) [Decidable c] (x : EReal) : Ideal.exp (masked c x) = if c then Ideal.exp x else 0 := by
  unfold masked; split <;> simp

/-- A function summed over the first `n` indices and then over the next `m` of them is summed over the first
    `n + m`. -/
theorem sum_block (f : ℕ → EReal) (n m : ℕ) : (∑ t ∈ range n, f t) + ∑ j : Fin m, f (n + j.val) = ∑ t ∈ range (n + m), f t := by
  rw [sum_range_add, Fin.sum_univ_eq_sum_range (fun j => f (n + j))]

/-- A sum over the first `n` indices of what is zero from `k` on is the sum over the first `k`. -/
theorem sum_cut (f : ℕ → EReal) {k n : ℕ} (hk : k ≤ n) : (∑ t ∈ range n, if t < k then f t else 0) = ∑ t ∈ range k, f t := by
  rw [← sum_filter]
  congr 1
  ext t
  simp only [mem_filter, mem_range]
  omega

/-- The weights' sum of `n` keys, and of a further block of `m` keys of which those before `k` count. -/
theorem den_block (s : ℕ → EReal) {n m k : ℕ} (hn : n ≤ k) (hk : k ≤ n + m) :
    den s n + ∑ j : Fin m, Ideal.exp (masked (n + j.val < k) (s (n + j.val))) = den s k := by
  have h := sum_block (fun t => if t < k then Ideal.exp (s t) else 0) n m
  rw [sum_cut (fun t => Ideal.exp (s t)) hk] at h
  refine Eq.trans ?_ h
  unfold den
  congr 1
  · exact sum_congr rfl fun t ht => by rw [if_pos (by have := mem_range.mp ht; omega)]
  · exact sum_congr rfl fun j _ => exp_masked _ _

/-- The same of the weighted values. -/
theorem num_block (s v : ℕ → EReal) {n m k : ℕ} (hn : n ≤ k) (hk : k ≤ n + m) :
    num s v n + ∑ j : Fin m, Ideal.exp (masked (n + j.val < k) (s (n + j.val))) * v (n + j.val) = num s v k := by
  have h := sum_block (fun t => if t < k then Ideal.exp (s t) * v t else 0) n m
  rw [sum_cut (fun t => Ideal.exp (s t) * v t) hk] at h
  refine Eq.trans ?_ h
  unfold num
  congr 1
  · exact sum_congr rfl fun t ht => by rw [if_pos (by have := mem_range.mp ht; omega)]
  · refine sum_congr rfl fun j _ => ?_
    rw [exp_masked]
    split <;> simp

/-- The weights' sum of `n` keys and of a whole further block of `m`. -/
theorem den_add (s : ℕ → EReal) (n m : ℕ) : den s n + ∑ j : Fin m, Ideal.exp (s (n + j.val)) = den s (n + m) :=
  sum_block (fun t => Ideal.exp (s t)) n m

/-- The same of the weighted values. -/
theorem num_add (s v : ℕ → EReal) (n m : ℕ) :
    num s v n + ∑ j : Fin m, Ideal.exp (s (n + j.val)) * v (n + j.val) = num s v (n + m) :=
  sum_block (fun t => Ideal.exp (s t) * v t) n m

/-- A finite sum of reals, read as an extended real. -/
theorem coe_sum {ι : Type*} (S : Finset ι) (f : ι → ℝ) : ((∑ t ∈ S, f t : ℝ) : EReal) = ∑ t ∈ S, (f t : EReal) := by
  classical
  induction S using Finset.induction_on with
  | empty => simp
  | insert a S ha ih => rw [sum_insert ha, sum_insert ha, EReal.coe_add, ih]

/-- Multiplying by a real distributes over a finite sum of extended reals when the real is not negative. -/
theorem sum_mul_coe {ι : Type*} (S : Finset ι) (f : ι → EReal) {a : ℝ} (ha : 0 ≤ a) :
    (∑ t ∈ S, f t) * (a : EReal) = ∑ t ∈ S, f t * (a : EReal) := by
  classical
  induction S using Finset.induction_on with
  | empty => simp
  | insert b S hb ih =>
    rw [sum_insert hb, sum_insert hb, ← ih]
    exact EReal.right_distrib_of_nonneg_of_ne_top (EReal.coe_nonneg.mpr ha) (EReal.coe_ne_top a) _ _

/-- The product of two finite extended reals, and a finite sum of such products, is finite. -/
theorem sum_mul_real {n : ℕ} (a b : Fin n → EReal) (ha : ∀ d, ∃ x : ℝ, a d = x) (hb : ∀ d, ∃ x : ℝ, b d = x) :
    ∃ x : ℝ, (∑ d, a d * b d) = x := by
  choose x hx using ha
  choose y hy using hb
  refine ⟨∑ d, x d * y d, ?_⟩
  rw [coe_sum]
  exact sum_congr rfl fun d _ => by rw [hx, hy, EReal.coe_mul]

/-- SOFTMAX: the masked scores of `n` keys, less any real number, exponentiated, divided by their sum, and taken as the
    weights of the values, give attention over the first `k` keys, when their scores are real. -/
theorem softmax_eq (s v : ℕ → EReal) {n k : ℕ} (h0 : 0 < k) (hk : k ≤ n) (x : ℕ → ℝ) (hs : ∀ t < k, s t = x t) (μ : ℝ) :
    (∑ t : Fin n, v t.val * Ideal.div (Ideal.exp (masked (t.val < k) (s t.val) - (μ : EReal)))
        (∑ u : Fin n, Ideal.exp (masked (u.val < k) (s u.val) - (μ : EReal)))) = attend s v k := by
  have hterm : ∀ t : ℕ, Ideal.exp (masked (t < k) (s t) - (μ : EReal)) = if t < k then ((Real.exp (x t) * Real.exp (-μ) : ℝ) : EReal) else 0 := by
    intro t
    unfold masked
    split
    · next h => rw [hs t h, ← EReal.coe_sub, Ideal.exp_coe, ← Real.exp_add, sub_eq_add_neg]
    · rw [sub_eq_add_neg, EReal.bot_add, Ideal.exp_bot]
  have hsum : (∑ u : Fin n, Ideal.exp (masked (u.val < k) (s u.val) - (μ : EReal)))
      = (((∑ t ∈ range k, Real.exp (x t)) * Real.exp (-μ) : ℝ) : EReal) := by
    rw [sum_congr rfl fun u _ => hterm u.val,
      Fin.sum_univ_eq_sum_range (fun t => if t < k then ((Real.exp (x t) * Real.exp (-μ) : ℝ) : EReal) else 0),
      sum_cut (fun t => ((Real.exp (x t) * Real.exp (-μ) : ℝ) : EReal)) hk, ← coe_sum, sum_mul]
  have hZ : 0 < ∑ t ∈ range k, Real.exp (x t) := sum_pos (fun t _ => Real.exp_pos _) ⟨0, mem_range.mpr h0⟩
  have hden : den s k = ((∑ t ∈ range k, Real.exp (x t) : ℝ) : EReal) := by
    unfold den
    rw [coe_sum]
    exact sum_congr rfl fun t ht => by rw [hs t (mem_range.mp ht), Ideal.exp_coe]
  have hdiv : ∀ (y : EReal) (r : ℝ), 0 < r → Ideal.div y (r : EReal) = y * ((r⁻¹ : ℝ) : EReal) := by
    intro y r hr
    unfold Ideal.div
    rw [if_neg (by exact_mod_cast hr.ne'), EReal.coe_inv]
  have hpos : 0 < (∑ t ∈ range k, Real.exp (x t)) * Real.exp (-μ) := mul_pos hZ (Real.exp_pos _)
  rw [hsum, Fin.sum_univ_eq_sum_range (fun t => v t * Ideal.div (Ideal.exp (masked (t < k) (s t) - (μ : EReal)))
    (((∑ t ∈ range k, Real.exp (x t)) * Real.exp (-μ) : ℝ) : EReal))]
  unfold attend num
  rw [hden, hdiv _ _ hZ, sum_mul_coe _ _ (inv_nonneg.mpr hZ.le), ← sum_cut _ hk]
  refine sum_congr rfl fun t _ => ?_
  rw [hdiv _ _ hpos, hterm]
  split
  · next h =>
    rw [hs t h, Ideal.exp_coe, ← EReal.coe_mul, mul_comm (v t), mul_right_comm _ (v t), ← EReal.coe_mul]
    congr 2
    have := (Real.exp_pos (-μ)).ne'
    have := hZ.ne'
    field_simp
  · simp

/-- Attention reads its scores and values at the first `n` keys alone. -/
theorem attend_congr (s s' v v' : ℕ → EReal) (n : ℕ) (hs : ∀ t < n, s t = s' t) (hv : ∀ t < n, v t = v' t) :
    attend s v n = attend s' v' n := by
  have hd : den s n = den s' n := Finset.sum_congr rfl fun t ht => by rw [hs t (Finset.mem_range.mp ht)]
  have hn : num s v n = num s' v' n :=
    Finset.sum_congr rfl fun t ht => by rw [hs t (Finset.mem_range.mp ht), hv t (Finset.mem_range.mp ht)]
  unfold attend
  rw [hd, hn]

end Cert.Attention

end
-- ==== Proof.Spec.lean ====
/-
  The prompt's attention as a function of the three arrays: what both programs are shown to compute.
-/
module

public import proofs.«01_k».proof.Proof.Softmax
public import Idealize.ShloMosaic.Lib.Pointwise

@[expose] public section

noncomputable section

namespace Cert.Attention

open Idealize.ShloMosaic

/-- The shape of the query, key, value and result arrays. -/
abbrev Tokens : Shape := ⟨2, ![4112, 2048]⟩

/-- The scale: the value of the constant near `1/√128`. -/
abbrev scale : EReal := Ideal.ofBits .f32 0x3DB504F3#32

/-- The array's number at row `a`, column `b`; zero outside it. -/
def cell (x : Vec Ideal Tokens .f32) (a b : ℕ) : EReal := if h : a < 4112 ∧ b < 2048 then x (ix2 ⟨a, h.1⟩ ⟨b, h.2⟩) else 0

theorem cell_eq (x : Vec Ideal Tokens .f32) (i : Tokens.Idx) {a b : ℕ} (ha : (i 0).val = a) (hb : (i 1).val = b) : x i = cell x a b := by
  subst ha hb
  unfold cell
  rw [dif_pos ⟨(i 0).isLt, (i 1).isLt⟩]
  exact congrArg x (eq_ix2 i)

/-- The scaled dot product of query row `a` and key row `b` over head `h`. -/
def dot (q k : Vec Ideal Tokens .f32) (h a b : ℕ) : EReal :=
  ∑ d : Fin 128, (cell q a (128 * h + d.val) * scale) * cell k b (128 * h + d.val)

/-- The prompt's attention: row `i₀` attends over the keys of its own prompt up to itself, in the head of column `i₁`. -/
def result (q k v : Vec Ideal Tokens .f32) (i : Tokens.Idx) : EReal :=
  attend (fun t => dot q k ((i 1).val / 128) (i 0).val (2048 * ((i 0).val / 2048) + t))
    (fun t => cell v (2048 * ((i 0).val / 2048) + t) (i 1).val) ((i 0).val % 2048 + 1)

/-! ## Finite queries and keys have real scores -/

/-- Every number of the array is real. -/
def Real (x : Vec Ideal Tokens .f32) : Prop := ∀ i, ∃ r : ℝ, x i = (r : EReal)

theorem scale_real : ∃ r : ℝ, scale = (r : EReal) := by
  simp [scale, Ideal.ofBits, Ideal.ieee, -EReal.coe_mul]

theorem cell_real {x : Vec Ideal Tokens .f32} (hx : Real x) (a b : ℕ) : ∃ r : ℝ, cell x a b = (r : EReal) := by
  unfold cell
  split
  · exact hx _
  · exact ⟨0, rfl⟩

theorem dot_real {q k : Vec Ideal Tokens .f32} (hq : Real q) (hk : Real k) (h a b : ℕ) : ∃ r : ℝ, dot q k h a b = (r : EReal) := by
  refine sum_mul_real _ _ (fun d => ?_) fun d => cell_real hk _ _
  obtain ⟨x, hx⟩ := cell_real hq a (128 * h + d.val)
  obtain ⟨s, hs⟩ := scale_real
  exact ⟨x * s, by rw [hx, hs, EReal.coe_mul]⟩

/-- The largest of finitely many scores, each real or −∞ and one of them real, is real. -/
theorem max_real {n : ℕ} (f : Fin n → EReal) (hf : ∀ t, f t = ⊥ ∨ ∃ r : ℝ, f t = (r : EReal)) (h0 : ∃ t, ∃ r : ℝ, f t = (r : EReal)) :
    ∃ μ : ℝ, Finset.univ.fold max ⊥ f = (μ : EReal) := by
  have ht : Finset.univ.fold max ⊥ f < ⊤ := by
    rw [Finset.fold_max_lt]
    refine ⟨bot_lt_top, fun t _ => ?_⟩
    rcases hf t with h | ⟨r, h⟩ <;> rw [h]
    · exact bot_lt_top
    · exact EReal.coe_lt_top r
  have hb : ⊥ < Finset.univ.fold max ⊥ f := by
    rw [Finset.lt_fold_max]
    obtain ⟨t, r, h⟩ := h0
    exact .inr ⟨t, Finset.mem_univ t, h ▸ EReal.bot_lt_coe r⟩
  exact ⟨_, (EReal.coe_toReal ht.ne hb.ne').symm⟩

end Cert.Attention

end
-- ==== Proof.Payloads.lean ====
/-
  What the prompt kernel's values hold, element by element, over the extended reals: one tile's scores and weights, the
  two running sums after a tile, and the block written.
-/
module

public import proofs.«01_k».proof.Proof.Spec
public import proofs.«01_k».proof.Proof.Gen.KernelIdeal.Skeleton
public import Idealize.ShloMosaic.Lib.Pointwise

@[expose] public section

noncomputable section

namespace Cert.KernelIdeal.Attention

open Cert.KernelIdeal Cert.KernelIdeal.Gen Idealize.ShloMosaic Cert.Attention

/-- A whole tile's weight of query row `r` and key `j`: the exponential of the scaled dot product. -/
theorem pay5_apply (q : Vec Ideal S256x128 .f32) (k : Vec Ideal S512x128 .f32) (r : Fin 256) (j : Fin 512) :
    k0_pay5 (F := Ideal) q k (ix2 r j) = Ideal.exp (∑ d : Fin 128, (q (ix2 r d) * scale) * k (ix2 j d)) := by
  pointwise [k0_pay5, k0_pay2]

/-- The running sum of weighted values after a whole tile. -/
theorem pay6_apply (q : Vec Ideal S256x128 .f32) (a : FVec Ideal S256x128 .f32) (k v : Vec Ideal S512x128 .f32) (r : Fin 256) (l : Fin 128) :
    k0_pay6 (F := Ideal) q a k v (ix2 r l) = a (ix2 r l) + ∑ j : Fin 512, k0_pay5 (F := Ideal) q k (ix2 r j) * v (ix2 j l) := by
  pointwise [k0_pay6]

/-- The running sum of weights after a whole tile. -/
theorem pay7_apply (q : Vec Ideal S256x128 .f32) (a : FVec Ideal S256x1 .f32) (k : Vec Ideal S512x128 .f32) (r : Fin 256) :
    k0_pay7 (F := Ideal) q a k (ix2 r 0) = a (ix2 r 0) + ∑ j : Fin 512, k0_pay5 (F := Ideal) q k (ix2 r j) := by
  pointwise [k0_pay7]

/-- The two running sums start at zero. -/
theorem pay3_apply (j : S256x128.Idx) : k0_pay3 (F := Ideal) j = 0 := by
  pointwise [k0_pay3]

theorem pay4_apply (j : S256x1.Idx) : k0_pay4 (F := Ideal) j = 0 := by
  pointwise [k0_pay4]

/-- A selection by a signed comparison is a case distinction. -/
theorem select_sle (x y : BitVec 32) (a b : EReal) :
    Scalar.select (IntOp.cmpi .sle x y) a b = if BitVec.sle x y = true then a else b := by
  unfold Scalar.select IntOp.cmpi
  cases h : BitVec.sle x y <;> simp [h]

/-- The comparison of two small positions, as numbers: no product or sum wraps. -/
theorem sle_iff {n j m r : ℕ} (hn : n < 4) (hj : j < 512) (hm : m < 8) (hr : r < 256) :
    BitVec.sle (BitVec.ofNat 32 n * 512#32 + BitVec.ofNat 32 j) (BitVec.ofNat 32 m * 256#32 + BitVec.ofNat 32 r) = true
      ↔ 512 * n + j < 256 * m + r + 1 := by
  rw [BitVec.sle_iff_toInt_le, BitVec.toInt_eq_toNat_of_lt (by simp; omega), BitVec.toInt_eq_toNat_of_lt (by simp; omega)]
  simp
  omega

/-- A masked tile's score of query row `r` and key `j`: the scaled dot product, −∞ after the causal diagonal. -/
abbrev tileScore (qi n : BitVec 32) (q : Vec Ideal S256x128 .f32) (k : Vec Ideal S512x128 .f32) (r : Fin 256) (j : Fin 512) : EReal :=
  masked (BitVec.sle (n * 512#32 + BitVec.ofNat 32 j.val) (qi * 256#32 + BitVec.ofNat 32 r.val) = true)
    (∑ d : Fin 128, (q (ix2 r d) * scale) * k (ix2 j d))

/-- The block written: with the masked tile added, the weighted values divided by the weights. -/
theorem pay1_apply (qi n : BitVec 32) (q : Vec Ideal S256x128 .f32) (a : FVec Ideal S256x128 .f32) (b : FVec Ideal S256x1 .f32)
    (k v : Vec Ideal S512x128 .f32) (r : Fin 256) (l : Fin 128) :
    k0_pay1 (F := Ideal) qi (k0_pay2 q) n a b (k0_pay11 k) v (ix2 r l)
      = Ideal.div (a (ix2 r l) + ∑ j : Fin 512, Ideal.exp (tileScore qi n q k r j) * v (ix2 j l))
          (b (ix2 r 0) + ∑ j : Fin 512, Ideal.exp (tileScore qi n q k r j)) := by
  simp only [tileScore, ← add_mask]
  pointwise [k0_pay1, k0_pay2, k0_pay11]
  simp only [IdealRules.named_const.ideal_named_scalar κ "mask" (φ := .f32) 0xC7C35000#32 ⊥ rfl, select_sle]
  rfl

end Cert.KernelIdeal.Attention

end
-- ==== Proof.Block.lean ====
/-
  What the prompt kernel's body leaves in its output block: row by row, attention of a query row over the keys up to it.
-/
module

public import proofs.«01_k».proof.Proof.Payloads
public import proofs.«01_k».proof.Proof.Gen.KernelIdeal.Value
public import Idealize.ShloMosaic.Lib.Pipeline.ValueKit

@[expose] public section

noncomputable section

namespace Cert.KernelIdeal.Attention

open Cert.KernelIdeal Cert.KernelIdeal.Gen Idealize.ShloMosaic Cert.Attention

theorem hz : (![0, 0] : Fin 2 → Nat) = fun _ => 0 := funext fun a => by fin_cases a <;> rfl

/-! ## The kernel's integers, as numbers -/

/-- The first loop's bounds are 0 and the whole tiles before the block, `⌊i₂ / 2⌋`. -/
theorem trips_t1 (i : grid0.Coords) : (k0_t1_loop i).trips = (i 2).val / 2 := by
  have h : (i 2).val < 8 := (i 2).isLt
  unfold k0_t1_loop
  generalize (i 2).val = n at h ⊢
  interval_cases n <;> decide

/-- The second loop has no trip. -/
theorem trips_t2 (i : grid0.Coords) : (k0_t2_loop i).trips = 0 := Nat.le_zero.mp (k0_t2_abs i).2.1

/-- Trip `t` of the first loop reads the 512 rows from `512 t`. -/
theorem off1_eq (i : grid0.Coords) (t : Fin (k0_t1_loop i).trips) : k0_off1 i t = ![512 * t.val, 0] := by
  have h : t.val < 4 := by have := t.isLt; have := trips_t1 i; have : (i 2).val < 8 := (i 2).isLt; omega
  unfold k0_off1
  generalize t.val = n at h ⊢
  interval_cases n <;> rfl

/-- The masked tile is the 512 rows from `512 ⌊i₂ / 2⌋`. -/
theorem off3_eq (i : grid0.Coords) : k0_off3 i = ![512 * ((i 2).val / 2), 0] := by
  have h : (i 2).val < 8 := (i 2).isLt
  unfold k0_off3
  generalize (i 2).val = n at h ⊢
  interval_cases n <;> rfl

/-- Its number is `⌊i₂ / 2⌋`. -/
theorem v21_eq (i : grid0.Coords) : kernelRun0_A.sl.v21 i = BitVec.ofNat 32 ((i 2).val / 2) := by
  have h : (i 2).val < 8 := (i 2).isLt
  sl_unfold_words
  generalize (i 2).val = n at h ⊢
  interval_cases n <;> rfl

/-! ## The block's rows of keys and values -/

/-- Column `d` of row `t` of a 2048-row block, zero past its end. -/
def row (k : Vec Ideal S2048x128 .f32) (d : Fin 128) (t : ℕ) : EReal := if h : t < 2048 then k (ix2 ⟨t, h⟩ d) else 0

/-- The score of query row `r` and key `t`: the scaled dot product. -/
def score (q : Vec Ideal S256x128 .f32) (k : Vec Ideal S2048x128 .f32) (r : Fin 256) (t : ℕ) : EReal :=
  ∑ d : Fin 128, (q (ix2 r d) * scale) * row k d t

/-- A load of 512 rows from row `o` of the block, read at an element. -/
theorem ld_row (k : Vec Ideal S2048x128 .f32) (off : Fin 2 → ℕ) (o : ℕ) (ho : off = ![o, 0]) (inb) (j : Fin 512) (d : Fin 128) :
    View.ld (Val := Elt Ideal) (e' := .f32) k (Rect.unit (s := S2048x128) off S512x128.size inb) (ix2 j d) = row k d (o + j.val) := by
  subst ho
  have hb : o + 512 ≤ 2048 := inb 0
  have hj := j.isLt
  unfold row
  rw [dif_pos (by omega), View.ld_apply]
  congr 1
  funext a
  apply Fin.ext
  match a with
  | ⟨0, _⟩ => show o + 1 * j.val = o + j.val; omega
  | ⟨1, _⟩ => show 0 + 1 * d.val = d.val; omega

/-! ## The loop: the two running sums -/

section Loop

variable (c : Dev nD) (i : grid0.Coords) (a3 : Memref sig .tc .vmem S256x128 .f32) (h3 : a3.IsWhole)
  (a4 : Memref sig .tc .vmem S2048x128 .f32) (h4 : a4.IsWhole) (a5 : Memref sig .tc .vmem S2048x128 .f32) (h5 : a5.IsWhole)
  (a6 : Memref sig .tc .vmem S256x128 .f32) (h6 : a6.IsWhole)
  (q : Vec Ideal S256x128 .f32) (k v : Vec Ideal S2048x128 .f32)

/-- The carried pair before trip `n`: the weighted values and the weights of the first `512 n` keys. -/
def Sums (n : ℕ) (p : FVec Ideal S256x128 .f32 × FVec Ideal S256x1 .f32) : Prop :=
  (∀ r l, p.1 (ix2 r l) = num (score q k r) (row v l) (512 * n)) ∧ ∀ r, p.2 (ix2 r 0) = den (score q k r) (512 * n)

/-- One trip adds a tile of 512 keys to both sums. -/
theorem trip_sums (𝒱 : Variants) (bd : Option 𝒱.V) (t : Fin (k0_t1_loop i).trips) (p) (hp : Sums q k v t.val p) :
    Sums q k v (t.val + 1) (tripR_k0_t1 𝒱 c bd i a3 h3 a4 h4 a5 h5 a6 h6 q (h4.unread k) (h5.unread v) t p) := by
  unfold tripR_k0_t1 trip_k0_t1
  dsimp only
  simp only [View.readAt_eq_ld, h4.read_unread, h5.read_unread, shapeCast_self]
  have e : 512 * (t.val + 1) = 512 * t.val + 512 := by omega
  constructor
  · intro r l
    rw [e, ← num_add]
    simp only [pay6_apply, pay5_apply, hp.1 r l]
    exact congrArg (_ + ·) (Finset.sum_congr rfl fun j _ => congrArg₂ (fun a b => Ideal.exp a * b)
      (Finset.sum_congr rfl fun d _ => congrArg (_ * ·) (ld_row k _ _ (off1_eq i t) _ j d)) (ld_row v _ _ (off1_eq i t) _ j l))
  · intro r
    rw [e, ← den_add]
    simp only [pay7_apply, pay5_apply, hp.2 r]
    exact congrArg (_ + ·) (Finset.sum_congr rfl fun j _ => congrArg Ideal.exp
      (Finset.sum_congr rfl fun d _ => congrArg (_ * ·) (ld_row k _ _ (off1_eq i t) _ j d)))

/-- The carried pair before every trip, from zeros. -/
theorem loop_sums (𝒱 : Variants) (bd : Option 𝒱.V) : ∀ n, n ≤ (k0_t1_loop i).trips →
    Sums q k v n (st_k0_t1 𝒱 c bd i a3 h3 a4 h4 a5 h5 a6 h6 q (h4.unread k) (h5.unread v) (k0_pay3, k0_pay4) n)
  | 0, _ => by
    rw [st_k0_t1_zero]
    refine ⟨fun r l => ?_, fun r => ?_⟩
    · show k0_pay3 (F := Ideal) (ix2 r l) = _
      rw [pay3_apply]; simp [num]
    · show k0_pay4 (F := Ideal) (ix2 r 0) = _
      rw [pay4_apply]; simp [den]
  | n + 1, h => by
    have := st_k0_t1_succ 𝒱 c bd i a3 h3 a4 h4 a5 h5 a6 h6 q (h4.unread k) (h5.unread v) (k0_pay3, k0_pay4) ⟨n, h⟩
    dsimp only at this
    rw [this]
    exact trip_sums c i a3 h3 a4 h4 a5 h5 a6 h6 q k v 𝒱 bd ⟨n, h⟩ _ (loop_sums 𝒱 bd n (Nat.le_of_lt h))

/-- THE BLOCK: row `r` of the output block is attention of query row `r` over the first `256 i₂ + r + 1` keys. -/
theorem out_apply (r : Fin 256) (l : Fin 128) :
    out0_A_3 c i a3 h3 a4 h4 a5 h5 a6 h6 q k v (ix2 r l) = attend (score q k r) (row v l) (256 * (i 2).val + r.val + 1) := by
  have hi : (i 2).val < 8 := (i 2).isLt
  have hr := r.isLt
  unfold out0_A_3
  rw [View.read_writes_eq_canon _ _ _ (cover0_A_3 c i a3 h3 a4 h4 a5 h5 a6 h6 q k v)]
  unfold kernelRun0_A
  dsimp only
  rw [View.canon_unit_zero hz, v21_eq]
  simp only [View.readAt_eq_ld, h5.read_unread]
  rw [show kernelRun0_A.sl.r c a3 h3 q = k0_pay2 q from by
      unfold kernelRun0_A.sl.r; simp only [View.readAt_eq_ld, h3.read_unread, View.ld_unit_zero (S := S256x128) hz],
    show kernelRun0_A.sl.r_3 i a4 h4 k = k0_pay11 (View.ld k (Rect.unit (k0_off3 i) S512x128.size (k0_off3_inb i))) from by
      unfold kernelRun0_A.sl.r_3; simp only [View.readAt_eq_ld, h4.read_unread]]
  unfold kernelRun0_A.sl.r_1 kernelRun0_A.sl.r_2
  simp only [View.readAt_eq_ld, h3.read_unread, View.ld_unit_zero (S := S256x128) hz]
  rw [show Scf.trips (k0_t2_loop i).lb (k0_t2_loop i).ub (k0_t2_loop i).st = 0 from trips_t2 i,
    show Scf.trips (k0_t1_loop i).lb (k0_t1_loop i).ub (k0_t1_loop i).st = (i 2).val / 2 from trips_t1 i, st_k0_t2_zero]
  dsimp only
  obtain ⟨ha, hb⟩ := loop_sums c i a3 h3 a4 h4 a5 h5 a6 h6 q k v Variants.none none ((i 2).val / 2) (trips_t1 i).ge
  rw [pay1_apply, ha, hb]
  unfold attend
  have hn : 512 * ((i 2).val / 2) ≤ 256 * (i 2).val + r.val + 1 := by omega
  have hk : 256 * (i 2).val + r.val + 1 ≤ 512 * ((i 2).val / 2) + 512 := by omega
  rw [← num_block _ _ hn hk, ← den_block _ hn hk]
  have ht : ∀ j : Fin 512, tileScore (BitVec.ofNat 32 (i 2).val) (BitVec.ofNat 32 ((i 2).val / 2)) q
      (View.ld k (Rect.unit (k0_off3 i) S512x128.size (k0_off3_inb i))) r j
      = masked (512 * ((i 2).val / 2) + j.val < 256 * (i 2).val + r.val + 1) (score q k r (512 * ((i 2).val / 2) + j.val)) := by
    intro j
    unfold tileScore masked
    simp only [sle_iff (show (i 2).val / 2 < 4 by omega) j.isLt hi hr]
    exact congrArg (fun z => ite _ z ⊥) (Finset.sum_congr rfl fun d _ => congrArg (_ * ·) (ld_row k _ _ (off3_eq i) _ j d))
  simp only [ht]
  refine congrArg (fun z => Ideal.div (_ + z) _) (Finset.sum_congr rfl fun j _ => ?_)
  exact congrArg (_ * ·) (ld_row _ _ _ (off3_eq i) _ j l)

end Loop

end Cert.KernelIdeal.Attention

end
-- ==== Proof.Array.lean ====
/-
  What the prompt kernel's result array holds at a prompt row: attention of that row's query over the keys of its own prompt up to it.
-/
module

public import proofs.«01_k».proof.Proof.Block

@[expose] public section

noncomputable section

namespace Cert.KernelIdeal.Attention

open Cert.KernelIdeal Cert.KernelIdeal.Gen Idealize.ShloMosaic Idealize.ShloMosaic.TcCoe Idealize.SL.Sem Cert.Attention
open Idealize.ShloMosaic.Pipeline (Dat)

variable (m : (ℓ : Loc nD τ sig) → Buf (Elt Ideal) ℓ) (c : Dev nD)

/-! ## Where a point's blocks sit -/

theorem index0 : ∀ t : Fin cfg0.N, win0_0.index t 0 = 8 * (grid0.coords t 0).val + (grid0.coords t 2).val
    ∧ win0_0.index t 1 = (grid0.coords t 1).val := by decide +kernel
theorem index1 : ∀ t : Fin cfg0.N, win0_1.index t 0 = (grid0.coords t 0).val ∧ win0_1.index t 1 = (grid0.coords t 1).val := by decide +kernel
theorem index2 : ∀ t : Fin cfg0.N, win0_2.index t 0 = (grid0.coords t 0).val ∧ win0_2.index t 1 = (grid0.coords t 1).val := by decide +kernel
theorem index3 : ∀ t : Fin cfg0.N, win0_3.index t 0 = 8 * (grid0.coords t 0).val + (grid0.coords t 2).val
    ∧ win0_3.index t 1 = (grid0.coords t 1).val := by decide +kernel
theorem xsize3 : ∀ t : Fin cfg0.N, win0_3.xsize (grid0.coords t) 0 = 256 ∧ win0_3.xsize (grid0.coords t) 1 = 128 := by decide +kernel

/-- Grid point `(b, h, a)`. -/
def point (b h a : ℕ) (hb : b < 2) (hh : h < 16) (ha : a < 8) : Fin cfg0.N := ⟨128 * b + 8 * h + a, by show _ < grid0.N; rw [N_0]; omega⟩

theorem coords_point : ∀ t : Fin cfg0.N, (grid0.coords t 0).val = t.val / 128 ∧ (grid0.coords t 1).val = t.val / 8 % 16
    ∧ (grid0.coords t 2).val = t.val % 8 := by decide +kernel

/-! ## The blocks a point reads -/

theorem X0_apply (t : Fin cfg0.N) (r : Fin 256) (d : Fin 128) :
    (X0_0 m c t : Vec Ideal S256x128 .f32) (ix2 r d) = cell (m ((c : Thread nD τ).loc main_arg0))
      (2048 * (grid0.coords t 0).val + 256 * (grid0.coords t 2).val + r.val) (128 * (grid0.coords t 1).val + d.val) := by
  unfold X0_0 Pipeline.Window.fill
  rw [dif_pos (moved0_0 t _)]
  unfold iblk
  rw [View.read_apply]
  refine cell_eq _ _ ?_ ?_
  · show win0_0.index t 0 * 256 + 1 * r.val = _
    rw [(index0 t).1]; omega
  · show win0_0.index t 1 * 128 + 1 * d.val = _
    rw [(index0 t).2]; omega

theorem X1_apply (t : Fin cfg0.N) (r : Fin 2048) (d : Fin 128) :
    (X0_1 m c t : Vec Ideal S2048x128 .f32) (ix2 r d) = cell (m ((c : Thread nD τ).loc main_arg1))
      (2048 * (grid0.coords t 0).val + r.val) (128 * (grid0.coords t 1).val + d.val) := by
  unfold X0_1 Pipeline.Window.fill
  rw [dif_pos (moved0_1 t _)]
  unfold iblk
  rw [View.read_apply]
  refine cell_eq _ _ ?_ ?_
  · show win0_1.index t 0 * 2048 + 1 * r.val = _
    rw [(index1 t).1]; omega
  · show win0_1.index t 1 * 128 + 1 * d.val = _
    rw [(index1 t).2]; omega

theorem X2_apply (t : Fin cfg0.N) (r : Fin 2048) (d : Fin 128) :
    (X0_2 m c t : Vec Ideal S2048x128 .f32) (ix2 r d) = cell (m ((c : Thread nD τ).loc main_arg2))
      (2048 * (grid0.coords t 0).val + r.val) (128 * (grid0.coords t 1).val + d.val) := by
  unfold X0_2 Pipeline.Window.fill
  rw [dif_pos (moved0_2 t _)]
  unfold iblk
  rw [View.read_apply]
  refine cell_eq _ _ ?_ ?_
  · show win0_2.index t 0 * 2048 + 1 * r.val = _
    rw [(index2 t).1]; omega
  · show win0_2.index t 1 * 128 + 1 * d.val = _
    rw [(index2 t).2]; omega

/-! ## The block a point writes -/

/-- The block of point `(b, h, a)` is the result's rows from `2048 b + 256 a`, columns of head `h`. -/
theorem out_eq (t : Fin cfg0.N) (r : Fin 256) (l : Fin 128) (i : S4112x2048.Idx)
    (h0 : (i 0).val = 2048 * (grid0.coords t 0).val + 256 * (grid0.coords t 2).val + r.val)
    (h1 : (i 1).val = 128 * (grid0.coords t 1).val + l.val) :
    out0_A_3 c (grid0.coords t) (ms0_0 t) (hs0_0 t) (ms0_1 t) (hs0_1 t) (ms0_2 t) (hs0_2 t) (ms0_3 t) (hs0_3 t)
        (X0_0 m c t) (X0_1 m c t) (X0_2 m c t) (ix2 r l)
      = result (m ((c : Thread nD τ).loc main_arg0)) (m ((c : Thread nD τ).loc main_arg1)) (m ((c : Thread nD τ).loc main_arg2)) i := by
  have hi : (grid0.coords t 2).val < 8 := (grid0.coords t 2).isLt
  have hr := r.isLt
  have hl := l.isLt
  have e0 : (i 0).val / 2048 = (grid0.coords t 0).val := by omega
  have e1 : (i 1).val / 128 = (grid0.coords t 1).val := by omega
  have e2 : (i 0).val % 2048 + 1 = 256 * (grid0.coords t 2).val + r.val + 1 := by omega
  rw [out_apply]
  unfold result
  rw [e0, e1, e2]
  refine attend_congr _ _ _ _ _ (fun u hu => ?_) fun u hu => ?_
  · have hu' : u < 2048 := by omega
    refine Finset.sum_congr rfl fun d _ => ?_
    rw [X0_apply, row, dif_pos hu', X1_apply, h0]
  · have hu' : u < 2048 := by omega
    rw [row, dif_pos hu', X2_apply, h1]

/-- At a prompt row, the array after the run holds the prompt's attention. -/
theorem final (i : S4112x2048.Idx) (hi : (i 0).val < 4096) :
    (dats m 0 c).arrAt 3 cfg0.N i
      = result (m ((c : Thread nD τ).loc main_arg0)) (m ((c : Thread nD τ).loc main_arg1)) (m ((c : Thread nD τ).loc main_arg2)) i := by
  have h1 : (i 1).val < 2048 := (i 1).isLt
  refine (dats m 0 c).arrAt_apply_of_mem 3
    (result (m ((c : Thread nD τ).loc main_arg0)) (m ((c : Thread nD τ).loc main_arg1)) (m ((c : Thread nD τ).loc main_arg2)))
    (fun t _ => ?_) cfg0.N (point ((i 0).val / 2048) ((i 1).val / 128) ((i 0).val % 2048 / 256) (by omega) (by omega) (by omega)) i
    (Fin.isLt _) (flush0_3 _) ?_
  · rw [Value.flushed3_A]
    funext y
    rw [View.read_apply]
    have y0 : (y 0).val < 256 := by have := (y 0).isLt; rw [← (xsize3 t).1]; exact this
    have y1 : (y 1).val < 128 := by have := (y 1).isLt; rw [← (xsize3 t).2]; exact this
    have e : (cfg0.win 3).xinj (grid0.coords t) y = (ix2 ⟨(y 0).val, y0⟩ ⟨(y 1).val, y1⟩ : S256x128.Idx) := by
      funext a
      apply Fin.ext
      match a with
      | ⟨0, _⟩ => rfl
      | ⟨1, _⟩ => rfl
    show out0_A_3 _ _ _ _ _ _ _ _ _ _ _ _ _ ((cfg0.win 3).xinj (grid0.coords t) y) = _
    rw [e]
    refine out_eq m c t _ _ _ ?_ ?_
    · show win0_3.index t 0 * 256 + 1 * (y 0).val = _
      rw [(index3 t).1]; show _ = _ + (y 0).val; omega
    · show win0_3.index t 1 * 128 + 1 * (y 1).val = _
      rw [(index3 t).2]; show _ = _ + (y 1).val; omega
  · generalize hp : point ((i 0).val / 2048) ((i 1).val / 128) ((i 0).val % 2048 / 256) _ _ _ = t
    have ht : t.val = 128 * ((i 0).val / 2048) + 8 * ((i 1).val / 128) + (i 0).val % 2048 / 256 := by rw [← hp]; rfl
    obtain ⟨c0, c1, c2⟩ := coords_point t
    show i ∈ ((View.whole main_v0).slice (win0_3.rect t)).set
    rw [View.set_slice_whole, Rect.mem_set_unit]
    intro a
    match a with
    | ⟨0, _⟩ =>
      show win0_3.index t 0 * 256 ≤ (i 0).val ∧ (i 0).val < win0_3.index t 0 * 256 + win0_3.xsize (grid0.coords t) 0
      rw [(index3 t).1, (xsize3 t).1]; omega
    | ⟨1, _⟩ =>
      show win0_3.index t 1 * 128 ≤ (i 1).val ∧ (i 1).val < win0_3.index t 1 * 128 + win0_3.xsize (grid0.coords t) 1
      rw [(index3 t).2, (xsize3 t).2]; omega

end Cert.KernelIdeal.Attention

end
-- ==== Proof.RefValue.lean ====
/-
  What the reference computes: at a prompt token's row, with finite queries and keys, the attention of `Spec`.
-/
module

public import proofs.«01_k».proof.Proof.Spec
public import proofs.«01_k».proof.Proof.Gen.ReferenceIdeal.Read
public import Idealize.ShloMosaic.Lib.KernelVsHost

@[expose] public section

noncomputable section

namespace Cert.ReferenceIdeal.Attention

open Idealize.ShloMosaic Cert.ReferenceIdeal.Gen Cert.ReferenceIdeal.Read Cert.Attention

/-! ## The operands by prompt, token, head and column -/

/-- Position `(b, t, h, d)` of the prompts' tokens is row `2048·b + t` … -/
theorem row_of (b t h d : ℕ) (ht : t < 2048) (hh : h < 16) (hd : d < 128) :
    ((((b * 2048 + t) * 16 + h) * 128 + d) / 2048 * 16 + (((b * 2048 + t) * 16 + h) * 128 + d) / 128 % 16) * 128
      + (((b * 2048 + t) * 16 + h) * 128 + d) % 128 = 2048 * (2048 * b + t) + (128 * h + d) := by omega

/-- The reference's view of the queries, keys or values at `(b, t, h, d)` is the array's number at row `2048·b + t`, column `128·h + d`. -/
theorem view_eq (x : Vec Ideal Tokens .f32) (j : S2x2048x16x128.Idx) :
    val_main_v4 (F := Ideal) x j = cell x (2048 * (j 0).val + (j 1).val) (128 * (j 2).val + (j 3).val) := by
  have h := row_of (j 0).val (j 1).val (j 2).val (j 3).val (j 1).isLt (j 2).isLt (j 3).isLt
  have h2 : (j 2).val < 16 := (j 2).isLt
  have h3 : (j 3).val < 128 := (j 3).isLt
  rw [val_main_v4_apply, val_main_v3_apply, val_main_v0_apply]
  exact cell_eq x _ ((congrArg (· / 2048) h).trans (by dsimp only; omega)) ((congrArg (· % 2048) h).trans (by dsimp only; omega))

/-- The score of token `j₂` with token `j₃`, in head `j₁` of prompt `j₀`, before the mask. -/
theorem score_eq (q k : Vec Ideal Tokens .f32) (j : S2x16x2048x2048.Idx) :
    val_main_v11 (F := Ideal) q k j
      = dot q k (j 1).val (2048 * (j 0).val + (j 2).val) (2048 * (j 0).val + (j 3).val) := by
  rw [val_main_v11_apply]
  refine Finset.sum_congr rfl fun d _ => ?_
  exact congrArg₂ (· * ·) (congrArg (· * scale) (view_eq q (lidx_main_v11 j d))) (view_eq k (ridx_main_v11 j d))

/-! ## The causal mask -/

theorem sle_iff (a b : ℕ) (ha : a < 2048) (hb : b < 2048) :
    BitVec.sle (BitVec.ofNat 32 a) (BitVec.ofNat 32 b) = true ↔ a < b + 1 := by
  rw [BitVec.sle_iff_toInt_le, BitVec.toInt_eq_toNat_of_lt (by simp; omega), BitVec.toInt_eq_toNat_of_lt (by simp; omega)]
  simp
  omega

/-- The mask is 0 up to the token itself and −∞ after it. -/
theorem mask_eq (j : S2x16x2048x2048.Idx) :
    val_main_v17 (F := Ideal) j = if (j 3).val < (j 2).val + 1 then 0 else ⊥ := by
  rw [val_main_v17_apply, val_main_v16_apply, val_main_v15_apply, val_main_v14_apply, val_main_v13_apply, val_main_v12_apply,
    val_main_call0_v0_apply, val_main_call0_v1_apply, val_main_cst_0_apply, val_main_cst_1_apply]
  have h0 : (FloatOps.ofBits .f32 0x00000000#32 : Ideal .f32) = (0 : EReal) := by
    show Ideal.ofBits .f32 0x00000000#32 = 0
    simp [Ideal.ofBits, Ideal.ieee]
  have hb : (FloatOps.ofBits .f32 0xFF800000#32 : Ideal .f32) = (⊥ : EReal) := by
    show Ideal.ofBits .f32 0xFF800000#32 = ⊥
    simp [Ideal.ofBits, Ideal.ieee]
  rw [h0, hb]
  show Scalar.select (BitVec.ofBool (BitVec.sle (BitVec.ofNat 32 (j 3).val) (BitVec.ofNat 32 (j 2).val))) (0 : EReal) ⊥ = _
  have e := sle_iff (j 3).val (j 2).val (j 3).isLt (j 2).isLt
  by_cases h : (j 3).val < (j 2).val + 1
  · rw [if_pos h, e.2 h]
    rfl
  · rw [if_neg h, Bool.eq_false_iff.2 fun hs => h (e.1 hs)]
    rfl

/-- The masked score. -/
theorem masked_eq (q k : Vec Ideal Tokens .f32) (j : S2x16x2048x2048.Idx) :
    val_main_v18 (F := Ideal) q k j
      = masked ((j 3).val < (j 2).val + 1) (dot q k (j 1).val (2048 * (j 0).val + (j 2).val) (2048 * (j 0).val + (j 3).val)) := by
  rw [val_main_v18_apply, score_eq, mask_eq]
  exact add_mask _ _

/-! ## The softmax's maximum is real -/

theorem maximum_real {q k : Vec Ideal Tokens .f32} (hq : Real q) (hk : Real k) (j : S2x16x2048.Idx) :
    ∃ μ : ℝ, val_main_v21 (F := Ideal) q k j = (μ : EReal) := by
  have hR : S2x16x2048x2048.Reduces [3] S2x16x2048 := by decide
  have hb : (FloatOps.ofBits .f32 0xFF800000#32 : Ideal .f32) = (⊥ : EReal) := by
    show Ideal.ofBits .f32 0xFF800000#32 = ⊥
    simp [Ideal.ofBits, Ideal.ieee]
  rw [val_main_v21_apply, val_main_v20_apply, val_main_cst_3_apply, hb]
  unfold val_main_v19
  rw [Host.reduce_eq_fold_single FloatOps.maximumf _ _ reducesTo_S2x16x2048x2048_S2x16x2048_d3 hR h_S_]
  rw [val_main_cst_2_apply, hb]
  have hl : ∀ t : Fin 2048, hR.lift j t = idx_main_v26 j t := fun t => funext fun a => Fin.ext (by
    match a with
    | ⟨0, _⟩ => rfl
    | ⟨1, _⟩ => rfl
    | ⟨2, _⟩ => rfl
    | ⟨3, _⟩ => rfl)
  obtain ⟨μ, hμ⟩ := max_real (n := 2048) (fun t => val_main_v18 (F := Ideal) q k (hR.lift j t)) (fun t => by
      rw [hl, masked_eq]
      unfold masked
      split
      · exact .inr (dot_real hq hk _ _ _)
      · exact .inl rfl) ⟨⟨0, by decide⟩, by
      rw [hl, masked_eq]
      unfold masked
      rw [if_pos (Nat.succ_pos _)]
      exact dot_real hq hk _ _ _⟩
  exact ⟨μ, (max_eq_right bot_le).trans hμ⟩

/-! ## The result -/

/-- The weight of token `j₃` for token `j₂`: the exponential over the sum of the exponentials. -/
theorem weight_eq (q k : Vec Ideal Tokens .f32) (j : S2x16x2048x2048.Idx) (μ : ℝ)
    (hμ : val_main_v21 (F := Ideal) q k (idx_main_v22 (idx_main_v23 j)) = (μ : EReal)) :
    val_main_v29 (F := Ideal) q k j
      = Ideal.div (Ideal.exp (masked ((j 3).val < (j 2).val + 1) (dot q k (j 1).val (2048 * (j 0).val + (j 2).val) (2048 * (j 0).val + (j 3).val)) - μ))
        (∑ u : Fin 2048, Ideal.exp (masked (u.val < (j 2).val + 1) (dot q k (j 1).val (2048 * (j 0).val + (j 2).val) (2048 * (j 0).val + u.val)) - μ)) := by
  have he : ∀ u : S2x16x2048x2048.Idx, idx_main_v22 (idx_main_v23 u) = idx_main_v22 (idx_main_v23 j) →
      val_main_v25 (F := Ideal) q k u
        = Ideal.exp (masked ((u 3).val < (u 2).val + 1) (dot q k (u 1).val (2048 * (u 0).val + (u 2).val) (2048 * (u 0).val + (u 3).val)) - μ) := fun u hu => by
    rw [val_main_v25_apply, val_main_v24_apply, val_main_v23_apply, val_main_v22_apply, hu, hμ, masked_eq]
    rfl
  rw [val_main_v29_apply, val_main_v28_apply, val_main_v27_apply, val_main_v26_apply, he j rfl]
  refine congrArg (Ideal.div _) ?_
  have h0 : val_main_cst_4 (F := Ideal) (Shape.Idx.first h_S_) = (0 : EReal) := by
    rw [val_main_cst_4_apply]
    show Ideal.ofBits .f32 0x00000000#32 = 0
    simp [Ideal.ofBits, Ideal.ieee]
  rw [h0, zero_add]
  exact Finset.sum_congr rfl fun u _ => he _ rfl

/-- With finite queries and keys, the reference's prompt output of token `j₃`, head `j₁`, column `j₂` is the attention. -/
theorem out_eq {q k : Vec Ideal Tokens .f32} (v : Vec Ideal Tokens .f32) (hq : Real q) (hk : Real k) (j : S2x16x128x2048.Idx) :
    val_main_v30 (F := Ideal) q k v j
      = attend (fun t => dot q k (j 1).val (2048 * (j 0).val + (j 3).val) (2048 * (j 0).val + t))
          (fun t => cell v (2048 * (j 0).val + t) (128 * (j 1).val + (j 2).val)) ((j 3).val + 1) := by
  obtain ⟨μ, hμ⟩ := maximum_real hq hk (idx_main_v22 (idx_main_v23 (ridx_main_v30 j ⟨0, by decide⟩)))
  have hx := fun t => dot_real hq hk (j 1).val (2048 * (j 0).val + (j 3).val) (2048 * (j 0).val + t)
  choose x hx using hx
  have hj : (j 3).val < 2048 := (j 3).isLt
  refine (val_main_v30_apply q k v j).trans (Eq.trans ?_ (softmax_eq (n := 2048) _ _ (Nat.succ_pos _) (show (j 3).val + 1 ≤ 2048 by omega) x (fun t _ => hx t) μ))
  exact Finset.sum_congr rfl fun t _ => congrArg₂ (· * ·) (view_eq v (lidx_main_v30 j t)) (weight_eq q k (ridx_main_v30 j t) μ hμ)

/-- With finite queries and keys, the reference at a prompt token's row is `result`. -/
theorem final {q k : Vec Ideal Tokens .f32} (v : Vec Ideal Tokens .f32) (hq : Real q) (hk : Real k) (i : S4112x2048.Idx) (hi : (i 0).val < 4096) :
    val_main_v33 (F := Ideal) q k v i = result q k v i := by
  have h1 : (i 1).val < 2048 := (i 1).isLt
  unfold val_main_v33
  rw [pad_apply_of_inside _ _ _ _ _ pads_S4096x2048_S4112x2048_0160_000 h_S_ i (ix2 ⟨(i 0).val, hi⟩ ⟨(i 1).val, h1⟩) (fun a => by
    match a with
    | ⟨0, _⟩ => show (i 0).val = 0 + (i 0).val * (0 + 1); omega
    | ⟨1, _⟩ => show (i 1).val = 0 + (i 1).val * (0 + 1); omega)]
  rw [val_main_v32_apply, val_main_v31_apply, out_eq v hq hk]
  unfold result
  have e0 : ((i 0).val * 2048 + (i 1).val) / 4194304 = (i 0).val / 2048 := by omega
  have e1 : ((i 0).val * 2048 + (i 1).val) / 2048 % 2048 = (i 0).val % 2048 := by omega
  have e2 : ((i 0).val * 2048 + (i 1).val) / 128 % 16 = (i 1).val / 128 := by omega
  have e3 : 128 * ((i 1).val / 128) + ((i 0).val * 2048 + (i 1).val) % 128 = (i 1).val := by omega
  have e4 : 2048 * ((i 0).val / 2048) + (i 0).val % 2048 = (i 0).val := by omega
  show attend (fun t => dot q k (((i 0).val * 2048 + (i 1).val) / 128 % 16) (2048 * (((i 0).val * 2048 + (i 1).val) / 4194304) + ((i 0).val * 2048 + (i 1).val) / 2048 % 2048) (2048 * (((i 0).val * 2048 + (i 1).val) / 4194304) + t))
    (fun t => cell v (2048 * (((i 0).val * 2048 + (i 1).val) / 4194304) + t) (128 * (((i 0).val * 2048 + (i 1).val) / 128 % 16) + ((i 0).val * 2048 + (i 1).val) % 128))
    (((i 0).val * 2048 + (i 1).val) / 2048 % 2048 + 1) = _
  rw [e0, e1, e2, e3, e4]

end Cert.ReferenceIdeal.Attention

end
-- ==== Proof.Domain.lean ====
/-
  What the claim's precondition and its mask of rows say: the queries and keys are real numbers; the row is a prompt token's.
-/
module

public import proofs.«01_k».proof.Proof.Spec
public import proofs.«01_k».proof.Pre_finite_qk
public import proofs.«01_k».proof.On_prompt_rows
public import Idealize.ShloMosaic.Lib.Pointwise.Select

@[expose] public section

noncomputable section

namespace Cert.Attention

open Idealize.ShloMosaic

theorem pre_facts : Cert.Pre_finite_qk.Facts := ⟨by decide⟩

theorem rows_facts : Cert.On_prompt_rows.Facts := ⟨by decide⟩

/-- An extended real of magnitude less than ⊤ is real. -/
theorem real_of_abs_lt (x : EReal) (h : max x (-x) < ⊤) : ∃ r : ℝ, x = (r : EReal) := by
  rw [max_lt_iff] at h
  refine ⟨_, (EReal.coe_toReal h.1.ne fun hb => ?_).symm⟩
  rw [hb] at h
  exact absurd h.2 (by simp)

/-- Where the precondition holds, every query and every key is real. -/
theorem real_of_pre [Cert.Pre_finite_qk.Facts] (q k v : Vec Ideal Tokens .f32)
    (h : Cert.Pre_finite_qk.fn (F := Ideal) q k v = fun _ => 1#1) : Real q ∧ Real k := by
  have ht : (FloatOps.ofBits .f32 0x7F800000#32 : Ideal .f32) = (⊤ : EReal) := by
    show Ideal.ofBits .f32 0x7F800000#32 = ⊤
    simp [Ideal.ofBits, Ideal.ieee]
  have hand : ∀ a b : BitVec 1, a &&& b = 1#1 → a = 1#1 ∧ b = 1#1 := by decide
  have hi : ∀ i : Tokens.Idx, Ideal.cmp .olt (max (q i) (-(q i))) (FloatOps.ofBits .f32 0x7F800000#32 : Ideal .f32) = 1#1
      ∧ Ideal.cmp .olt (max (k i) (-(k i))) (FloatOps.ofBits .f32 0x7F800000#32 : Ideal .f32) = 1#1 := fun i => hand _ _ (congrFun h i)
  rw [ht] at hi
  exact ⟨fun i => real_of_abs_lt _ ((Ideal.cmp_olt_eq_one _ _).1 (hi i).1), fun i => real_of_abs_lt _ ((Ideal.cmp_olt_eq_one _ _).1 (hi i).2)⟩

/-- Where the mask of rows is set, the row is one of the first 4096. -/
theorem row_lt_of_rows [Cert.On_prompt_rows.Facts] (q k v : Vec Ideal Tokens .f32) (i : Tokens.Idx)
    (h : Cert.On_prompt_rows.fn (F := Ideal) q k v i = 1#1) : (i 0).val < 4096 := by
  have h0 : (i 0).val < 4112 := (i 0).isLt
  have hs : BitVec.slt (BitVec.ofNat 32 (i 0).val) 4096#32 = true := by
    have hb : BitVec.ofBool (BitVec.slt (BitVec.ofNat 32 (i 0).val) 4096#32) = 1#1 := h
    revert hb
    cases BitVec.slt (BitVec.ofNat 32 (i 0).val) 4096#32 <;> simp
  rw [BitVec.slt_iff_toInt_lt, BitVec.toInt_eq_toNat_of_lt (by simp; omega), BitVec.toInt_eq_toNat_of_lt (by simp)] at hs
  simp at hs
  omega

end Cert.Attention

end
-- ==== Proof.DecodeKernelOk.lean ====
/-
  Where the block tables' words name blocks, every block the decode program copies lies inside its array: the words of the
  table the host computes are words of the block tables.
-/
module

public import proofs.«01_k».proof.Proof.Gen.Decode.Frame.Runs

@[expose] public section

noncomputable section

namespace Cert.Decode.Attention

open Cert.Decode Cert.Decode.Gen Idealize.ShloMosaic Idealize.ShloMosaic.TcCoe Idealize.ShloMosaic.Tactic

/-- The last page a length reaches: `⌊(length − 1) / 16⌋`, the quotient rounded down. -/
def lastPage (cl : IVec S16 32) : IVec S16 32 :=
  have x := subi cl (broadcastInDim S16 ![] bcast_S_S16 (constantI S_ 32 1#32))
  have d := broadcastInDim S16 ![] bcast_S_S16 (id (constantI S_ 32 16#32))
  select (andi (cmpi CmpIPredicate.ne (signi x) (broadcastInDim S16 ![] bcast_S_S16 (signi (id (constantI S_ 32 16#32)))))
      (cmpi CmpIPredicate.ne (Host.remsi x d) (broadcastInDim S16 ![] bcast_S_S16 (constantI S_ 32 0#32))))
    (subi (Host.divsi x d) (broadcastInDim S16 ![] bcast_S_S16 (constantI S_ 32 1#32))) (Host.divsi x d)

/-- The page read at `(g, j)`: `j`, or the last page where `j` is past it. -/
def pageAt (cl : IVec S16 32) : IVec S16x64 32 :=
  minsi (broadcastInDim S16x64 ![0, 1] bcast_S1x64_S16x64_0_1 (broadcastInDim S1x64 ![1] bcast_S64_S1x64_1 (iotaInDim S64 32 0)))
    (broadcastInDim S16x64 ![0, 1] bcast_S16x1_S16x64_0_1 (broadcastInDim S16x1 ![0] bcast_S16_S16x1_0 (lastPage cl)))

/-- The pages as the gather's start indices, a negative one counted from the table's end. -/
def starts (cl : IVec S16 32) : IVec S16x64x1 32 :=
  shapeCast S16x64x1 (select (cmpi CmpIPredicate.slt (pageAt cl) (broadcastInDim S16x64 ![] bcast_S_S16x64 (constantI S_ 32 0#32)))
    (addi (pageAt cl) (broadcastInDim S16x64 ![] bcast_S_S16x64 (constantI S_ 32 64#32))) (pageAt cl)) shapeCasts_S16x64_S16x64x1

/-- The prefetched table. -/
def table (bt : IVec S16x64 32) (cl : IVec S16 32) : IVec S16x64 32 :=
  Host.gather gather_S16x64_S16x64x1_S16x64_n_1_0_0_1_2_11 bt (starts cl)

/-- Every word of the table is a word of the block tables. -/
theorem table_mem (bt : IVec S16x64 32) (cl : IVec S16 32) (x : S16x64.Idx) : ∃ y, table bt cl x = bt y := ⟨_, rfl⟩

variable {F : FTy → Type} [FloatOps F] (m : (ℓ : Loc nD τ sig) → Buf (Elt F) ℓ)

/-- When the region is entered the first table is the gathered one. -/
theorem V_v9 (c : Dev nD) : V m c main_v9 = table (m ((c : Thread nD τ).loc main_arg0)) (m ((c : Thread nD τ).loc main_arg1)) := by
  simp only [V, hostOps0, hostOps0_1, hostOps0_2, hostOps0_3, hostOps0_4, List.flatten_cons, List.flatten_nil, List.append_nil,
    List.cons_append, List.nil_append, StableHlo.TRef.nullary, StableHlo.TRef.binary, StableHlo.TRef.ternary, StableHlo.TRef.unary,
    StableHlo.TRef.reshape, StableHlo.TRef.toBuf, StableHlo.TRef.ofBuf, cast_eq]
  after_results_simp
  rfl

/-- The launch's condition on the tables holds where every word of the first is less than 512. -/
theorem ok_of_lt (h : ∀ x : S16x64.Idx, (tbl m 0 x : BitVec 32).toNat < 512) : Ok m := by
  refine ⟨fun i => ⟨fun a => ?_, .inl rfl⟩, fun i => ⟨fun a => ?_, .inl rfl⟩, fun i => ⟨fun a => ?_, .inl rfl⟩⟩
  · have hw := h ((Rect.unit (s := S16x64) (k0_off1 i) S1x1.size (k0_off1_inb i)).emb (Shape.Idx.first (numel1_S1x1.symm ▸ Nat.one_pos)))
    match a with
    | ⟨0, _⟩ => exact (Nat.mul_one _).le.trans hw
    | ⟨1, _⟩ => exact le_refl 16
    | ⟨2, _⟩ => exact le_refl 16
    | ⟨3, _⟩ => exact le_refl 16
    | ⟨4, _⟩ => exact le_refl 8
  · have hw := h ((Rect.unit (s := S16x64) (k0_off1 i) S1x1.size (k0_off1_inb i)).emb (Shape.Idx.first (numel1_S1x1.symm ▸ Nat.one_pos)))
    match a with
    | ⟨0, _⟩ => exact (Nat.mul_one _).le.trans hw
    | ⟨1, _⟩ => exact le_refl 16
    | ⟨2, _⟩ => exact le_refl 17
    | ⟨3, _⟩ => exact le_refl 128
  · have hw := h ((Rect.unit (s := S16x64) (k0_off1 i) S1x1.size (k0_off1_inb i)).emb (Shape.Idx.first (numel1_S1x1.symm ▸ Nat.one_pos)))
    match a with
    | ⟨0, _⟩ => exact (Nat.mul_one _).le.trans hw
    | ⟨1, _⟩ => exact le_refl 16
    | ⟨2, _⟩ => exact le_refl 16
    | ⟨3, _⟩ => exact le_refl 128

/-- So it holds where every word of the block tables is. -/
theorem ok (h : ∀ x : S16x64.Idx, (m (((0 : Dev nD) : Thread nD τ).loc main_arg0) x : BitVec 32).toNat < 512) : Ok m := by
  refine ok_of_lt m fun x => ?_
  obtain ⟨y, hy⟩ := table_mem (m (((0 : Dev nD) : Thread nD τ).loc main_arg0)) (m (((0 : Dev nD) : Thread nD τ).loc main_arg1)) x
  have e : (tbl m 0 x : BitVec 32) = m (((0 : Dev nD) : Thread nD τ).loc main_arg0) y :=
    (congrFun (V_v9 m 0) x).trans hy
  rw [e]
  exact h y

end Cert.Decode.Attention

end
-- ==== Proof.DecodeSpec.lean ====
/-
  The decode step's attention as a function of its seven arrays: what both programs are shown to compute. Rows 0–4095 of
  the result are the array handed in; row 4096 + g, head h, is attention of that query row over the first keys of
  sequence g, as many as its length says, key t lying at slot t mod 16 of the block its table names at t / 16.
-/
module

public import proofs.«01_k».proof.Proof.Spec

@[expose] public section

noncomputable section

namespace Cert.Attention.Decode

open Idealize.ShloMosaic Cert.Attention

/-- The shapes of the block tables, the lengths, the rows, the cached keys, the fresh keys with their flag, the values. -/
abbrev Tables : Shape := ⟨2, ![16, 64]⟩
abbrev Lens : Shape := ⟨1, ![16]⟩
abbrev Rows : Shape := ⟨3, ![4112, 16, 128]⟩
abbrev Cached : Shape := ⟨5, ![512, 16, 16, 16, 8]⟩
abbrev Fresh : Shape := ⟨4, ![512, 16, 17, 128]⟩
abbrev Values : Shape := ⟨4, ![512, 16, 16, 128]⟩

/-- Key `t`'s position in the table, and its slot in the block. -/
def page (t : ℕ) : Fin 64 := ⟨t / 16 % 64, Nat.mod_lt _ (by decide)⟩
def slot (t : ℕ) : Fin 16 := ⟨t % 16, Nat.mod_lt _ (by decide)⟩

/-- A table's word as a block number (cut off at the last block). -/
def number (w : BitVec 32) : Fin 512 := ⟨min w.toInt.toNat 511, by omega⟩

/-- A head's row among the seventeen of a fresh slot. -/
def head (h : Fin 16) : Fin 17 := ⟨h.val, by have := h.isLt; omega⟩

/-- The two coordinates a key's dimension has in the cache. -/
def outer (d : Fin 128) : Fin 16 := ⟨d.val / 8, by have := d.isLt; omega⟩
def inner (d : Fin 128) : Fin 8 := ⟨d.val % 8, by omega⟩

/-- The query row of sequence `g`. -/
def row (g : Fin 16) : Fin 4112 := ⟨4096 + g.val, by have := g.isLt; omega⟩

/-- Dimension `d` of the key of head `h` at slot `o` of block `b`: the fresh key where the slot's flag is 1, else the cached. -/
def key {n : ℕ} (kc : Vec Ideal ⟨5, ![n, 16, 16, 16, 8]⟩ .f32) (kf : Vec Ideal ⟨4, ![n, 16, 17, 128]⟩ .f32)
    (b : Fin n) (h o : Fin 16) (d : Fin 128) : EReal :=
  if kf (ix4 b o 16 0) = 1 then kf (ix4 b o (head h) d) else kc (ix5 b h (outer d) o (inner d))

/-- The score of head `h` of sequence `g` and its key `t`. -/
def score (bt : IVec Tables 32) (q : Vec Ideal Rows .f32) (kc : Vec Ideal Cached .f32) (kf : Vec Ideal Fresh .f32) (g h : Fin 16) (t : ℕ) : EReal :=
  ∑ d : Fin 128, (q (ix3 (row g) h d) * scale) * key kc kf (number (bt (ix2 g (page t)))) h (slot t) d

/-- Dimension `d` of the value of head `h` of sequence `g` at key `t`. -/
def value (bt : IVec Tables 32) (vc : Vec Ideal Values .f32) (g h : Fin 16) (d : Fin 128) (t : ℕ) : EReal :=
  vc (ix4 (number (bt (ix2 g (page t)))) h (slot t) d)

/-- The number of keys sequence `g` attends over. -/
def seen (cl : IVec Lens 32) (g : Fin 16) : ℕ := (cl (ix1 g)).toInt.toNat

/-- The attention of head `h` of sequence `g`, at dimension `d`. -/
def attention (bt : IVec Tables 32) (cl : IVec Lens 32) (q : Vec Ideal Rows .f32) (kc : Vec Ideal Cached .f32) (kf : Vec Ideal Fresh .f32)
    (vc : Vec Ideal Values .f32) (g h : Fin 16) (d : Fin 128) : EReal :=
  attend (score bt q kc kf g h) (value bt vc g h d) (seen cl g)

/-- The decode step's result. -/
def result (bt : IVec Tables 32) (cl : IVec Lens 32) (q : Vec Ideal Rows .f32) (kc : Vec Ideal Cached .f32) (kf : Vec Ideal Fresh .f32)
    (vc : Vec Ideal Values .f32) (o : Vec Ideal Rows .f32) (i : Rows.Idx) : EReal :=
  if h : (i 0).val < 4096 then o i
  else attention bt cl q kc kf vc ⟨(i 0).val - 4096, by have h' : (i 0).val < 4112 := (i 0).isLt; omega⟩ (i 1) (i 2)

/-- A sum over the sixteen groups of eight dimensions is the sum over the dimensions. -/
theorem sum_groups (f : Fin 128 → EReal) :
    ∑ x : Fin 16, ∑ y : Fin 8, f ⟨x.val * 8 + y.val, by have := x.isLt; have := y.isLt; omega⟩ = ∑ d : Fin 128, f d := by
  rw [← Fintype.sum_prod_type' (fun (x : Fin 16) (y : Fin 8) => f ⟨x.val * 8 + y.val, by have := x.isLt; have := y.isLt; omega⟩)]
  refine Fintype.sum_equiv (finProdFinEquiv (m := 16) (n := 8)) _ _ fun p => congrArg f (Fin.ext ?_)
  show p.1.val * 8 + p.2.val = p.2.val + 8 * p.1.val
  omega

/-- With a flag that is 0 or 1, the flag-weighted sum of the two dot products is the dot product with the key chosen. -/
theorem blend {n : ℕ} (q : Fin 128 → EReal) (kc : Vec Ideal ⟨5, ![n, 16, 16, 16, 8]⟩ .f32) (kf : Vec Ideal ⟨4, ![n, 16, 17, 128]⟩ .f32)
    (b : Fin n) (h o : Fin 16) (hm : kf (ix4 b o 16 0) = 0 ∨ kf (ix4 b o 16 0) = 1) :
    kf (ix4 b o 16 0) * (∑ d : Fin 128, q d * kf (ix4 b o (head h) d))
      + (1 - kf (ix4 b o 16 0)) * (∑ x : Fin 16, ∑ y : Fin 8, q ⟨x.val * 8 + y.val, by have := x.isLt; have := y.isLt; omega⟩ * kc (ix5 b h x o y))
    = ∑ d : Fin 128, q d * key kc kf b h o d := by
  have hs : (∑ x : Fin 16, ∑ y : Fin 8, q ⟨x.val * 8 + y.val, by have := x.isLt; have := y.isLt; omega⟩ * kc (ix5 b h x o y))
      = ∑ d : Fin 128, q d * kc (ix5 b h (outer d) o (inner d)) := by
    rw [← sum_groups]
    refine Finset.sum_congr rfl fun x _ => Finset.sum_congr rfl fun y _ => ?_
    congr 2
    have hy := y.isLt
    rw [show outer ⟨x.val * 8 + y.val, by have := x.isLt; omega⟩ = x from Fin.ext (by show (x.val * 8 + y.val) / 8 = x.val; omega),
      show inner ⟨x.val * 8 + y.val, by have := x.isLt; omega⟩ = y from Fin.ext (by show (x.val * 8 + y.val) % 8 = y.val; omega)]
  have h11 : (1 : EReal) - 1 = 0 := by rw [← EReal.coe_one, ← EReal.coe_sub]; simp
  rw [hs]
  unfold key
  rcases hm with hm | hm <;> simp [hm, h11]

end Cert.Attention.Decode

end
-- ==== Proof.DecodeTables.lean ====
/-
  The decode program's first prefetched table, as the host computes it from the block tables and the lengths: entry (g, j)
  is the block table's entry at page j of sequence g, or at the last page the length reaches where j is past it.
-/
module

public import proofs.«01_k».proof.Proof.DecodeSpec
public import proofs.«01_k».proof.Proof.Gen.DecodeIdeal.Frame.Runs
public import Idealize.ShloMosaic.Lib.Pointwise

@[expose] public section

noncomputable section

namespace Cert.DecodeIdeal.Attention

open Cert.DecodeIdeal Cert.DecodeIdeal.Gen Idealize.ShloMosaic Idealize.ShloMosaic.TcCoe Idealize.ShloMosaic.Tactic

/-- The last page a length reaches: `⌊(length − 1) / 16⌋`, the quotient rounded down. -/
def lastPage (cl : IVec S16 32) : IVec S16 32 :=
  have x := subi cl (broadcastInDim S16 ![] bcast_S_S16 (constantI S_ 32 1#32))
  have d := broadcastInDim S16 ![] bcast_S_S16 (id (constantI S_ 32 16#32))
  select (andi (cmpi CmpIPredicate.ne (signi x) (broadcastInDim S16 ![] bcast_S_S16 (signi (id (constantI S_ 32 16#32)))))
      (cmpi CmpIPredicate.ne (Host.remsi x d) (broadcastInDim S16 ![] bcast_S_S16 (constantI S_ 32 0#32))))
    (subi (Host.divsi x d) (broadcastInDim S16 ![] bcast_S_S16 (constantI S_ 32 1#32))) (Host.divsi x d)

/-- The page read at `(g, j)`: `j`, or the last page where `j` is past it. -/
def pageAt (cl : IVec S16 32) : IVec S16x64 32 :=
  minsi (broadcastInDim S16x64 ![0, 1] bcast_S1x64_S16x64_0_1 (broadcastInDim S1x64 ![1] bcast_S64_S1x64_1 (iotaInDim S64 32 0)))
    (broadcastInDim S16x64 ![0, 1] bcast_S16x1_S16x64_0_1 (broadcastInDim S16x1 ![0] bcast_S16_S16x1_0 (lastPage cl)))

/-- The pages as the gather's start indices, a negative one counted from the table's end. -/
def starts (cl : IVec S16 32) : IVec S16x64x1 32 :=
  shapeCast S16x64x1 (select (cmpi CmpIPredicate.slt (pageAt cl) (broadcastInDim S16x64 ![] bcast_S_S16x64 (constantI S_ 32 0#32)))
    (addi (pageAt cl) (broadcastInDim S16x64 ![] bcast_S_S16x64 (constantI S_ 32 64#32))) (pageAt cl)) shapeCasts_S16x64_S16x64x1

/-- The prefetched table. -/
def table (bt : IVec S16x64 32) (cl : IVec S16 32) : IVec S16x64 32 :=
  Host.gather gather_S16x64_S16x64x1_S16x64_n_1_0_0_1_2_11 bt (starts cl)

section

variable {F : FTy → Type} [FloatOps F] [Named F] (m : (ℓ : Loc nD τ sig) → Buf (Elt F) ℓ)

/-- When the region is entered the first table is the gathered one. -/
theorem V_v9 (c : Dev nD) : V m c main_v9 = table (m ((c : Thread nD τ).loc main_arg0)) (m ((c : Thread nD τ).loc main_arg1)) := by
  simp only [V, hostOps0, hostOps0_1, hostOps0_2, hostOps0_3, hostOps0_4, List.flatten_cons, List.flatten_nil, List.append_nil,
    List.cons_append, List.nil_append, StableHlo.TRef.nullary, StableHlo.TRef.binary, StableHlo.TRef.ternary, StableHlo.TRef.unary,
    StableHlo.TRef.reshape, StableHlo.TRef.toBuf, StableHlo.TRef.ofBuf, cast_eq]
  after_results_simp
  rfl

/-- When the region is entered the output array is the rows handed in. -/
theorem V_v10 (c : Dev nD) : V m c main_v10 = m ((c : Thread nD τ).loc main_arg6) := by
  simp only [V, hostOps0, hostOps0_1, hostOps0_2, hostOps0_3, hostOps0_4, List.flatten_cons, List.flatten_nil, List.append_nil,
    List.cons_append, List.nil_append, StableHlo.TRef.nullary, StableHlo.TRef.binary, StableHlo.TRef.ternary, StableHlo.TRef.unary,
    StableHlo.TRef.reshape, StableHlo.TRef.toBuf, StableHlo.TRef.ofBuf, cast_eq]
  after_results_simp <;> rfl

end

/-- Every word of the table is a word of the block tables. -/
theorem table_mem (bt : IVec S16x64 32) (cl : IVec S16 32) (x : S16x64.Idx) : ∃ y, table bt cl x = bt y := ⟨_, rfl⟩

/-- The table at `(g, j)`: the block table's word at the page, brought into range. -/
theorem table_apply (bt : IVec S16x64 32) (cl : IVec S16 32) (g : Fin 16) (j : Fin 64) :
    table bt cl (ix2 g j) = bt (ix2 g ⟨min (starts cl (ix3 g j 0)).toInt.toNat 63, by omega⟩) := by
  unfold table Host.gather
  congr 1
  funext a
  refine Fin.ext ?_
  show gather_S16x64_S16x64x1_S16x64_n_1_0_0_1_2_11.start (ix2 g j) (starts cl) a
      + gather_S16x64_S16x64x1_S16x64_n_1_0_0_1_2_11.batchCoord (ix2 g j) a
      + gather_S16x64_S16x64x1_S16x64_n_1_0_0_1_2_11.offCoord (ix2 g j) a = _
  have h01 : a = 0 ∨ a = 1 := by
    match a with
    | ⟨0, _⟩ => exact .inl rfl
    | ⟨1, _⟩ => exact .inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16x64_S16x64x1_S16x64_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16x64_S16x64x1_S16x64_n_1_0_0_1_2_11.startIndexMap from List.mem_singleton.mpr rfl)]
    have hsi : gather_S16x64_S16x64x1_S16x64_n_1_0_0_1_2_11.siIdx (ix2 g j)
        ⟨List.idxOf (1 : Fin 2) gather_S16x64_S16x64x1_S16x64_n_1_0_0_1_2_11.startIndexMap,
          List.idxOf_lt_length_iff.2 (List.mem_singleton.mpr rfl)⟩ = ix3 g j 0 := by
      funext b
      refine Fin.ext ?_
      match b with
      | ⟨0, _⟩ => rfl
      | ⟨1, _⟩ => rfl
      | ⟨2, _⟩ => rfl
    rw [hsi]
    rfl

/-- A word's sign. -/
def sign (w : BitVec 32) : BitVec 32 := if w = 0 then 0 else if w.msb = true then -1 else 1

/-- The last page as a word, from the length as a word. -/
def lastWord (w : BitVec 32) : BitVec 32 :=
  Scalar.select (IntOp.andi (IntOp.cmpi .ne (sign (IntOp.subi w 1#32)) (sign 16#32))
      (IntOp.cmpi .ne (IntOp.remsi .host (IntOp.subi w 1#32) 16#32) 0#32))
    (IntOp.subi (IntOp.divsi .host (IntOp.subi w 1#32) 16#32) 1#32) (IntOp.divsi .host (IntOp.subi w 1#32) 16#32)

/-- A page cut off at the last page, as the gather's start index. -/
def startWord (j p : BitVec 32) : BitVec 32 :=
  Scalar.select (IntOp.cmpi .slt (IntOp.minsi j p) 0#32) (IntOp.addi (IntOp.minsi j p) 64#32) (IntOp.minsi j p)

theorem starts_apply (cl : IVec S16 32) (g : Fin 16) (j : Fin 64) :
    starts cl (ix3 g j 0) = startWord (BitVec.ofNat 32 j.val) (lastWord (cl (ix1 g))) := by
  pointwise [starts, pageAt, lastPage]
  rfl

theorem lastWord_eq : ∀ n : Fin 1024, lastWord (BitVec.ofNat 32 (n.val + 1)) = BitVec.ofNat 32 (n.val / 16) := by decide +kernel

theorem startWord_eq : ∀ j p : Fin 64, j ≤ p → (startWord (BitVec.ofNat 32 j.val) (BitVec.ofNat 32 p.val)).toInt.toNat = j.val := by decide +kernel

/-- Where block `j` holds a key sequence `g` sees, the table's word is the block table's. -/
theorem table_seen (bt : IVec S16x64 32) (cl : IVec S16 32) (g : Fin 16) (j : Fin 64) (n : ℕ) (hn : n ≤ 1024)
    (hc : cl (ix1 g) = BitVec.ofNat 32 n) (hj : 16 * j.val < n) : table bt cl (ix2 g j) = bt (ix2 g j) := by
  have h0 : n - 1 + 1 = n := by omega
  have hl := lastWord_eq ⟨n - 1, by omega⟩
  have hs := startWord_eq j ⟨(n - 1) / 16, by omega⟩ (by rw [Fin.le_def]; show j.val ≤ (n - 1) / 16; omega)
  simp only [h0] at hl
  have hst := starts_apply cl g j
  rw [hc, hl] at hst
  rw [table_apply]
  refine congrArg (fun k => bt (ix2 g k)) (Fin.ext ?_)
  show min (starts cl (ix3 g j 0)).toInt.toNat 63 = j.val
  rw [hst]
  dsimp only at hs
  rw [hs]
  have := j.isLt
  omega

end Cert.DecodeIdeal.Attention

end
-- ==== Proof.DecodeOk.lean ====
/-
  Where the block tables' words name blocks, every block the idealized decode program copies lies inside its array.
-/
module

public import proofs.«01_k».proof.Proof.DecodeTables

@[expose] public section

noncomputable section

namespace Cert.DecodeIdeal.Attention

open Cert.DecodeIdeal Cert.DecodeIdeal.Gen Idealize.ShloMosaic Idealize.ShloMosaic.TcCoe

variable {F : FTy → Type} [FloatOps F] [Named F] (m : (ℓ : Loc nD τ sig) → Buf (Elt F) ℓ)

/-- The launch's condition on the tables holds where every word of the first is less than 512. -/
theorem ok_of_lt (h : ∀ x : S16x64.Idx, (tbl m 0 x : BitVec 32).toNat < 512) : Ok m := by
  refine ⟨fun i => ⟨fun a => ?_, .inl rfl⟩, fun i => ⟨fun a => ?_, .inl rfl⟩, fun i => ⟨fun a => ?_, .inl rfl⟩⟩
  · have hw := h ((Rect.unit (s := S16x64) (k0_off1 i) S1x1.size (k0_off1_inb i)).emb (Shape.Idx.first (numel1_S1x1.symm ▸ Nat.one_pos)))
    match a with
    | ⟨0, _⟩ => exact (Nat.mul_one _).le.trans hw
    | ⟨1, _⟩ => exact le_refl 16
    | ⟨2, _⟩ => exact le_refl 16
    | ⟨3, _⟩ => exact le_refl 16
    | ⟨4, _⟩ => exact le_refl 8
  · have hw := h ((Rect.unit (s := S16x64) (k0_off1 i) S1x1.size (k0_off1_inb i)).emb (Shape.Idx.first (numel1_S1x1.symm ▸ Nat.one_pos)))
    match a with
    | ⟨0, _⟩ => exact (Nat.mul_one _).le.trans hw
    | ⟨1, _⟩ => exact le_refl 16
    | ⟨2, _⟩ => exact le_refl 17
    | ⟨3, _⟩ => exact le_refl 128
  · have hw := h ((Rect.unit (s := S16x64) (k0_off1 i) S1x1.size (k0_off1_inb i)).emb (Shape.Idx.first (numel1_S1x1.symm ▸ Nat.one_pos)))
    match a with
    | ⟨0, _⟩ => exact (Nat.mul_one _).le.trans hw
    | ⟨1, _⟩ => exact le_refl 16
    | ⟨2, _⟩ => exact le_refl 16
    | ⟨3, _⟩ => exact le_refl 128

/-- So it holds where every word of the block tables is. -/
theorem ok (h : ∀ x : S16x64.Idx, (m (((0 : Dev nD) : Thread nD τ).loc main_arg0) x : BitVec 32).toNat < 512) : Ok m := by
  refine ok_of_lt m fun x => ?_
  obtain ⟨y, hy⟩ := table_mem (m (((0 : Dev nD) : Thread nD τ).loc main_arg0)) (m (((0 : Dev nD) : Thread nD τ).loc main_arg1)) x
  have e : (tbl m 0 x : BitVec 32) = m (((0 : Dev nD) : Thread nD τ).loc main_arg0) y :=
    (congrFun (V_v9 m 0) x).trans hy
  rw [e]
  exact h y

end Cert.DecodeIdeal.Attention

end
-- ==== Proof.DecodeDomain.lean ====
/-
  What the decode program's two preconditions say: the block tables' words name blocks; every context has between one and 1024
  tokens; the flags are zero or one; the queries and keys are real numbers.
-/
module

public import proofs.«01_k».proof.Proof.DecodeSpec
public import proofs.«01_k».proof.Proof.Domain
public import proofs.«01_k».proof.Pre_tables_in_range
public import proofs.«01_k».proof.Pre_decode_domain
public import Idealize.ShloMosaic.Lib.ReduceAll
public import Idealize.ShloMosaic.Lib.IdealHost
public import Idealize.ShloMosaic.Lib.Pointwise

@[expose] public section

noncomputable section

namespace Cert.Attention.Decode

open Idealize.ShloMosaic

theorem tables_facts : Cert.Pre_tables_in_range.Facts := ⟨by decide⟩

theorem domain_facts : Cert.Pre_decode_domain.Facts := by constructor <;> decide

theorem both : ∀ a b : BitVec 1, a &&& b = 1#1 → a = 1#1 ∧ b = 1#1 := by decide

theorem either : ∀ a b : BitVec 1, a ||| b = 1#1 → a = 1#1 ∨ b = 1#1 := by decide

theorem of_bit (b : Bool) (h : BitVec.ofBool b = 1#1) : b = true := by
  revert h
  cases b <;> simp

/-- A word at least 0 and less than 512, both signed, is less than 512. -/
theorem word_lt (w : BitVec 32) (h : IntOp.andi (IntOp.cmpi .sge w 0#32) (IntOp.cmpi .slt w 512#32) = 1#1) : w.toNat < 512 := by
  obtain ⟨h1, h2⟩ := both _ _ h
  have a := of_bit _ h1
  have b := of_bit _ h2
  rw [BitVec.sle_iff_toInt_le] at a
  rw [BitVec.slt_iff_toInt_lt] at b
  simp at a b
  rw [BitVec.toInt_eq_toNat_cond] at a b
  have := w.isLt
  split at a <;> omega

/-- A word between 1 and 1024, both signed, is that number. -/
theorem word_mem (w : BitVec 32) (h : IntOp.andi (IntOp.cmpi .sge w 1#32) (IntOp.cmpi .sle w 1024#32) = 1#1) :
    0 < w.toInt.toNat ∧ w.toInt.toNat ≤ 1024 ∧ w = BitVec.ofNat 32 w.toInt.toNat := by
  obtain ⟨h1, h2⟩ := both _ _ h
  have a := of_bit _ h1
  have b := of_bit _ h2
  rw [BitVec.sle_iff_toInt_le] at a b
  simp at a b
  have e : w.toInt = (w.toNat : ℤ) := by
    rw [BitVec.toInt_eq_toNat_cond] at a ⊢
    have := w.isLt
    split at a <;> omega
  rw [e] at a b ⊢
  refine ⟨by omega, by omega, ?_⟩
  rw [Int.toNat_natCast, BitVec.ofNat_toNat, BitVec.setWidth_eq]

/-- With the tables in range every word names a block. -/
theorem lt_of_tables [Cert.Pre_tables_in_range.Facts] {F : FTy → Type} [FloatOps F] (bt : IVec Tables 32) (cl : IVec Lens 32)
    (q : FVec F Rows .f32) (kc : FVec F Cached .f32) (kf : FVec F Fresh .f32) (vc : FVec F Values .f32)
    (o : FVec F Rows .f32) (h : Cert.Pre_tables_in_range.fn bt cl q kc kf vc o = fun _ => 1#1) (x : Tables.Idx) :
    (bt x).toNat < 512 := word_lt _ (congrFun h x)

/-- What the domain says of the seven arguments. -/
structure Domain (bt : IVec Tables 32) (cl : IVec Lens 32) (q : Vec Ideal Rows .f32) (kc : Vec Ideal Cached .f32)
    (kf : Vec Ideal Fresh .f32) : Prop where
  /-- The tables name blocks. -/
  tables : ∀ x, (bt x).toNat < 512
  /-- Every context holds a token. -/
  pos : ∀ g, 0 < seen cl g
  /-- And at most 1024. -/
  le : ∀ g, seen cl g ≤ 1024
  /-- The length's word is the length. -/
  word : ∀ g, cl (ix1 g) = BitVec.ofNat 32 (seen cl g)
  /-- A slot holds a fresh key or it does not. -/
  flag : ∀ b o, kf (ix4 b o 16 0) = (0 : EReal) ∨ kf (ix4 b o 16 0) = (1 : EReal)
  /-- The queries are real. -/
  query : ∀ i, ∃ r : ℝ, q i = (r : EReal)
  /-- The cached keys are real. -/
  cached : ∀ i, ∃ r : ℝ, kc i = (r : EReal)
  /-- The fresh keys are real. -/
  fresh : ∀ i, ∃ r : ℝ, kf i = (r : EReal)

theorem top : (FloatOps.ofBits .f32 0x7F800000#32 : Ideal .f32) = (⊤ : EReal) := by
  show Ideal.ofBits .f32 0x7F800000#32 = ⊤
  simp [Ideal.ofBits, Ideal.ieee]

theorem real_of_cmp (x : EReal) (h : Ideal.cmp .olt (max x (-x)) (FloatOps.ofBits .f32 0x7F800000#32 : Ideal .f32) = 1#1) :
    ∃ r : ℝ, x = (r : EReal) := by
  rw [top] at h
  exact real_of_abs_lt _ ((Ideal.cmp_olt_eq_one _ _).1 h)

/-- Where the decode program's domain holds, each of its parts does. -/
theorem domain [Cert.Pre_decode_domain.Facts] (bt : IVec Tables 32) (cl : IVec Lens 32) (q : Vec Ideal Rows .f32)
    (kc : Vec Ideal Cached .f32) (kf : Vec Ideal Fresh .f32) (vc : Vec Ideal Values .f32) (o : Vec Ideal Rows .f32)
    (h : Cert.Pre_decode_domain.fn (F := Ideal) bt cl q kc kf vc o = fun _ => 1#1) : Domain bt cl q kc kf := by
  have e := congrFun h ix0
  unfold Cert.Pre_decode_domain.fn Cert.Pre_decode_domain.fn_part1 Cert.Pre_decode_domain.fn_part2 at e
  obtain ⟨e123, e4⟩ := both _ _ e
  obtain ⟨e12, e3⟩ := both _ _ e123
  obtain ⟨e1, e2⟩ := both _ _ e12
  obtain ⟨e45, e6⟩ := both _ _ e4
  obtain ⟨e4, e5⟩ := both _ _ e45
  haveI : Subsingleton Cert.Pre_decode_domain.S_.Idx := ⟨fun a b => funext fun k => k.elim0⟩
  have r1 := Host.reduce_andi_all _ _ _ _ _ e1
  have r2 := Host.reduce_andi_all _ _ _ _ _ e2
  have r3 := Host.reduce_andi_all _ _ _ _ _ e3
  have r4 := Host.reduce_andi_all _ _ _ _ _ e4
  have r5 := Host.reduce_andi_all _ _ _ _ _ e5
  have r6 := Host.reduce_andi_all _ _ _ _ _ e6
  have w : ∀ g : Fin 16, _ := fun g => word_mem _ (r2 (ix1 g))
  refine ⟨fun x => word_lt _ (r1 x), fun g => (w g).1, fun g => (w g).2.1, fun g => (w g).2.2, fun b s => ?_,
    fun i => real_of_cmp _ (r4 i), fun i => real_of_cmp _ (r5 i), fun i => real_of_cmp _ (r6 i)⟩
  have f := r3 (ix2 b s)
  pointwise at f
  rcases either _ _ f with f | f
  · exact .inl (of_decide_eq_true (of_bit _ f))
  · exact .inr (of_decide_eq_true (of_bit _ f))

end Cert.Attention.Decode

end
-- ==== Proof.DecodePayloads.lean ====
/-
  What the decode kernel's values hold, element by element, over the extended reals: the weights of one block of 16 keys,
  the two running sums after a block, and the rows written.
-/
module

public import proofs.«01_k».proof.Proof.DecodeSpec
public import proofs.«01_k».proof.Proof.Gen.DecodeIdeal.Skeleton
public import Idealize.ShloMosaic.Lib.Pointwise

@[expose] public section

noncomputable section

namespace Cert.DecodeIdeal.Attention

open Cert.DecodeIdeal Cert.DecodeIdeal.Gen Idealize.ShloMosaic Cert.Attention Cert.Attention.Decode

/-- The two running sums start at zero. -/
theorem pay1_apply (j : S16x128.Idx) : k0_pay1 (F := Ideal) j = 0 := by
  pointwise [k0_pay1]

theorem pay2_apply (j : S16x1.Idx) : k0_pay2 (F := Ideal) j = 0 := by
  pointwise [k0_pay2]

/-- The running sum of weights of a head after a block of 16 keys. -/
theorem pay3_apply (p : FVec Ideal S16x16 .f32) (l : Vec Ideal S16x1 .f32) (h : Fin 16) :
    k0_pay3 (F := Ideal) p l (ix2 h 0) = l (ix2 h 0) + ∑ o : Fin 16, p (ix2 o h) := by
  pointwise [k0_pay3]

/-- The running sum of weighted values of a head after a block of 16 keys. -/
theorem pay4_apply (p : FVec Ideal S16x16 .f32) (v : Vec Ideal S1x16x16x128 .f32) (a : Vec Ideal S16x128 .f32) (h : Fin 16) (d : Fin 128) :
    k0_pay4 (F := Ideal) p v a (ix2 h d) = a (ix2 h d) + ∑ o : Fin 16, p (ix2 o h) * v (ix4 0 h o d) := by
  pointwise [k0_pay4]

/-- The rows written: the weighted values divided by the weights. -/
theorem pay5_apply (a : Vec Ideal S16x128 .f32) (l : Vec Ideal S16x1 .f32) (h : Fin 16) (d : Fin 128) :
    k0_pay5 (F := Ideal) a l (ix3 0 h d) = Ideal.div (a (ix2 h d)) (l (ix2 h 0)) := by
  pointwise [k0_pay5]

/-- A sum over the second and fourth axes of an array of four, at an element of the kept two. -/
theorem sum_axes (u : FVec Ideal S16x16x16x8 .f32) (hr : S16x16x16x8.Reduces [1, 3] S16x16) (a b : Fin 16) :
    Ideal.reduceAdd hr u (ix2 a b) = ∑ x : Fin 16, ∑ y : Fin 8, u (ix4 a x b y) := by
  refine (Finset.sum_filter_eq_sum_of_fiber _ (fun k : Fin 16 × Fin 8 => ix4 a k.1 b k.2)
    (fun _ _ e => Prod.ext (congrFun e 1) (congrFun e 3)) (fun i => ?_) u).trans ?_
  · constructor
    · intro h
      refine ⟨(i 1, i 3), ?_⟩
      funext c
      match c with
      | ⟨0, _⟩ => exact (congrFun h 0).symm
      | ⟨1, _⟩ => rfl
      | ⟨2, _⟩ => exact (congrFun h 1).symm
      | ⟨3, _⟩ => rfl
    · rintro ⟨k, rfl⟩
      funext c
      match c with
      | ⟨0, _⟩ => rfl
      | ⟨1, _⟩ => rfl
  · simp only [Fintype.sum_prod_type]

/-- A selection by a signed comparison is a case distinction. -/
theorem select_slt (x y : BitVec 32) (a b : EReal) :
    Scalar.select (IntOp.cmpi .slt x y) a b = if BitVec.slt x y = true then a else b := by
  unfold Scalar.select IntOp.cmpi
  cases h : BitVec.slt x y <;> simp [h]

/-- Position `o` of block `j` compared with a length, as numbers: no product or sum wraps. -/
theorem slt_iff {j o : ℕ} (hj : j < 64) (ho : o < 16) (n : BitVec 32) :
    BitVec.slt (BitVec.ofNat 32 j * 16#32 + BitVec.ofNat 32 o) n = true ↔ 16 * j + o < n.toInt.toNat := by
  rw [BitVec.slt_iff_toInt_lt, BitVec.toInt_eq_toNat_of_lt (by simp; omega)]
  simp
  omega

/-- The weight of the key at slot `o` of block `j`, for head `h`: the exponential of its score, of −∞ from the length on. -/
theorem pay6_apply {j : ℕ} (hj : j < 64) (q : Vec Ideal S1x16x128 .f32) (kc : Vec Ideal S1x16x16x16x8 .f32) (kf : Vec Ideal S1x16x17x128 .f32)
    (n : Elt Ideal .i32) (o h : Fin 16) (hm : kf (ix4 0 o 16 0) = 0 ∨ kf (ix4 0 o 16 0) = 1) :
    k0_pay6 (F := Ideal) (BitVec.ofNat 32 j) q kc kf n (ix2 o h)
      = Ideal.exp (masked (16 * j + o.val < (BitVec.toInt n).toNat) (∑ d : Fin 128, (q (ix3 0 h d) * scale) * key kc kf 0 h o d)) := by
  rw [← blend _ _ _ _ _ _ hm, ← add_mask]
  pointwise [k0_pay6]
  simp only [sum_axes]
  pointwise
  simp only [IdealRules.named_const.ideal_named_scalar κ "mask" (φ := .f32) 0xC7C35000#32 ⊥ rfl, select_slt]
  have hs : BitVec.slt (IntOp.addi (Scalar.muli (BitVec.ofNat 32 j) 16#32) (BitVec.ofNat 32 o.val)) n = true ↔ 16 * j + o.val < (BitVec.toInt n).toNat :=
    slt_iff hj o.isLt n
  simp only [hs]
  rfl

end Cert.DecodeIdeal.Attention

end
-- ==== Proof.DecodeCases.lean ====
/-
  What each kind of point of the idealized decode program leaves in its two running buffers and, at a sequence's last point, in
  its block of the output.
-/
module

public import proofs.«01_k».proof.Proof.DecodeIdealFrame
public import Idealize.ShloMosaic.Lib.Pipeline.ValueKit

@[expose] public section

noncomputable section

namespace Cert.DecodeIdeal.Attention

open Cert.DecodeIdeal Cert.DecodeIdeal.Gen Idealize.ShloMosaic Idealize.ShloMosaic.TcCoe

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The length's word a point reads. -/
abbrev lenWord (c : Dev nD) (i : grid0.Coords) (xt1 : TbBuf0 (F := F) c tbM0_1) : BitVec 32 :=
  tbM0_1.view.readAt (Elt F) (Rect.unit (s := S16) (k0_off2 i) S1.size (k0_off2_inb i)).toLoadRect xt1 (Shape.Idx.first (numel1_S1.symm ▸ Nat.one_pos))

variable (c : Dev nD) (i : grid0.Coords) (a4 : Memref sig .tc .vmem S1x16x128 .f32) (h4 : a4.IsWhole)
  (a5 : Memref sig .tc .vmem S1x16x16x16x8 .f32) (h5 : a5.IsWhole) (a6 : Memref sig .tc .vmem S1x16x17x128 .f32) (h6 : a6.IsWhole)
  (a7 : Memref sig .tc .vmem S1x16x16x128 .f32) (h7 : a7.IsWhole) (a9 : Memref sig .tc .vmem S1x16x128 .f32) (h9 : a9.IsWhole)
  (a10 : Memref sig .tc .vmem S16x128 .f32) (h10 : a10.IsWhole) (a11 : Memref sig .tc .vmem S16x1 .f32) (h11 : a11.IsWhole)
  (x0 : Vec F S1x16x128 .f32) (x1 : Vec F S1x16x16x16x8 .f32) (x2 : Vec F S1x16x17x128 .f32) (x3 : Vec F S1x16x16x128 .f32)
  (xt0 : TbBuf0 (F := F) c tbM0_0) (xt1 : TbBuf0 (F := F) c tbM0_1) (xs0 : Vec F S16x128 .f32) (xs1 : Vec F S16x1 .f32)

/-- The sixteen keys' weights, by head. -/
abbrev weights : FVec F S16x16 .f32 := k0_pay6 (BitVec.ofNat 32 (i 1).val) x0 x1 x2 (lenWord c i xt1)

/-- At a sequence's first point, where the block holds a key it sees: the running weighted values. -/
theorem sout0_A_0_eq (hc0 : cond0_0 i) (hc1 : cond0_1 i (lenWord c i xt1)) (hc2 : ¬cond0_2 i) :
    sout0_A_0 c i a4 h4 a5 h5 a6 h6 a7 h7 a9 h9 a10 h10 a11 h11 hc0 hc2 x0 x1 x2 x3 xt0 xt1 hc1 = k0_pay4 (weights c i x0 x1 x2 xt1) x3 k0_pay1 := by
  unfold sout0_A_0
  rw [View.read_writes_eq_canon _ _ _ (scover0_A_0 c i a4 h4 a5 h5 a6 h6 a7 h7 a9 h9 a10 h10 a11 h11 hc0 hc2 x0 x1 x2 x3 xt0 xt1 hc1)]
  unfold kernelRun0_A
  dsimp only
  sl_unfold_words
  rw [View.canon_cons_unit_zero hz2]
  simp only [View.readAt_eq_ld, h4.read_unread, h5.read_unread, h6.read_unread, h7.read_unread, h10.read_unread, h11.read_unread,
    View.ld_unit_zero (S := S1x16x128) hz3, View.ld_unit_zero (S := S1x16x16x16x8) hz5, View.ld_unit_zero (S := S1x16x17x128) hz4,
    View.ld_unit_zero (S := S1x16x16x128) hz4, View.ld_unit_zero (S := S16x128) hz2, View.ld_unit_zero (S := S16x1) hz2,
    View.readCov_unit_zero (S := S16x128) _ hz2, View.readCov_unit_zero (S := S16x1) _ hz2]
  rfl

/-- At a sequence's first point, where the block holds a key it sees: the running weights. -/
theorem sout0_A_1_eq (hc0 : cond0_0 i) (hc1 : cond0_1 i (lenWord c i xt1)) (hc2 : ¬cond0_2 i) :
    sout0_A_1 c i a4 h4 a5 h5 a6 h6 a7 h7 a9 h9 a10 h10 a11 h11 hc0 hc2 x0 x1 x2 x3 xt0 xt1 hc1 = k0_pay3 (weights c i x0 x1 x2 xt1) k0_pay2 := by
  unfold sout0_A_1
  rw [View.read_writes_eq_canon _ _ _ (scover0_A_1 c i a4 h4 a5 h5 a6 h6 a7 h7 a9 h9 a10 h10 a11 h11 hc0 hc2 x0 x1 x2 x3 xt0 xt1 hc1)]
  unfold kernelRun0_A
  dsimp only
  sl_unfold_words
  rw [View.canon_cons_unit_zero hz2]
  simp only [View.readAt_eq_ld, h4.read_unread, h5.read_unread, h6.read_unread, h7.read_unread, h10.read_unread, h11.read_unread,
    View.ld_unit_zero (S := S1x16x128) hz3, View.ld_unit_zero (S := S1x16x16x16x8) hz5, View.ld_unit_zero (S := S1x16x17x128) hz4,
    View.ld_unit_zero (S := S1x16x16x128) hz4, View.ld_unit_zero (S := S16x128) hz2, View.ld_unit_zero (S := S16x1) hz2,
    View.readCov_unit_zero (S := S16x128) _ hz2, View.readCov_unit_zero (S := S16x1) _ hz2]
  rfl

/-- At a sequence's first point, where it sees no key: the running weighted values. -/
theorem sout0_B_0_eq (hc0 : cond0_0 i) (hc1 : ¬cond0_1 i (lenWord c i xt1)) (hc2 : ¬cond0_2 i) :
    sout0_B_0 c i a4 h4 a5 h5 a6 h6 a7 h7 a9 h9 a10 h10 a11 h11 hc0 hc2 x0 x1 x2 x3 xt0 xt1 hc1 = k0_pay1 := by
  unfold sout0_B_0
  rw [View.read_writes_eq_canon _ _ _ (scover0_B_0 c i a4 h4 a5 h5 a6 h6 a7 h7 a9 h9 a10 h10 a11 h11 hc0 hc2 x0 x1 x2 x3 xt0 xt1 hc1)]
  unfold kernelRun0_B
  dsimp only
  sl_unfold_words
  rw [View.canon_cons_unit_zero hz2]

/-- At a sequence's first point, where it sees no key: the running weights. -/
theorem sout0_B_1_eq (hc0 : cond0_0 i) (hc1 : ¬cond0_1 i (lenWord c i xt1)) (hc2 : ¬cond0_2 i) :
    sout0_B_1 c i a4 h4 a5 h5 a6 h6 a7 h7 a9 h9 a10 h10 a11 h11 hc0 hc2 x0 x1 x2 x3 xt0 xt1 hc1 = k0_pay2 := by
  unfold sout0_B_1
  rw [View.read_writes_eq_canon _ _ _ (scover0_B_1 c i a4 h4 a5 h5 a6 h6 a7 h7 a9 h9 a10 h10 a11 h11 hc0 hc2 x0 x1 x2 x3 xt0 xt1 hc1)]
  unfold kernelRun0_B
  dsimp only
  sl_unfold_words
  rw [View.canon_cons_unit_zero hz2]

/-- At a middle point whose block holds a key the sequence sees: the running weighted values. -/
theorem sout0_C_0_eq (hc0 : ¬cond0_0 i) (hc1 : cond0_1 i (lenWord c i xt1)) (hc2 : ¬cond0_2 i) :
    sout0_C_0 c i a4 h4 a5 h5 a6 h6 a7 h7 a9 h9 a10 h10 a11 h11 hc0 hc2 x0 x1 x2 x3 xt0 xt1 xs0 xs1 hc1 = k0_pay4 (weights c i x0 x1 x2 xt1) x3 xs0 := by
  unfold sout0_C_0
  rw [View.read_writes_eq_canon _ _ _ (scover0_C_0 c i a4 h4 a5 h5 a6 h6 a7 h7 a9 h9 a10 h10 a11 h11 hc0 hc2 x0 x1 x2 x3 xt0 xt1 xs0 xs1 hc1)]
  unfold kernelRun0_C
  dsimp only
  sl_unfold_words
  rw [View.canon_cons_unit_zero hz2]
  simp only [View.readAt_eq_ld, h4.read_unread, h5.read_unread, h6.read_unread, h7.read_unread, h10.read_unread, h11.read_unread,
    View.ld_unit_zero (S := S1x16x128) hz3, View.ld_unit_zero (S := S1x16x16x16x8) hz5, View.ld_unit_zero (S := S1x16x17x128) hz4,
    View.ld_unit_zero (S := S1x16x16x128) hz4, View.ld_unit_zero (S := S16x128) hz2, View.ld_unit_zero (S := S16x1) hz2,
    View.readCov_unit_zero (S := S16x128) _ hz2, View.readCov_unit_zero (S := S16x1) _ hz2]
  rfl

/-- At a middle point whose block holds a key the sequence sees: the running weights. -/
theorem sout0_C_1_eq (hc0 : ¬cond0_0 i) (hc1 : cond0_1 i (lenWord c i xt1)) (hc2 : ¬cond0_2 i) :
    sout0_C_1 c i a4 h4 a5 h5 a6 h6 a7 h7 a9 h9 a10 h10 a11 h11 hc0 hc2 x0 x1 x2 x3 xt0 xt1 xs0 xs1 hc1 = k0_pay3 (weights c i x0 x1 x2 xt1) xs1 := by
  unfold sout0_C_1
  rw [View.read_writes_eq_canon _ _ _ (scover0_C_1 c i a4 h4 a5 h5 a6 h6 a7 h7 a9 h9 a10 h10 a11 h11 hc0 hc2 x0 x1 x2 x3 xt0 xt1 xs0 xs1 hc1)]
  unfold kernelRun0_C
  dsimp only
  sl_unfold_words
  rw [View.canon_cons_unit_zero hz2]
  simp only [View.readAt_eq_ld, h4.read_unread, h5.read_unread, h6.read_unread, h7.read_unread, h10.read_unread, h11.read_unread,
    View.ld_unit_zero (S := S1x16x128) hz3, View.ld_unit_zero (S := S1x16x16x16x8) hz5, View.ld_unit_zero (S := S1x16x17x128) hz4,
    View.ld_unit_zero (S := S1x16x16x128) hz4, View.ld_unit_zero (S := S16x128) hz2, View.ld_unit_zero (S := S16x1) hz2,
    View.readCov_unit_zero (S := S16x128) _ hz2, View.readCov_unit_zero (S := S16x1) _ hz2]
  rfl

/-- At a middle point past the context: the running weighted values. -/
theorem sout0_D_0_eq (hc0 : ¬cond0_0 i) (hc1 : ¬cond0_1 i (lenWord c i xt1)) (hc2 : ¬cond0_2 i) :
    sout0_D_0 c i a4 h4 a5 h5 a6 h6 a7 h7 a9 h9 a10 h10 a11 h11 hc0 hc2 x0 x1 x2 x3 xt0 xt1 xs0 xs1 hc1 = xs0 := by
  rfl

/-- At a middle point past the context: the running weights. -/
theorem sout0_D_1_eq (hc0 : ¬cond0_0 i) (hc1 : ¬cond0_1 i (lenWord c i xt1)) (hc2 : ¬cond0_2 i) :
    sout0_D_1 c i a4 h4 a5 h5 a6 h6 a7 h7 a9 h9 a10 h10 a11 h11 hc0 hc2 x0 x1 x2 x3 xt0 xt1 xs0 xs1 hc1 = xs1 := by
  rfl

/-- At a sequence's last point, where the block holds a key it sees: the running weighted values. -/
theorem sout0_E_0_eq (hc0 : ¬cond0_0 i) (hc1 : cond0_1 i (lenWord c i xt1)) (hc2 : cond0_2 i) :
    sout0_E_0 c i a4 h4 a5 h5 a6 h6 a7 h7 a9 h9 a10 h10 a11 h11 hc0 hc2 x0 x1 x2 x3 xt0 xt1 xs0 xs1 hc1 = k0_pay4 (weights c i x0 x1 x2 xt1) x3 xs0 := by
  unfold sout0_E_0
  rw [View.read_writes_eq_canon _ _ _ (scover0_E_0 c i a4 h4 a5 h5 a6 h6 a7 h7 a9 h9 a10 h10 a11 h11 hc0 hc2 x0 x1 x2 x3 xt0 xt1 xs0 xs1 hc1)]
  unfold kernelRun0_E
  dsimp only
  sl_unfold_words
  rw [View.canon_cons_unit_zero hz2]
  simp only [View.readAt_eq_ld, h4.read_unread, h5.read_unread, h6.read_unread, h7.read_unread, h10.read_unread, h11.read_unread,
    View.ld_unit_zero (S := S1x16x128) hz3, View.ld_unit_zero (S := S1x16x16x16x8) hz5, View.ld_unit_zero (S := S1x16x17x128) hz4,
    View.ld_unit_zero (S := S1x16x16x128) hz4, View.ld_unit_zero (S := S16x128) hz2, View.ld_unit_zero (S := S16x1) hz2,
    View.readCov_unit_zero (S := S16x128) _ hz2, View.readCov_unit_zero (S := S16x1) _ hz2]
  rfl

/-- At a sequence's last point, where the block holds a key it sees: the running weights. -/
theorem sout0_E_1_eq (hc0 : ¬cond0_0 i) (hc1 : cond0_1 i (lenWord c i xt1)) (hc2 : cond0_2 i) :
    sout0_E_1 c i a4 h4 a5 h5 a6 h6 a7 h7 a9 h9 a10 h10 a11 h11 hc0 hc2 x0 x1 x2 x3 xt0 xt1 xs0 xs1 hc1 = k0_pay3 (weights c i x0 x1 x2 xt1) xs1 := by
  unfold sout0_E_1
  rw [View.read_writes_eq_canon _ _ _ (scover0_E_1 c i a4 h4 a5 h5 a6 h6 a7 h7 a9 h9 a10 h10 a11 h11 hc0 hc2 x0 x1 x2 x3 xt0 xt1 xs0 xs1 hc1)]
  unfold kernelRun0_E
  dsimp only
  sl_unfold_words
  rw [View.canon_cons_unit_zero hz2]
  simp only [View.readAt_eq_ld, h4.read_unread, h5.read_unread, h6.read_unread, h7.read_unread, h10.read_unread, h11.read_unread,
    View.ld_unit_zero (S := S1x16x128) hz3, View.ld_unit_zero (S := S1x16x16x16x8) hz5, View.ld_unit_zero (S := S1x16x17x128) hz4,
    View.ld_unit_zero (S := S1x16x16x128) hz4, View.ld_unit_zero (S := S16x128) hz2, View.ld_unit_zero (S := S16x1) hz2,
    View.readCov_unit_zero (S := S16x128) _ hz2, View.readCov_unit_zero (S := S16x1) _ hz2]
  rfl

/-- At a sequence's last point, where the block holds a key it sees: the output's block. -/
theorem out0_E_4_eq (hc0 : ¬cond0_0 i) (hc1 : cond0_1 i (lenWord c i xt1)) (hc2 : cond0_2 i) :
    out0_E_4 c i a4 h4 a5 h5 a6 h6 a7 h7 a9 h9 a10 h10 a11 h11 hc0 hc2 x0 x1 x2 x3 xt0 xt1 xs0 xs1 hc1 = k0_pay5 (k0_pay4 (weights c i x0 x1 x2 xt1) x3 xs0) (k0_pay3 (weights c i x0 x1 x2 xt1) xs1) := by
  unfold out0_E_4
  rw [View.read_writes_eq_canon _ _ _ (cover0_E_4 c i a4 h4 a5 h5 a6 h6 a7 h7 a9 h9 a10 h10 a11 h11 hc0 hc2 x0 x1 x2 x3 xt0 xt1 xs0 xs1 hc1)]
  unfold kernelRun0_E
  dsimp only
  sl_unfold_words
  rw [View.canon_cons_unit_zero hz3]
  simp only [View.readAt_eq_ld, h4.read_unread, h5.read_unread, h6.read_unread, h7.read_unread, h10.read_unread, h11.read_unread,
    View.ld_unit_zero (S := S1x16x128) hz3, View.ld_unit_zero (S := S1x16x16x16x8) hz5, View.ld_unit_zero (S := S1x16x17x128) hz4,
    View.ld_unit_zero (S := S1x16x16x128) hz4, View.ld_unit_zero (S := S16x128) hz2, View.ld_unit_zero (S := S16x1) hz2,
    View.readCov_unit_zero (S := S16x128) _ hz2, View.readCov_unit_zero (S := S16x1) _ hz2]
  rfl

/-- At a sequence's last point past the context: the running weighted values. -/
theorem sout0_F_0_eq (hc0 : ¬cond0_0 i) (hc1 : ¬cond0_1 i (lenWord c i xt1)) (hc2 : cond0_2 i) :
    sout0_F_0 c i a4 h4 a5 h5 a6 h6 a7 h7 a9 h9 a10 h10 a11 h11 hc0 hc2 x0 x1 x2 x3 xt0 xt1 xs0 xs1 hc1 = xs0 := by
  rfl

/-- At a sequence's last point past the context: the running weights. -/
theorem sout0_F_1_eq (hc0 : ¬cond0_0 i) (hc1 : ¬cond0_1 i (lenWord c i xt1)) (hc2 : cond0_2 i) :
    sout0_F_1 c i a4 h4 a5 h5 a6 h6 a7 h7 a9 h9 a10 h10 a11 h11 hc0 hc2 x0 x1 x2 x3 xt0 xt1 xs0 xs1 hc1 = xs1 := by
  rfl

/-- At a sequence's last point past the context: the output's block. -/
theorem out0_F_4_eq (hc0 : ¬cond0_0 i) (hc1 : ¬cond0_1 i (lenWord c i xt1)) (hc2 : cond0_2 i) :
    out0_F_4 c i a4 h4 a5 h5 a6 h6 a7 h7 a9 h9 a10 h10 a11 h11 hc0 hc2 x0 x1 x2 x3 xt0 xt1 xs0 xs1 hc1 = k0_pay5 (xs0) (xs1) := by
  unfold out0_F_4
  rw [View.read_writes_eq_canon _ _ _ (cover0_F_4 c i a4 h4 a5 h5 a6 h6 a7 h7 a9 h9 a10 h10 a11 h11 hc0 hc2 x0 x1 x2 x3 xt0 xt1 xs0 xs1 hc1)]
  unfold kernelRun0_F
  dsimp only
  sl_unfold_words
  rw [View.canon_cons_unit_zero hz3]
  simp only [View.readAt_eq_ld, h4.read_unread, h5.read_unread, h6.read_unread, h7.read_unread, h10.read_unread, h11.read_unread,
    View.ld_unit_zero (S := S1x16x128) hz3, View.ld_unit_zero (S := S1x16x16x16x8) hz5, View.ld_unit_zero (S := S1x16x17x128) hz4,
    View.ld_unit_zero (S := S1x16x16x128) hz4, View.ld_unit_zero (S := S16x128) hz2, View.ld_unit_zero (S := S16x1) hz2,
    View.readCov_unit_zero (S := S16x128) _ hz2, View.readCov_unit_zero (S := S16x1) _ hz2]

end Cert.DecodeIdeal.Attention

end
-- ==== Proof.DecodeBlocks.lean ====
/-
  What the idealized decode program's points read: the sequence's query row, the length's word, and the block of keys, fresh keys
  and values the table names.
-/
module

public import proofs.«01_k».proof.Proof.DecodeTables
public import proofs.«01_k».proof.Proof.DecodeCases

@[expose] public section

noncomputable section

namespace Cert.DecodeIdeal.Attention

open Cert.DecodeIdeal Cert.DecodeIdeal.Gen Idealize.ShloMosaic Idealize.ShloMosaic.TcCoe Cert.Attention Cert.Attention.Decode

variable (m : (ℓ : Loc nD τ sig) → Buf (Elt Ideal) ℓ) (c : Dev nD) (hO : Ok m)

/-- The program's arguments: the block tables, the lengths, the rows, the cached and the fresh keys, the values, the rows handed in. -/
abbrev argBT : IVec Tables 32 := m ((c : Thread nD τ).loc main_arg0)
abbrev argCL : IVec Lens 32 := m ((c : Thread nD τ).loc main_arg1)
abbrev argQ : Vec Ideal Rows .f32 := m ((c : Thread nD τ).loc main_arg2)
abbrev argKC : Vec Ideal Cached .f32 := m ((c : Thread nD τ).loc main_arg3)
abbrev argKF : Vec Ideal Fresh .f32 := m ((c : Thread nD τ).loc main_arg4)
abbrev argVC : Vec Ideal Values .f32 := m ((c : Thread nD τ).loc main_arg5)
abbrev argO : Vec Ideal Rows .f32 := m ((c : Thread nD τ).loc main_arg6)

/-- Point `t` is block `t mod 64` of sequence `t / 64`. -/
def seq (t : Fin grid0.N) : Fin 16 := ⟨t.val / 64, by have h : t.val < 1024 := lt_of_lt_of_eq t.isLt N_0; omega⟩
def blockOf (t : Fin grid0.N) : Fin 64 := ⟨t.val % 64, Nat.mod_lt _ (by decide)⟩

theorem coords_seq (t : Fin grid0.N) : (grid0.coords t 0).val = (seq t).val := by
  have h : t.val < 1024 := lt_of_lt_of_eq t.isLt N_0
  have e : (grid0.coords t 0).val = t.val / 64 % 16 := Pipeline.Grid.coords_val t 0 (by decide) rfl
  rw [e]
  show _ = t.val / 64
  omega

theorem coords_block (t : Fin grid0.N) : (grid0.coords t 1).val = (blockOf t).val := by
  have e : (grid0.coords t 1).val = t.val / 1 % 64 := Pipeline.Grid.coords_val t 1 (by decide) rfl
  rw [e]
  show _ = t.val % 64
  omega

theorem index_word : ∀ n : Fin 64, (Scalar.indexCast (BitVec.ofNat 32 n.val)).toNat = n.val := by decide +kernel

theorem row_word : ∀ n : Fin 16, (Scalar.addi 4096#32 (BitVec.ofNat 32 n.val)).toNat = 4096 + n.val := by decide +kernel

theorem off1_eq (t : Fin grid0.N) : k0_off1 (grid0.coords t) = ![(seq t).val, (blockOf t).val] := by
  unfold k0_off1
  dsimp only
  have h0 := index_word ⟨(seq t).val, by have := (seq t).isLt; omega⟩
  have h1 := index_word (blockOf t)
  rw [coords_seq, coords_block, h1]
  dsimp only at h0
  rw [h0]

theorem off2_eq (t : Fin grid0.N) : k0_off2 (grid0.coords t) = ![(seq t).val] := by
  unfold k0_off2
  dsimp only
  have h0 := index_word ⟨(seq t).val, by have := (seq t).isLt; omega⟩
  dsimp only at h0
  rw [coords_seq, h0]

/-- The table's word at a point. -/
def word (t : Fin grid0.N) : BitVec 32 := table (argBT m c) (argCL m c) (ix2 (seq t) (blockOf t))

theorem tbl_word (t : Fin grid0.N) :
    Pipeline.Prefetch.Contents.at (tbl m) 0 (Rect.unit (s := S16x64) (k0_off1 (grid0.coords t)) S1x1.size (k0_off1_inb (grid0.coords t))) numel1_S1x1
      = word m c t := by
  have e := off1_eq t
  refine (congrFun (V_pre m c 0).symm _).trans ((congrFun (V_v9 m c) _).trans ?_)
  unfold word
  congr 1
  funext a
  refine Fin.ext ?_
  match a with
  | ⟨0, _⟩ => exact (congrFun e 0 : _ = (seq t).val)
  | ⟨1, _⟩ => exact (congrFun e 1 : _ = (blockOf t).val)

theorem len_word (t : Fin grid0.N) : lenWord (F := Ideal) c (grid0.coords t) (tbl m 1) = argCL m c (ix1 (seq t)) := by
  have e := off2_eq t
  refine (congrFun (V_pre m c 1).symm _).trans ((congrFun (V_main_arg1 m c) _).trans ?_)
  congr 1
  funext a
  refine Fin.ext ?_
  match a with
  | ⟨0, _⟩ => exact (congrFun e 0 : _ = (seq t).val)

/-- What a point reads: the query row, the cached keys, the fresh keys and flags, the values. -/
def queryAt (t : Fin (cfgM m hO).N) : Vec Ideal S1x16x128 .f32 := iblk m hO c 0 t
def keysAt (t : Fin (cfgM m hO).N) : Vec Ideal S1x16x16x16x8 .f32 := iblk m hO c 1 t
def freshAt (t : Fin (cfgM m hO).N) : Vec Ideal S1x16x17x128 .f32 := iblk m hO c 2 t
def valuesAt (t : Fin (cfgM m hO).N) : Vec Ideal S1x16x16x128 .f32 := iblk m hO c 3 t

/-- The query row. -/
theorem queryAt_apply (t : Fin (cfgM m hO).N) (h : Fin 16) (d : Fin 128) :
    queryAt m c hO t (ix3 0 h d) = argQ m c (ix3 (row (seq t)) h d) := by
  unfold queryAt iblk
  refine (View.read_apply _ _).trans ?_
  refine (congrFun (V_main_arg2 m c) _).trans ?_
  congr 1
  funext a
  refine Fin.ext ?_
  match a with
  | ⟨0, _⟩ =>
    show (Scalar.addi 4096#32 (BitVec.ofNat 32 (grid0.coords t 0).val)).toNat * 1 + 1 * 0 = 4096 + (seq t).val
    rw [coords_seq, row_word, Nat.mul_one, Nat.mul_zero, Nat.add_zero]
  | ⟨1, _⟩ => show 0 * 16 + 1 * h.val = h.val; omega
  | ⟨2, _⟩ => show 0 * 128 + 1 * d.val = d.val; omega

/-- The block of cached keys. -/
theorem keysAt_apply (t : Fin (cfgM m hO).N) (hw : (word m c t).toNat < 512) (h a o : Fin 16) (e : Fin 8) :
    keysAt m c hO t (ix5 0 h a o e) = argKC m c (ix5 ⟨(word m c t).toNat, hw⟩ h a o e) := by
  unfold keysAt iblk
  refine (View.read_apply _ _).trans ?_
  refine (congrFun (V_main_arg3 m c) _).trans ?_
  congr 1
  funext x
  refine Fin.ext ?_
  match x with
  | ⟨0, _⟩ =>
    show BitVec.toNat (Pipeline.Prefetch.Contents.at (tbl m) 0 (Rect.unit (s := S16x64) (k0_off1 (grid0.coords t)) S1x1.size (k0_off1_inb (grid0.coords t))) numel1_S1x1) * 1 + 1 * 0 = (word m c t).toNat
    rw [tbl_word m c t, Nat.mul_one, Nat.mul_zero, Nat.add_zero]
  | ⟨1, _⟩ => show 0 * 16 + 1 * h.val = h.val; omega
  | ⟨2, _⟩ => show 0 * 16 + 1 * a.val = a.val; omega
  | ⟨3, _⟩ => show 0 * 16 + 1 * o.val = o.val; omega
  | ⟨4, _⟩ => show 0 * 8 + 1 * e.val = e.val; omega

/-- The block of fresh keys and flags. -/
theorem freshAt_apply (t : Fin (cfgM m hO).N) (hw : (word m c t).toNat < 512) (o : Fin 16) (h : Fin 17) (d : Fin 128) :
    freshAt m c hO t (ix4 0 o h d) = argKF m c (ix4 ⟨(word m c t).toNat, hw⟩ o h d) := by
  unfold freshAt iblk
  refine (View.read_apply _ _).trans ?_
  refine (congrFun (V_main_arg4 m c) _).trans ?_
  congr 1
  funext x
  refine Fin.ext ?_
  match x with
  | ⟨0, _⟩ =>
    show BitVec.toNat (Pipeline.Prefetch.Contents.at (tbl m) 0 (Rect.unit (s := S16x64) (k0_off1 (grid0.coords t)) S1x1.size (k0_off1_inb (grid0.coords t))) numel1_S1x1) * 1 + 1 * 0 = (word m c t).toNat
    rw [tbl_word m c t, Nat.mul_one, Nat.mul_zero, Nat.add_zero]
  | ⟨1, _⟩ => show 0 * 16 + 1 * o.val = o.val; omega
  | ⟨2, _⟩ => show 0 * 17 + 1 * h.val = h.val; omega
  | ⟨3, _⟩ => show 0 * 128 + 1 * d.val = d.val; omega

/-- The block of values. -/
theorem valuesAt_apply (t : Fin (cfgM m hO).N) (hw : (word m c t).toNat < 512) (h o : Fin 16) (d : Fin 128) :
    valuesAt m c hO t (ix4 0 h o d) = argVC m c (ix4 ⟨(word m c t).toNat, hw⟩ h o d) := by
  unfold valuesAt iblk
  refine (View.read_apply _ _).trans ?_
  refine (congrFun (V_main_arg5 m c) _).trans ?_
  congr 1
  funext x
  refine Fin.ext ?_
  match x with
  | ⟨0, _⟩ =>
    show BitVec.toNat (Pipeline.Prefetch.Contents.at (tbl m) 0 (Rect.unit (s := S16x64) (k0_off1 (grid0.coords t)) S1x1.size (k0_off1_inb (grid0.coords t))) numel1_S1x1) * 1 + 1 * 0 = (word m c t).toNat
    rw [tbl_word m c t, Nat.mul_one, Nat.mul_zero, Nat.add_zero]
  | ⟨1, _⟩ => show 0 * 16 + 1 * h.val = h.val; omega
  | ⟨2, _⟩ => show 0 * 16 + 1 * o.val = o.val; omega
  | ⟨3, _⟩ => show 0 * 128 + 1 * d.val = d.val; omega

end Cert.DecodeIdeal.Attention

end
-- ==== Proof.DecodePoints.lean ====
/-
  The idealized decode program's points: after block `j` the running sums are the softmax's numerator and denominator over the
  keys of blocks `0 … j` the sequence sees, and the last point writes their quotient.
-/
module

public import proofs.«01_k».proof.Proof.Softmax
public import proofs.«01_k».proof.Proof.DecodeSpec
public import proofs.«01_k».proof.Proof.DecodeDomain
public import proofs.«01_k».proof.Proof.DecodePayloads
public import proofs.«01_k».proof.Proof.DecodeBlocks
public import proofs.«01_k».proof.Proof.DecodeIdealFrame

@[expose] public section

noncomputable section

namespace Cert.DecodeIdeal.Attention

open Cert.DecodeIdeal Cert.DecodeIdeal.Gen Idealize.ShloMosaic Idealize.ShloMosaic.TcCoe Cert.Attention Cert.Attention.Decode

variable (m : (ℓ : Loc nD τ sig) → Buf (Elt Ideal) ℓ) (c : Dev nD) (hO : Ok m)

/-- How many keys a point's sequence sees. -/
abbrev sees (t : Fin grid0.N) : ℕ := seen (argCL m c) (seq t)

/-- A sequence's scores and values on this program's arguments. -/
abbrev argScore (g h : Fin 16) : ℕ → EReal := score (argBT m c) (argQ m c) (argKC m c) (argKF m c) g h
abbrev argValue (g h : Fin 16) (d : Fin 128) : ℕ → EReal := value (argBT m c) (argVC m c) g h d

theorem weight_congr {p q : Prop} [Decidable p] [Decidable q] (h : p ↔ q) {x y : EReal} (e : x = y) :
    Ideal.exp (masked p x) = Ideal.exp (masked q y) := by
  subst e
  unfold masked
  simp only [h]

theorem page_eq {j o : ℕ} (hj : j < 64) (ho : o < 16) : page (16 * j + o) = ⟨j, hj⟩ := Fin.ext (by show (16 * j + o) / 16 % 64 = j; omega)
theorem slot_eq {j o : ℕ} (ho : o < 16) : slot (16 * j + o) = ⟨o, ho⟩ := Fin.ext (by show (16 * j + o) % 16 = o; omega)

theorem number_eq (w : BitVec 32) (hw : w.toNat < 512) : number w = ⟨w.toNat, hw⟩ := by
  refine Fin.ext ?_
  show min w.toInt.toNat 511 = w.toNat
  rw [BitVec.toInt_eq_toNat_of_lt (by omega)]
  simp
  omega

/-- The scalar test at a point: the block holds a key the sequence sees. -/
theorem cond_iff (t : Fin grid0.N) :
    cond0_1 (grid0.coords t) (lenWord (F := Ideal) c (grid0.coords t) (tbl m 1)) ↔ 16 * (blockOf t).val < sees m c t := by
  rw [len_word m c t]
  refine Iff.trans ?_ (slt_iff (o := 0) (blockOf t).isLt (by decide) (argCL m c (ix1 (seq t))))
  unfold cond0_1
  dsimp only
  rw [coords_block t]
  generalize argCL m c (ix1 (seq t)) = w
  generalize (blockOf t).val = j
  show BitVec.ofBool (BitVec.zeroExtend 32 (BitVec.ofBool (BitVec.slt (BitVec.ofNat 32 j * 16#32) w)) != 0#32) = 1#1 ↔ _
  rw [show BitVec.ofNat 32 j * 16#32 + BitVec.ofNat 32 0 = BitVec.ofNat 32 j * 16#32 from BitVec.add_zero _]
  cases BitVec.slt (BitVec.ofNat 32 j * 16#32) w <;> decide

variable {m c} (hD : Domain (argBT m c) (argCL m c) (argQ m c) (argKC m c) (argKF m c))
include hD

/-- Every word the table holds names a block. -/
theorem word_lt_all (t : Fin grid0.N) : (word m c t).toNat < 512 := by
  obtain ⟨y, hy⟩ := table_mem (argBT m c) (argCL m c) (ix2 (seq t) (blockOf t))
  unfold word
  rw [hy]
  exact hD.tables y

/-- Where the block holds a key the sequence sees, the word is the block table's. -/
theorem word_seen (t : Fin grid0.N) (h : 16 * (blockOf t).val < sees m c t) : word m c t = argBT m c (ix2 (seq t) (blockOf t)) :=
  table_seen (argBT m c) (argCL m c) (seq t) (blockOf t) _ (hD.le (seq t)) (hD.word (seq t)) h

theorem number_word (t : Fin grid0.N) (h : 16 * (blockOf t).val < sees m c t) :
    number (argBT m c (ix2 (seq t) (blockOf t))) = ⟨(word m c t).toNat, word_lt_all hD t⟩ := by
  rw [← word_seen hD t h]
  exact number_eq _ _

/-- The weights of the block's sixteen keys. -/
theorem weights_apply (t : Fin grid0.N) (hs : 16 * (blockOf t).val < sees m c t) (o h : Fin 16) :
    weights (F := Ideal) c (grid0.coords t) (queryAt m c hO t) (keysAt m c hO t) (freshAt m c hO t) (tbl m 1) (ix2 o h)
      = Ideal.exp (masked (16 * (blockOf t).val + o.val < min (16 * ((blockOf t).val + 1)) (sees m c t))
          (argScore m c (seq t) h (16 * (blockOf t).val + o.val))) := by
  unfold weights
  rw [coords_block, len_word m c t,
    pay6_apply (blockOf t).isLt (queryAt m c hO t) (keysAt m c hO t) (freshAt m c hO t) _ o h (by
      rw [freshAt_apply m c hO t (word_lt_all hD t)]; exact hD.flag _ _)]
  have e' : ∀ d : Fin 128, key (keysAt m c hO t) (freshAt m c hO t) (0 : Fin 1) h o d
      = key (argKC m c) (argKF m c) (⟨(word m c t).toNat, word_lt_all hD t⟩ : Fin 512) h o d := fun d => by
    unfold key
    rw [freshAt_apply m c hO t (word_lt_all hD t), freshAt_apply m c hO t (word_lt_all hD t), keysAt_apply m c hO t (word_lt_all hD t)]
  refine weight_congr (by
    show 16 * (blockOf t).val + o.val < sees m c t ↔ _
    have := o.isLt
    omega) ?_
  unfold argScore score
  rw [page_eq (blockOf t).isLt o.isLt, slot_eq o.isLt, number_word hD t hs]
  refine Finset.sum_congr rfl fun d _ => ?_
  rw [queryAt_apply m c hO t, e' d]

/-- The block's values. -/
theorem values_apply (t : Fin grid0.N) (hs : 16 * (blockOf t).val < sees m c t) (h o : Fin 16) (d : Fin 128) :
    valuesAt m c hO t (ix4 0 h o d) = argValue m c (seq t) h d (16 * (blockOf t).val + o.val) := by
  unfold argValue value
  rw [page_eq (blockOf t).isLt o.isLt, slot_eq o.isLt, number_word hD t hs, valuesAt_apply m c hO t (word_lt_all hD t)]

/-- One block's step of the running weighted values. -/
theorem step_num (t : Fin grid0.N) (hs : 16 * (blockOf t).val < sees m c t) (a : Vec Ideal S16x128 .f32) (h : Fin 16) (d : Fin 128)
    (ha : a (ix2 h d) = num (argScore m c (seq t) h) (argValue m c (seq t) h d) (16 * (blockOf t).val)) :
    k0_pay4 (weights (F := Ideal) c (grid0.coords t) (queryAt m c hO t) (keysAt m c hO t) (freshAt m c hO t) (tbl m 1)) (valuesAt m c hO t) a (ix2 h d)
      = num (argScore m c (seq t) h) (argValue m c (seq t) h d) (min (16 * ((blockOf t).val + 1)) (sees m c t)) := by
  rw [pay4_apply, ha]
  refine Eq.trans ?_ (num_block (n := 16 * (blockOf t).val) (m := 16) _ _ (by omega) (by omega))
  refine congrArg (_ + ·) (Finset.sum_congr rfl fun o _ => ?_)
  rw [weights_apply hO hD t hs o h, values_apply hO hD t hs h o d]

/-- One block's step of the running weights. -/
theorem step_den (t : Fin grid0.N) (hs : 16 * (blockOf t).val < sees m c t) (l : Vec Ideal S16x1 .f32) (h : Fin 16)
    (hl : l (ix2 h 0) = den (argScore m c (seq t) h) (16 * (blockOf t).val)) :
    k0_pay3 (weights (F := Ideal) c (grid0.coords t) (queryAt m c hO t) (keysAt m c hO t) (freshAt m c hO t) (tbl m 1)) l (ix2 h 0)
      = den (argScore m c (seq t) h) (min (16 * ((blockOf t).val + 1)) (sees m c t)) := by
  rw [pay3_apply, hl]
  refine Eq.trans ?_ (den_block (n := 16 * (blockOf t).val) (m := 16) _ (by omega) (by omega))
  refine congrArg (_ + ·) (Finset.sum_congr rfl fun o _ => ?_)
  rw [weights_apply hO hD t hs o h]

end Cert.DecodeIdeal.Attention

end
-- ==== Proof.DecodeState.lean ====
/-
  What each point of the idealized decode program leaves, over what the point before left, and the running sums read off it.
-/
module

public import proofs.«01_k».proof.Proof.DecodePoints

@[expose] public section

noncomputable section

namespace Cert.DecodeIdeal.Attention

open Cert.DecodeIdeal Cert.DecodeIdeal.Gen Idealize.ShloMosaic Idealize.ShloMosaic.TcCoe Cert.Attention Cert.Attention.Decode

variable {m : (ℓ : Loc nD τ sig) → Buf (Elt Ideal) ℓ} {c : Dev nD} (hO : Ok m)

/-- The point before. -/
abbrev before (t : Fin (cfgM m hO).N) : Fin (cfgM m hO).N := ⟨t.val - 1, Nat.lt_of_le_of_lt (Nat.sub_le _ _) t.isLt⟩

/-- The running weighted values and the running weights a point leaves. -/
def sums (t : Fin (cfgM m hO).N) : Vec Ideal S16x128 .f32 := (outsAt0 m hO c t.val t.isLt).2.1
def total (t : Fin (cfgM m hO).N) : Vec Ideal S16x1 .f32 := (outsAt0 m hO c t.val t.isLt).2.2

/-- The sixteen keys' weights at a point. -/
abbrev weightsAt (t : Fin (cfgM m hO).N) : FVec Ideal S16x16 .f32 :=
  weights (F := Ideal) c (grid0.coords t) (queryAt m c hO t) (keysAt m c hO t) (freshAt m c hO t) (tbl m 1)

/-- A sequence's first point adds its block to zero. -/
theorem sums_first (t : Fin (cfgM m hO).N) (h0 : t.val % 64 = 0) (hs : 16 * (blockOf t).val < sees m c t) :
    sums (c := c) hO t = k0_pay4 (weightsAt (c := c) hO t) (valuesAt m c hO t) (k0_pay1 (F := Ideal)) := by
  unfold sums
  rw [outsAt0_A m hO c t h0 ((cond_iff m c t).mpr hs) (by omega)]
  dsimp only
  exact sout0_A_0_eq (F := Ideal) ..

theorem total_first (t : Fin (cfgM m hO).N) (h0 : t.val % 64 = 0) (hs : 16 * (blockOf t).val < sees m c t) :
    total (c := c) hO t = k0_pay3 (weightsAt (c := c) hO t) (k0_pay2 (F := Ideal)) := by
  unfold total
  rw [outsAt0_A m hO c t h0 ((cond_iff m c t).mpr hs) (by omega)]
  dsimp only
  exact sout0_A_1_eq (F := Ideal) ..

/-- A later point whose block holds a key the sequence sees adds its block. -/
theorem sums_seen (t : Fin (cfgM m hO).N) (h0 : ¬t.val % 64 = 0) (hs : 16 * (blockOf t).val < sees m c t) :
    sums (c := c) hO t = k0_pay4 (weightsAt (c := c) hO t) (valuesAt m c hO t) (sums (c := c) hO (before hO t)) := by
  unfold sums
  by_cases h2 : t.val % 64 = 63
  · rw [outsAt0_E m hO c t h0 ((cond_iff m c t).mpr hs) h2]
    dsimp only
    exact sout0_E_0_eq (F := Ideal) ..
  · rw [outsAt0_C m hO c t h0 ((cond_iff m c t).mpr hs) h2]
    dsimp only
    exact sout0_C_0_eq (F := Ideal) ..

theorem total_seen (t : Fin (cfgM m hO).N) (h0 : ¬t.val % 64 = 0) (hs : 16 * (blockOf t).val < sees m c t) :
    total (c := c) hO t = k0_pay3 (weightsAt (c := c) hO t) (total (c := c) hO (before hO t)) := by
  unfold total
  by_cases h2 : t.val % 64 = 63
  · rw [outsAt0_E m hO c t h0 ((cond_iff m c t).mpr hs) h2]
    dsimp only
    exact sout0_E_1_eq (F := Ideal) ..
  · rw [outsAt0_C m hO c t h0 ((cond_iff m c t).mpr hs) h2]
    dsimp only
    exact sout0_C_1_eq (F := Ideal) ..

/-- A later point past the context adds nothing. -/
theorem sums_past (t : Fin (cfgM m hO).N) (h0 : ¬t.val % 64 = 0) (hs : ¬16 * (blockOf t).val < sees m c t) :
    sums (c := c) hO t = sums (c := c) hO (before hO t) := by
  unfold sums
  by_cases h2 : t.val % 64 = 63
  · rw [outsAt0_F m hO c t h0 (fun h => hs ((cond_iff m c t).mp h)) h2]
    dsimp only
    exact sout0_F_0_eq (F := Ideal) ..
  · rw [outsAt0_D m hO c t h0 (fun h => hs ((cond_iff m c t).mp h)) h2]
    dsimp only
    exact sout0_D_0_eq (F := Ideal) ..

theorem total_past (t : Fin (cfgM m hO).N) (h0 : ¬t.val % 64 = 0) (hs : ¬16 * (blockOf t).val < sees m c t) :
    total (c := c) hO t = total (c := c) hO (before hO t) := by
  unfold total
  by_cases h2 : t.val % 64 = 63
  · rw [outsAt0_F m hO c t h0 (fun h => hs ((cond_iff m c t).mp h)) h2]
    dsimp only
    exact sout0_F_1_eq (F := Ideal) ..
  · rw [outsAt0_D m hO c t h0 (fun h => hs ((cond_iff m c t).mp h)) h2]
    dsimp only
    exact sout0_D_1_eq (F := Ideal) ..

/-- A sequence's last point writes the quotient of the sums it leaves. -/
theorem out_last (t : Fin (cfgM m hO).N) (h2 : t.val % 64 = 63) :
    (outsAt0 m hO c t.val t.isLt).1 = k0_pay5 (sums (c := c) hO t) (total (c := c) hO t) := by
  have h0 : ¬t.val % 64 = 0 := by omega
  by_cases hs : 16 * (blockOf t).val < sees m c t
  · rw [sums_seen hO t h0 hs, total_seen hO t h0 hs, outsAt0_E m hO c t h0 ((cond_iff m c t).mpr hs) h2]
    dsimp only
    exact out0_E_4_eq (F := Ideal) ..
  · rw [sums_past hO t h0 hs, total_past hO t h0 hs, outsAt0_F m hO c t h0 (fun h => hs ((cond_iff m c t).mp h)) h2]
    dsimp only
    exact out0_F_4_eq (F := Ideal) ..

variable (hD : Domain (argBT m c) (argCL m c) (argQ m c) (argKC m c) (argKF m c))
include hD

/-- The sums a point leaves: the numerator and the denominator over the keys of the blocks so far the sequence sees. -/
theorem sums_apply : ∀ (n : ℕ) (hn : n < (cfgM m hO).N) (h : Fin 16),
    (∀ d : Fin 128, sums (c := c) hO ⟨n, hn⟩ (ix2 h d)
        = num (argScore m c (seq ⟨n, hn⟩) h) (argValue m c (seq ⟨n, hn⟩) h d) (min (16 * ((blockOf ⟨n, hn⟩).val + 1)) (sees m c ⟨n, hn⟩)))
      ∧ total (c := c) hO ⟨n, hn⟩ (ix2 h 0)
        = den (argScore m c (seq ⟨n, hn⟩) h) (min (16 * ((blockOf ⟨n, hn⟩).val + 1)) (sees m c ⟨n, hn⟩)) := by
  intro n
  induction n with
  | zero =>
    intro hn h
    have hs : 16 * (blockOf ⟨0, hn⟩).val < sees m c ⟨0, hn⟩ := hD.pos _
    constructor
    · intro d
      rw [sums_first hO ⟨0, hn⟩ rfl hs]
      exact step_num hO hD ⟨0, hn⟩ hs _ h d (pay1_apply _)
    · rw [total_first hO ⟨0, hn⟩ rfl hs]
      exact step_den hO hD ⟨0, hn⟩ hs _ h (pay2_apply _)
  | succ n ih =>
    intro hn h
    have hb : (blockOf ⟨n + 1, hn⟩).val = (n + 1) % 64 := rfl
    by_cases h0 : (n + 1) % 64 = 0
    · have hz : (blockOf ⟨n + 1, hn⟩).val = 0 := h0
      have hs : 16 * (blockOf ⟨n + 1, hn⟩).val < sees m c ⟨n + 1, hn⟩ := by rw [hz]; exact hD.pos _
      constructor
      · intro d
        rw [sums_first hO ⟨n + 1, hn⟩ h0 hs]
        refine step_num hO hD ⟨n + 1, hn⟩ hs _ h d ((pay1_apply _).trans ?_)
        rw [hz]
        rfl
      · rw [total_first hO ⟨n + 1, hn⟩ h0 hs]
        refine step_den hO hD ⟨n + 1, hn⟩ hs _ h ((pay2_apply _).trans ?_)
        rw [hz]
        rfl
    · have hn' : n < (cfgM m hO).N := by omega
      obtain ⟨ia, il⟩ := ih hn' h
      have eg : seq ⟨n, hn'⟩ = seq ⟨n + 1, hn⟩ := Fin.ext (by show n / 64 = (n + 1) / 64; omega)
      have ej : (blockOf ⟨n, hn'⟩).val + 1 = (blockOf ⟨n + 1, hn⟩).val := by show n % 64 + 1 = (n + 1) % 64; omega
      have es : sees m c ⟨n, hn'⟩ = sees m c ⟨n + 1, hn⟩ := congrArg (seen (argCL m c)) eg
      rw [eg, ej, es] at il
      simp only [eg, ej, es] at ia
      by_cases hs : 16 * (blockOf ⟨n + 1, hn⟩).val < sees m c ⟨n + 1, hn⟩
      · have hm : min (16 * (blockOf ⟨n + 1, hn⟩).val) (sees m c ⟨n + 1, hn⟩) = 16 * (blockOf ⟨n + 1, hn⟩).val := by omega
        constructor
        · intro d
          rw [sums_seen hO ⟨n + 1, hn⟩ h0 hs]
          refine step_num hO hD ⟨n + 1, hn⟩ hs _ h d ?_
          rw [← hm]
          exact ia d
        · rw [total_seen hO ⟨n + 1, hn⟩ h0 hs]
          refine step_den hO hD ⟨n + 1, hn⟩ hs _ h ?_
          rw [← hm]
          exact il
      · have hm : min (16 * ((blockOf ⟨n + 1, hn⟩).val + 1)) (sees m c ⟨n + 1, hn⟩)
            = min (16 * (blockOf ⟨n + 1, hn⟩).val) (sees m c ⟨n + 1, hn⟩) := by omega
        rw [hm]
        constructor
        · intro d
          rw [sums_past hO ⟨n + 1, hn⟩ h0 hs]
          exact ia d
        · rw [total_past hO ⟨n + 1, hn⟩ h0 hs]
          exact il

/-- The block a sequence's last point writes: the attention over every key the sequence sees. -/
theorem out_apply (t : Fin (cfgM m hO).N) (h2 : t.val % 64 = 63) (h : Fin 16) (d : Fin 128) :
    (outsAt0 m hO c t.val t.isLt).1 (ix3 0 h d)
      = attention (argBT m c) (argCL m c) (argQ m c) (argKC m c) (argKF m c) (argVC m c) (seq t) h d := by
  obtain ⟨ia, il⟩ := sums_apply hO hD t.val t.isLt h
  have hm : min (16 * ((blockOf t).val + 1)) (sees m c t) = sees m c t := by
    have hb : (blockOf t).val = 63 := h2
    have := hD.le (seq t)
    rw [hb]
    exact Nat.min_eq_right this
  rw [out_last hO t h2, pay5_apply]
  unfold attention attend
  refine congrArg₂ Ideal.div ((ia d).trans ?_) (il.trans ?_)
  · exact congrArg (num _ _) hm
  · exact congrArg (den _) hm

end Cert.DecodeIdeal.Attention

end
-- ==== Proof.DecodeArray.lean ====
/-
  What the idealized decode program's result array holds after the run: the rows handed in, and from row 4096 the sequences'
  attention.
-/
module

public import proofs.«01_k».proof.Proof.DecodeState

@[expose] public section

noncomputable section

namespace Cert.DecodeIdeal.Attention

open Cert.DecodeIdeal Cert.DecodeIdeal.Gen Idealize.ShloMosaic Idealize.ShloMosaic.TcCoe Cert.Attention Cert.Attention.Decode
open Idealize.ShloMosaic.Pipeline (Dat)

variable (m : (ℓ : Loc nD τ sig) → Buf (Elt Ideal) ℓ) (c : Dev nD) (hO : Ok m)

/-- The result on this program's arguments. -/
abbrev argResult : Vec Ideal Rows .f32 := Decode.result (argBT m c) (argCL m c) (argQ m c) (argKC m c) (argKF m c) (argVC m c) (argO m c)

theorem index4 (t : Fin (cfgM m hO).N) : ((cfgM m hO).win 4).index t (0 : Fin 3) = 4096 + (seq t).val := by
  show (Scalar.addi 4096#32 (BitVec.ofNat 32 (grid0.coords t 0).val)).toNat = _
  rw [coords_seq, row_word]

/-- The block a point writes is its sequence's row. -/
theorem mem4 (t : Fin (cfgM m hO).N) (i : S4112x16x128.Idx) :
    i ∈ (((cfgM m hO).win 4).blk t).view.set ↔ (i 0).val = 4096 + (seq t).val := by
  show i ∈ ((View.whole main_v10).slice (((cfgM m hO).win 4).rect t)).set ↔ _
  refine (iff_of_eq (congrArg (i ∈ ·) (View.set_slice_whole main_v10 (((cfgM m hO).win 4).rect t)))).trans (Rect.mem_set_unit.trans ?_)
  constructor
  · intro h
    have h0 : ((cfgM m hO).win 4).index t (0 : Fin 3) * 1 ≤ (i 0).val ∧ (i 0).val < ((cfgM m hO).win 4).index t (0 : Fin 3) * 1 + 1 := h 0
    rw [index4 m hO t] at h0
    omega
  · intro h a
    match a with
    | ⟨0, _⟩ =>
      show ((cfgM m hO).win 4).index t (0 : Fin 3) * 1 ≤ (i 0).val ∧ (i 0).val < ((cfgM m hO).win 4).index t (0 : Fin 3) * 1 + 1
      rw [index4 m hO t]; omega
    | ⟨1, _⟩ =>
      have hi : (i 1).val < 16 := (i 1).isLt
      show 0 * 16 ≤ (i 1).val ∧ (i 1).val < 0 * 16 + 16
      omega
    | ⟨2, _⟩ =>
      have hi : (i 2).val < 128 := (i 2).isLt
      show 0 * 128 ≤ (i 2).val ∧ (i 2).val < 0 * 128 + 128
      omega

/-- The last point of sequence `g`. -/
def last (g : Fin 16) : Fin (cfgM m hO).N := ⟨64 * g.val + 63, by show _ < grid0.N; rw [N_0]; omega⟩

theorem seq_last (g : Fin 16) : seq (last m hO g) = g := Fin.ext (by show (64 * g.val + 63) / 64 = g.val; omega)

variable (hD : Domain (argBT m c) (argCL m c) (argQ m c) (argKC m c) (argKF m c))
include hD

/-- The array after the run. -/
theorem final (i : S4112x16x128.Idx) : (dats m hO 0 c).arrAt 4 (cfgM m hO).N i = argResult m c i := by
  by_cases hi : (i 0).val < 4096
  · refine ((dats m hO 0 c).arrAt_apply_of_forall_not_mem 4 (cfgM m hO).N i fun t _ _ hmem => ?_).trans ?_
    · have := (mem4 m hO t i).mp hmem
      omega
    · rw [A_eq m hO c 4]
      refine (congrFun (V_v10 m c) i).trans ?_
      unfold argResult Decode.result
      rw [dif_pos hi]
  · have hr : (i 0).val < 4112 := (i 0).isLt
    refine (dats m hO 0 c).arrAt_apply_of_mem 4 (argResult m c) (fun t hf => ?_) (cfgM m hO).N (last m hO ⟨(i 0).val - 4096, by omega⟩) i
      (Fin.isLt _) ((flush0_4 _ _).mpr (by show (64 * ((i 0).val - 4096) + 63) % 64 = 63; omega)) ?_
    · have h2 : t.val % 64 = 63 := (flush0_4 _ t).mp hf
      show ((cfgM m hO).win 4).cut (grid0.coords t) ((dats m hO 0 c).after 4 t) = _
      rw [after0_4 m hO c t]
      refine funext fun (y : S1x16x128.Idx) => ?_
      refine Eq.trans ?_ (View.read_apply _ _).symm
      have y0 : (y 0).val < 1 := (y 0).isLt
      have y1 : (y 1).val < 16 := (y 1).isLt
      have y2 : (y 2).val < 128 := (y 2).isLt
      have e : ((cfgM m hO).win 4).xinj (grid0.coords t) y = (ix3 0 ⟨(y 1).val, y1⟩ ⟨(y 2).val, y2⟩ : S1x16x128.Idx) := by
        funext a
        apply Fin.ext
        match a with
        | ⟨0, _⟩ => show (y 0).val = 0; omega
        | ⟨1, _⟩ => rfl
        | ⟨2, _⟩ => rfl
      have e' : (((cfgM m hO).win 4).blk t).view.emb y = (ix3 (row (seq t)) ⟨(y 1).val, y1⟩ ⟨(y 2).val, y2⟩ : S4112x16x128.Idx) := by
        funext a
        apply Fin.ext
        match a with
        | ⟨0, _⟩ =>
          show ((cfgM m hO).win 4).index t (0 : Fin 3) * 1 + 1 * (y 0).val = 4096 + (seq t).val
          rw [index4 m hO t]; omega
        | ⟨1, _⟩ => show 0 * 16 + 1 * (y 1).val = (y 1).val; omega
        | ⟨2, _⟩ => show 0 * 128 + 1 * (y 2).val = (y 2).val; omega
      show (outsAt0 m hO c t.val t.isLt).1 (((cfgM m hO).win 4).xinj (grid0.coords t) y) = argResult m c ((((cfgM m hO).win 4).blk t).view.emb y)
      rw [e, e', out_apply hO hD t h2]
      unfold argResult Decode.result
      rw [dif_neg (by show ¬4096 + (seq t).val < 4096; omega)]
      exact congrArg (fun g => attention (argBT m c) (argCL m c) (argQ m c) (argKC m c) (argKF m c) (argVC m c) g ⟨(y 1).val, y1⟩ ⟨(y 2).val, y2⟩)
        (Fin.ext (by show (seq t).val = 4096 + (seq t).val - 4096; omega))
    · refine (mem4 m hO _ i).mpr ?_
      rw [seq_last]
      show (i 0).val = 4096 + ((i 0).val - 4096)
      omega

end Cert.DecodeIdeal.Attention

end
-- ==== Proof.DecodeGather.lean ====
/-
  The decode reference's lookups: the cached keys, the fresh keys with their flags and the values of the block a table's word names.
-/
module

public import proofs.«01_k».proof.Proof.DecodeSpec
public import proofs.«01_k».proof.Proof.Gen.DecodeReferenceIdeal.Read
public import Idealize.ShloMosaic.Lib.ValueIdxRank6

@[expose] public section

noncomputable section

namespace Cert.DecodeReferenceIdeal.Attention

open Idealize.ShloMosaic Cert.DecodeReferenceIdeal Cert.DecodeReferenceIdeal.Gen Cert.DecodeReferenceIdeal.Read Cert.Attention Cert.Attention.Decode

/-- The cached keys of the block the table names at `(g, p)`. -/
theorem lookup_4 (x0 : IVec Tables 32) (x3 : Vec Ideal S512x16x16x16x8 .f32) (g : Fin 16) (p : Fin 64) (a : Fin 16) (b : Fin 16) (c : Fin 16) (d : Fin 8) :
    val_main_v4 (F := Ideal) x0 x3 (ix6 g p a b c d) = x3 (ix5 (number (x0 (ix2 g p))) a b c d) := by
  unfold val_main_v4 Host.gather
  congr 1
  funext k
  refine Fin.ext ?_
  show gather_S512x16x16x16x8_S16x64x1_S16x64x16x16x16x8_2345_0_n_n_0_2_11616168.start (ix6 g p a b c d) (val_main_call0_v0 (F := Ideal) x0) k + gather_S512x16x16x16x8_S16x64x1_S16x64x16x16x16x8_2345_0_n_n_0_2_11616168.batchCoord (ix6 g p a b c d) k + gather_S512x16x16x16x8_S16x64x1_S16x64x16x16x16x8_2345_0_n_n_0_2_11616168.offCoord (ix6 g p a b c d) k = _
  rw [GatherDims.batchCoord_eq_zero _ _ _ (List.not_mem_nil (a := k)), Nat.add_zero]
  match k with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, _⟩ : Fin 5) ∈ gather_S512x16x16x16x8_S16x64x1_S16x64x16x16x16x8_2345_0_n_n_0_2_11616168.startIndexMap from List.mem_singleton.mpr rfl)]
    have hsi : ∀ q, gather_S512x16x16x16x8_S16x64x1_S16x64x16x16x16x8_2345_0_n_n_0_2_11616168.siIdx (ix6 g p a b c d) q = ix3 g p 0 := fun q => by
      have hq : q = ⟨0, by decide⟩ := Fin.ext (by have : q.val < 1 := q.isLt; show q.val = 0; omega)
      subst hq
      funext b
      refine Fin.ext ?_
      match b with
      | ⟨0, _⟩ => rfl
      | ⟨1, _⟩ => rfl
      | ⟨2, _⟩ => rfl
    have hi : idx_main_call0_v0 (ix3 g p 0) = (ix2 g p : Tables.Idx) := by
      funext b
      refine Fin.ext ?_
      match b with
      | ⟨0, _⟩ => rfl
      | ⟨1, _⟩ => rfl
    rw [hsi, val_main_call0_v0_apply, hi]
    rfl
  | ⟨1, _⟩ =>
    have hn : (⟨1, by decide⟩ : Fin 5) ∉ ([0] : List (Fin 5)) := by decide
    have hs : (⟨1, by decide⟩ : Fin S512x16x16x16x8.rank) ∉ gather_S512x16x16x16x8_S16x64x1_S16x64x16x16x16x8_2345_0_n_n_0_2_11616168.startIndexMap := hn
    have hk : (⟨1, by decide⟩ : Fin S512x16x16x16x8.rank) ∈ gather_S512x16x16x16x8_S16x64x1_S16x64x16x16x16x8_2345_0_n_n_0_2_11616168.sKept := (GatherDims.mem_sKept _ _).mpr ⟨hn, List.not_mem_nil⟩
    unfold GatherDims.start GatherDims.offCoord
    rw [dif_neg hs, dif_pos hk, Nat.zero_add]
    rfl
  | ⟨2, _⟩ =>
    have hn : (⟨2, by decide⟩ : Fin 5) ∉ ([0] : List (Fin 5)) := by decide
    have hs : (⟨2, by decide⟩ : Fin S512x16x16x16x8.rank) ∉ gather_S512x16x16x16x8_S16x64x1_S16x64x16x16x16x8_2345_0_n_n_0_2_11616168.startIndexMap := hn
    have hk : (⟨2, by decide⟩ : Fin S512x16x16x16x8.rank) ∈ gather_S512x16x16x16x8_S16x64x1_S16x64x16x16x16x8_2345_0_n_n_0_2_11616168.sKept := (GatherDims.mem_sKept _ _).mpr ⟨hn, List.not_mem_nil⟩
    unfold GatherDims.start GatherDims.offCoord
    rw [dif_neg hs, dif_pos hk, Nat.zero_add]
    rfl
  | ⟨3, _⟩ =>
    have hn : (⟨3, by decide⟩ : Fin 5) ∉ ([0] : List (Fin 5)) := by decide
    have hs : (⟨3, by decide⟩ : Fin S512x16x16x16x8.rank) ∉ gather_S512x16x16x16x8_S16x64x1_S16x64x16x16x16x8_2345_0_n_n_0_2_11616168.startIndexMap := hn
    have hk : (⟨3, by decide⟩ : Fin S512x16x16x16x8.rank) ∈ gather_S512x16x16x16x8_S16x64x1_S16x64x16x16x16x8_2345_0_n_n_0_2_11616168.sKept := (GatherDims.mem_sKept _ _).mpr ⟨hn, List.not_mem_nil⟩
    unfold GatherDims.start GatherDims.offCoord
    rw [dif_neg hs, dif_pos hk, Nat.zero_add]
    rfl
  | ⟨4, _⟩ =>
    have hn : (⟨4, by decide⟩ : Fin 5) ∉ ([0] : List (Fin 5)) := by decide
    have hs : (⟨4, by decide⟩ : Fin S512x16x16x16x8.rank) ∉ gather_S512x16x16x16x8_S16x64x1_S16x64x16x16x16x8_2345_0_n_n_0_2_11616168.startIndexMap := hn
    have hk : (⟨4, by decide⟩ : Fin S512x16x16x16x8.rank) ∈ gather_S512x16x16x16x8_S16x64x1_S16x64x16x16x16x8_2345_0_n_n_0_2_11616168.sKept := (GatherDims.mem_sKept _ _).mpr ⟨hn, List.not_mem_nil⟩
    unfold GatherDims.start GatherDims.offCoord
    rw [dif_neg hs, dif_pos hk, Nat.zero_add]
    rfl

/-- The fresh keys and flags of the block the table names at `(g, p)`. -/
theorem lookup_7 (x0 : IVec Tables 32) (x4 : Vec Ideal S512x16x17x128 .f32) (g : Fin 16) (p : Fin 64) (a : Fin 16) (b : Fin 17) (c : Fin 128) :
    val_main_v7 (F := Ideal) x0 x4 (ix5 g p a b c) = x4 (ix4 (number (x0 (ix2 g p))) a b c) := by
  unfold val_main_v7 Host.gather
  congr 1
  funext k
  refine Fin.ext ?_
  show gather_S512x16x17x128_S16x64x1_S16x64x16x17x128_234_0_n_n_0_2_11617128.start (ix5 g p a b c) (val_main_call1_v0 (F := Ideal) x0) k + gather_S512x16x17x128_S16x64x1_S16x64x16x17x128_234_0_n_n_0_2_11617128.batchCoord (ix5 g p a b c) k + gather_S512x16x17x128_S16x64x1_S16x64x16x17x128_234_0_n_n_0_2_11617128.offCoord (ix5 g p a b c) k = _
  rw [GatherDims.batchCoord_eq_zero _ _ _ (List.not_mem_nil (a := k)), Nat.add_zero]
  match k with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, _⟩ : Fin 4) ∈ gather_S512x16x17x128_S16x64x1_S16x64x16x17x128_234_0_n_n_0_2_11617128.startIndexMap from List.mem_singleton.mpr rfl)]
    have hsi : ∀ q, gather_S512x16x17x128_S16x64x1_S16x64x16x17x128_234_0_n_n_0_2_11617128.siIdx (ix5 g p a b c) q = ix3 g p 0 := fun q => by
      have hq : q = ⟨0, by decide⟩ := Fin.ext (by have : q.val < 1 := q.isLt; show q.val = 0; omega)
      subst hq
      funext b
      refine Fin.ext ?_
      match b with
      | ⟨0, _⟩ => rfl
      | ⟨1, _⟩ => rfl
      | ⟨2, _⟩ => rfl
    have hi : idx_main_call1_v0 (ix3 g p 0) = (ix2 g p : Tables.Idx) := by
      funext b
      refine Fin.ext ?_
      match b with
      | ⟨0, _⟩ => rfl
      | ⟨1, _⟩ => rfl
    rw [hsi, val_main_call1_v0_apply, hi]
    rfl
  | ⟨1, _⟩ =>
    have hn : (⟨1, by decide⟩ : Fin 4) ∉ ([0] : List (Fin 4)) := by decide
    have hs : (⟨1, by decide⟩ : Fin S512x16x17x128.rank) ∉ gather_S512x16x17x128_S16x64x1_S16x64x16x17x128_234_0_n_n_0_2_11617128.startIndexMap := hn
    have hk : (⟨1, by decide⟩ : Fin S512x16x17x128.rank) ∈ gather_S512x16x17x128_S16x64x1_S16x64x16x17x128_234_0_n_n_0_2_11617128.sKept := (GatherDims.mem_sKept _ _).mpr ⟨hn, List.not_mem_nil⟩
    unfold GatherDims.start GatherDims.offCoord
    rw [dif_neg hs, dif_pos hk, Nat.zero_add]
    rfl
  | ⟨2, _⟩ =>
    have hn : (⟨2, by decide⟩ : Fin 4) ∉ ([0] : List (Fin 4)) := by decide
    have hs : (⟨2, by decide⟩ : Fin S512x16x17x128.rank) ∉ gather_S512x16x17x128_S16x64x1_S16x64x16x17x128_234_0_n_n_0_2_11617128.startIndexMap := hn
    have hk : (⟨2, by decide⟩ : Fin S512x16x17x128.rank) ∈ gather_S512x16x17x128_S16x64x1_S16x64x16x17x128_234_0_n_n_0_2_11617128.sKept := (GatherDims.mem_sKept _ _).mpr ⟨hn, List.not_mem_nil⟩
    unfold GatherDims.start GatherDims.offCoord
    rw [dif_neg hs, dif_pos hk, Nat.zero_add]
    rfl
  | ⟨3, _⟩ =>
    have hn : (⟨3, by decide⟩ : Fin 4) ∉ ([0] : List (Fin 4)) := by decide
    have hs : (⟨3, by decide⟩ : Fin S512x16x17x128.rank) ∉ gather_S512x16x17x128_S16x64x1_S16x64x16x17x128_234_0_n_n_0_2_11617128.startIndexMap := hn
    have hk : (⟨3, by decide⟩ : Fin S512x16x17x128.rank) ∈ gather_S512x16x17x128_S16x64x1_S16x64x16x17x128_234_0_n_n_0_2_11617128.sKept := (GatherDims.mem_sKept _ _).mpr ⟨hn, List.not_mem_nil⟩
    unfold GatherDims.start GatherDims.offCoord
    rw [dif_neg hs, dif_pos hk, Nat.zero_add]
    rfl

/-- The values of the block the table names at `(g, p)`. -/
theorem lookup_9 (x0 : IVec Tables 32) (x5 : Vec Ideal S512x16x16x128 .f32) (g : Fin 16) (p : Fin 64) (a : Fin 16) (b : Fin 16) (c : Fin 128) :
    val_main_v9 (F := Ideal) x0 x5 (ix5 g p a b c) = x5 (ix4 (number (x0 (ix2 g p))) a b c) := by
  unfold val_main_v9 Host.gather
  congr 1
  funext k
  refine Fin.ext ?_
  show gather_S512x16x16x128_S16x64x1_S16x64x16x16x128_234_0_n_n_0_2_11616128.start (ix5 g p a b c) (val_main_call2_v0 (F := Ideal) x0) k + gather_S512x16x16x128_S16x64x1_S16x64x16x16x128_234_0_n_n_0_2_11616128.batchCoord (ix5 g p a b c) k + gather_S512x16x16x128_S16x64x1_S16x64x16x16x128_234_0_n_n_0_2_11616128.offCoord (ix5 g p a b c) k = _
  rw [GatherDims.batchCoord_eq_zero _ _ _ (List.not_mem_nil (a := k)), Nat.add_zero]
  match k with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, _⟩ : Fin 4) ∈ gather_S512x16x16x128_S16x64x1_S16x64x16x16x128_234_0_n_n_0_2_11616128.startIndexMap from List.mem_singleton.mpr rfl)]
    have hsi : ∀ q, gather_S512x16x16x128_S16x64x1_S16x64x16x16x128_234_0_n_n_0_2_11616128.siIdx (ix5 g p a b c) q = ix3 g p 0 := fun q => by
      have hq : q = ⟨0, by decide⟩ := Fin.ext (by have : q.val < 1 := q.isLt; show q.val = 0; omega)
      subst hq
      funext b
      refine Fin.ext ?_
      match b with
      | ⟨0, _⟩ => rfl
      | ⟨1, _⟩ => rfl
      | ⟨2, _⟩ => rfl
    have hi : idx_main_call2_v0 (ix3 g p 0) = (ix2 g p : Tables.Idx) := by
      funext b
      refine Fin.ext ?_
      match b with
      | ⟨0, _⟩ => rfl
      | ⟨1, _⟩ => rfl
    rw [hsi, val_main_call2_v0_apply, hi]
    rfl
  | ⟨1, _⟩ =>
    have hn : (⟨1, by decide⟩ : Fin 4) ∉ ([0] : List (Fin 4)) := by decide
    have hs : (⟨1, by decide⟩ : Fin S512x16x16x128.rank) ∉ gather_S512x16x16x128_S16x64x1_S16x64x16x16x128_234_0_n_n_0_2_11616128.startIndexMap := hn
    have hk : (⟨1, by decide⟩ : Fin S512x16x16x128.rank) ∈ gather_S512x16x16x128_S16x64x1_S16x64x16x16x128_234_0_n_n_0_2_11616128.sKept := (GatherDims.mem_sKept _ _).mpr ⟨hn, List.not_mem_nil⟩
    unfold GatherDims.start GatherDims.offCoord
    rw [dif_neg hs, dif_pos hk, Nat.zero_add]
    rfl
  | ⟨2, _⟩ =>
    have hn : (⟨2, by decide⟩ : Fin 4) ∉ ([0] : List (Fin 4)) := by decide
    have hs : (⟨2, by decide⟩ : Fin S512x16x16x128.rank) ∉ gather_S512x16x16x128_S16x64x1_S16x64x16x16x128_234_0_n_n_0_2_11616128.startIndexMap := hn
    have hk : (⟨2, by decide⟩ : Fin S512x16x16x128.rank) ∈ gather_S512x16x16x128_S16x64x1_S16x64x16x16x128_234_0_n_n_0_2_11616128.sKept := (GatherDims.mem_sKept _ _).mpr ⟨hn, List.not_mem_nil⟩
    unfold GatherDims.start GatherDims.offCoord
    rw [dif_neg hs, dif_pos hk, Nat.zero_add]
    rfl
  | ⟨3, _⟩ =>
    have hn : (⟨3, by decide⟩ : Fin 4) ∉ ([0] : List (Fin 4)) := by decide
    have hs : (⟨3, by decide⟩ : Fin S512x16x16x128.rank) ∉ gather_S512x16x16x128_S16x64x1_S16x64x16x16x128_234_0_n_n_0_2_11616128.startIndexMap := hn
    have hk : (⟨3, by decide⟩ : Fin S512x16x16x128.rank) ∈ gather_S512x16x16x128_S16x64x1_S16x64x16x16x128_234_0_n_n_0_2_11616128.sKept := (GatherDims.mem_sKept _ _).mpr ⟨hn, List.not_mem_nil⟩
    unfold GatherDims.start GatherDims.offCoord
    rw [dif_neg hs, dif_pos hk, Nat.zero_add]
    rfl

end Cert.DecodeReferenceIdeal.Attention

end
-- ==== Proof.DecodeRefKeys.lean ====
/-
  The decode reference's keys, values and scores of sequence g by position: key t lies at slot t mod 16 of the block the
  table names at t / 16.
-/
module

public import proofs.«01_k».proof.Proof.DecodeGather
public import Idealize.ShloMosaic.Lib.KernelVsHost

@[expose] public section

noncomputable section

namespace Cert.DecodeReferenceIdeal.Attention

open Idealize.ShloMosaic Cert.DecodeReferenceIdeal Cert.DecodeReferenceIdeal.Gen Cert.DecodeReferenceIdeal.Read Cert.Attention Cert.Attention.Decode

/-- Dimension `d` of the cached key `t` of head `h`. -/
theorem cached_eq (x0 : IVec Tables 32) (x3 : Vec Ideal Cached .f32) (g : Fin 16) (t : Fin 1024) (h : Fin 16) (d : Fin 128) :
    val_main_v6 (F := Ideal) x0 x3 (ix4 g t h d) = x3 (ix5 (number (x0 (ix2 g (page t)))) h (outer d) (slot t) (inner d)) := by
  have hg := g.isLt; have ht := t.isLt; have hh := h.isLt; have hd := d.isLt
  unfold val_main_v6
  rw [shapeCast_apply _ shapeCasts_S16x64x16x16x16x8_S16x1024x16x128 (ix4 g t h d) (ix6 g (page t) (slot t) h (outer d) (inner d)) (by
    rw [Shape.rowMajor_val_six, Shape.rowMajor_val_four]
    show ((((g.val * 64 + t.val / 16 % 64) * 16 + t.val % 16) * 16 + h.val) * 16 + d.val / 8) * 8 + d.val % 8 = ((g.val * 1024 + t.val) * 16 + h.val) * 128 + d.val
    omega), val_main_v5_apply]
  have hi : idx_main_v5 (ix6 g (page t) (slot t) h (outer d) (inner d)) = ix6 g (page t) h (outer d) (slot t) (inner d) := by
    funext a
    refine Fin.ext ?_
    match a with
    | ⟨0, _⟩ => rfl
    | ⟨1, _⟩ => rfl
    | ⟨2, _⟩ => rfl
    | ⟨3, _⟩ => rfl
    | ⟨4, _⟩ => rfl
    | ⟨5, _⟩ => rfl
  rw [hi, lookup_4]

/-- Dimension `d` of row `r` of the fresh keys at position `t`. -/
theorem fresh_eq (x0 : IVec Tables 32) (x4 : Vec Ideal Fresh .f32) (g : Fin 16) (t : Fin 1024) (r : Fin 17) (d : Fin 128) :
    val_main_v8 (F := Ideal) x0 x4 (ix4 g t r d) = x4 (ix4 (number (x0 (ix2 g (page t)))) (slot t) r d) := by
  have hg := g.isLt; have ht := t.isLt; have hr := r.isLt; have hd := d.isLt
  rw [val_main_v8_apply]
  have hi : idx_main_v8 (ix4 g t r d) = ix5 g (page t) (slot t) r d := by
    funext a
    refine Fin.ext ?_
    match a with
    | ⟨0, _⟩ => show (((g.val * 1024 + t.val) * 17 + r.val) * 128 + d.val) / 2228224 = g.val; omega
    | ⟨1, _⟩ => show (((g.val * 1024 + t.val) * 17 + r.val) * 128 + d.val) / 34816 % 64 = t.val / 16 % 64; omega
    | ⟨2, _⟩ => show (((g.val * 1024 + t.val) * 17 + r.val) * 128 + d.val) / 2176 % 16 = t.val % 16; omega
    | ⟨3, _⟩ => show (((g.val * 1024 + t.val) * 17 + r.val) * 128 + d.val) / 128 % 17 = r.val; omega
    | ⟨4, _⟩ => show (((g.val * 1024 + t.val) * 17 + r.val) * 128 + d.val) % 128 = d.val; omega
  rw [hi, lookup_7]

/-- Dimension `d` of the value `t` of head `h`. -/
theorem value_eq (x0 : IVec Tables 32) (x5 : Vec Ideal Values .f32) (g : Fin 16) (t : Fin 1024) (h : Fin 16) (d : Fin 128) :
    val_main_v11 (F := Ideal) x0 x5 (ix4 g t h d) = value x0 x5 g h d t := by
  have hg := g.isLt; have ht := t.isLt; have hh := h.isLt; have hd := d.isLt
  rw [val_main_v11_apply, val_main_v10_apply]
  have hi : idx_main_v10 (idx_main_v11 (ix4 g t h d)) = ix5 g (page t) h (slot t) d := by
    funext a
    refine Fin.ext ?_
    match a with
    | ⟨0, _⟩ => show (((g.val * 1024 + t.val) * 16 + h.val) * 128 + d.val) / 2097152 = g.val; omega
    | ⟨1, _⟩ => show (((g.val * 1024 + t.val) * 16 + h.val) * 128 + d.val) / 32768 % 64 = t.val / 16 % 64; omega
    | ⟨2, _⟩ => show (((g.val * 1024 + t.val) * 16 + h.val) * 128 + d.val) / 128 % 16 = h.val; omega
    | ⟨3, _⟩ => show (((g.val * 1024 + t.val) * 16 + h.val) * 128 + d.val) / 2048 % 16 = t.val % 16; omega
    | ⟨4, _⟩ => show (((g.val * 1024 + t.val) * 16 + h.val) * 128 + d.val) % 128 = d.val; omega
  rw [hi, lookup_9]
  rfl

/-- A choice by the ordered equality of two numbers. -/
theorem select_oeq {α : Type} (x y : EReal) (a b : α) :
    Scalar.select (Ideal.cmp .oeq x y) a b = if x = y then a else b := by
  by_cases h : x = y <;> simp [Scalar.select, Ideal.cmp, h]

/-- Dimension `d` of the key `t` of head `h`: the fresh one where the slot's flag is 1. -/
theorem key_eq (x0 : IVec Tables 32) (x3 : Vec Ideal Cached .f32) (x4 : Vec Ideal Fresh .f32) (g : Fin 16) (t : Fin 1024) (h : Fin 16) (d : Fin 128) :
    val_main_v16 (F := Ideal) x0 x3 x4 (ix4 g t h d) = key x3 x4 (number (x0 (ix2 g (page t)))) h (slot t) d := by
  rw [val_main_v16_apply, val_main_call3_v0_apply, val_main_v14_apply, val_main_v13_apply, val_main_v12_apply, val_main_v15_apply,
    val_main_cst_0_apply, cached_eq]
  have h1 : (FloatOps.ofBits .f32 0x3F800000#32 : Ideal .f32) = (1 : EReal) := Ideal.ofBits_one_f32
  have hf : idx_main_v12 (idx_main_call3_v0 (ix4 g t h d)) = ix4 g t 16 0 := by
    funext a
    refine Fin.ext ?_
    match a with
    | ⟨0, _⟩ => rfl
    | ⟨1, _⟩ => rfl
    | ⟨2, _⟩ => rfl
    | ⟨3, _⟩ => rfl
  have hk : idx_main_v15 (ix4 g t h d) = ix4 g t (head h) d := by
    funext a
    refine Fin.ext ?_
    match a with
    | ⟨0, _⟩ => rfl
    | ⟨1, _⟩ => rfl
    | ⟨2, _⟩ => rfl
    | ⟨3, _⟩ => rfl
  rw [hf, hk, fresh_eq, fresh_eq, h1]
  exact select_oeq _ _ _ _

/-- The score of key `t`, before the mask. -/
theorem score_eq (x0 : IVec Tables 32) (x2 : Vec Ideal Rows .f32) (x3 : Vec Ideal Cached .f32) (x4 : Vec Ideal Fresh .f32) (j : S16x16x1024.Idx) :
    val_main_v17 (F := Ideal) x0 x2 x3 x4 j = score x0 x2 x3 x4 (j 0) (j 1) (j 2).val := by
  rw [val_main_v17_apply]
  refine Finset.sum_congr rfl fun d _ => ?_
  have hr : ridx_main_v17 j d = ix4 (j 0) (j 2) (j 1) d := by
    funext a
    refine Fin.ext ?_
    match a with
    | ⟨0, _⟩ => rfl
    | ⟨1, _⟩ => rfl
    | ⟨2, _⟩ => rfl
    | ⟨3, _⟩ => rfl
  have hl : idx_main_v0 (lidx_main_v17 j d) = ix3 (row (j 0)) (j 1) d := by
    funext a
    refine Fin.ext ?_
    match a with
    | ⟨0, _⟩ => rfl
    | ⟨1, _⟩ => rfl
    | ⟨2, _⟩ => rfl
  rw [hr, val_main_v2_apply, val_main_v1_apply, val_main_cst_apply, val_main_v0_apply, hl]
  exact congrArg (_ * ·) (key_eq x0 x3 x4 (j 0) (j 2) (j 1) d)

end Cert.DecodeReferenceIdeal.Attention

end
-- ==== Proof.DecodeRefValue.lean ====
/-
  What the decode reference computes: on the domain, the result of `DecodeSpec`.
-/
module

public import proofs.«01_k».proof.Proof.DecodeRefKeys
public import proofs.«01_k».proof.Proof.DecodeDomain

@[expose] public section

noncomputable section

namespace Cert.DecodeReferenceIdeal.Attention

open Idealize.ShloMosaic Cert.DecodeReferenceIdeal Cert.DecodeReferenceIdeal.Gen Cert.DecodeReferenceIdeal.Read Cert.Attention Cert.Attention.Decode

/-! ## The mask -/

/-- A position compared with a length, as words and as numbers. -/
theorem before_iff (t : ℕ) (ht : t < 1024) (n : BitVec 32) :
    BitVec.slt (BitVec.ofNat 32 t) n = true ↔ t < n.toInt.toNat := by
  rw [BitVec.slt_iff_toInt_lt, BitVec.toInt_eq_toNat_of_lt (by simp; omega)]
  simp
  omega

theorem neg_infinity : (FloatOps.ofBits .f32 0xFF800000#32 : Ideal .f32) = (⊥ : EReal) := by
  show Ideal.ofBits .f32 0xFF800000#32 = ⊥
  simp [Ideal.ofBits, Ideal.ieee]

theorem zero_bits : (FloatOps.ofBits .f32 0x00000000#32 : Ideal .f32) = (0 : EReal) := by
  show Ideal.ofBits .f32 0x00000000#32 = 0
  simp [Ideal.ofBits, Ideal.ieee]

/-- The mask is 0 at the keys the length counts and −∞ from there on. -/
theorem mask_eq (x1 : IVec Lens 32) (j : S16x16x1024.Idx) :
    val_main_v24 (F := Ideal) x1 j = if (j 2).val < seen x1 (j 0) then 0 else ⊥ := by
  rw [val_main_v24_apply, val_main_v23_apply, val_main_v22_apply, val_main_v21_apply, val_main_v20_apply, val_main_v19_apply,
    val_main_v18_apply, val_main_call4_v0_apply, val_main_call4_v1_apply, val_main_cst_1_apply, val_main_cst_2_apply, zero_bits, neg_infinity]
  have hi : idx_main_v19 (idx_main_v21 (idx_main_v24 j)) = ix1 (j 0) := by
    funext a
    refine Fin.ext ?_
    match a with
    | ⟨0, _⟩ => rfl
  rw [hi]
  show Scalar.select (BitVec.ofBool (BitVec.slt (BitVec.ofNat 32 (j 2).val) (x1 (ix1 (j 0))))) (0 : EReal) ⊥ = _
  have e := before_iff (j 2).val (j 2).isLt (x1 (ix1 (j 0)))
  by_cases h : (j 2).val < seen x1 (j 0)
  · rw [if_pos h, e.2 h]
    rfl
  · rw [if_neg h, Bool.eq_false_iff.2 fun hs => h (e.1 hs)]
    rfl

/-- The masked score. -/
theorem masked_eq (x0 : IVec Tables 32) (x1 : IVec Lens 32) (x2 : Vec Ideal Rows .f32) (x3 : Vec Ideal Cached .f32) (x4 : Vec Ideal Fresh .f32)
    (j : S16x16x1024.Idx) :
    val_main_v25 (F := Ideal) x0 x1 x2 x3 x4 j = masked ((j 2).val < seen x1 (j 0)) (score x0 x2 x3 x4 (j 0) (j 1) (j 2).val) := by
  rw [val_main_v25_apply, score_eq, mask_eq]
  exact add_mask _ _

/-! ## The scores and their maximum are real -/

variable {x0 : IVec Tables 32} {x1 : IVec Lens 32} {x2 : Vec Ideal Rows .f32} {x3 : Vec Ideal Cached .f32} {x4 : Vec Ideal Fresh .f32}

/-- On the domain every score is real. -/
theorem score_real (hD : Domain x0 x1 x2 x3 x4) (g h : Fin 16) (t : ℕ) : ∃ r : ℝ, score x0 x2 x3 x4 g h t = (r : EReal) := by
  refine sum_mul_real _ _ (fun d => ?_) fun d => ?_
  · obtain ⟨x, hx⟩ := hD.query (ix3 (row g) h d)
    obtain ⟨s, hs⟩ := scale_real
    exact ⟨x * s, by rw [hx, hs, EReal.coe_mul]⟩
  · unfold key
    split
    · exact hD.fresh _
    · exact hD.cached _

/-- On the domain the largest masked score of a sequence's head is real. -/
theorem maximum_real (hD : Domain x0 x1 x2 x3 x4) (j : S16x16.Idx) :
    ∃ μ : ℝ, val_main_v28 (F := Ideal) x0 x1 x2 x3 x4 j = (μ : EReal) := by
  have hR : S16x16x1024.Reduces [2] S16x16 := by decide
  rw [val_main_v28_apply, val_main_v27_apply, val_main_cst_4_apply, neg_infinity]
  unfold val_main_v26
  rw [Host.reduce_eq_fold_single FloatOps.maximumf _ _ reducesTo_S16x16x1024_S16x16_d2 hR h_S_]
  rw [val_main_cst_3_apply, neg_infinity]
  have hl : ∀ t : Fin 1024, hR.lift j t = idx_main_v33 j t := fun t => funext fun a => Fin.ext (by
    match a with
    | ⟨0, _⟩ => rfl
    | ⟨1, _⟩ => rfl
    | ⟨2, _⟩ => rfl)
  obtain ⟨r, hr⟩ := score_real hD (j 0) (j 1) 0
  obtain ⟨μ, hμ⟩ := max_real (n := 1024) (fun t => val_main_v25 (F := Ideal) x0 x1 x2 x3 x4 (hR.lift j t)) (fun t => by
      rw [hl, masked_eq]
      unfold masked
      split
      · exact .inr (score_real hD _ _ _)
      · exact .inl rfl) ⟨⟨0, by decide⟩, r, by
      rw [hl, masked_eq]
      exact (if_pos (hD.pos (j 0))).trans hr⟩
  exact ⟨μ, (max_eq_right bot_le).trans hμ⟩

/-! ## The result -/

/-- The weight of key `j₂`: the exponential over the sum of the exponentials. -/
theorem weight_eq (j : S16x16x1024.Idx) (μ : ℝ)
    (hμ : val_main_v28 (F := Ideal) x0 x1 x2 x3 x4 (idx_main_v29 (idx_main_v30 j)) = (μ : EReal)) :
    val_main_v36 (F := Ideal) x0 x1 x2 x3 x4 j
      = Ideal.div (Ideal.exp (masked ((j 2).val < seen x1 (j 0)) (score x0 x2 x3 x4 (j 0) (j 1) (j 2).val) - μ))
        (∑ u : Fin 1024, Ideal.exp (masked (u.val < seen x1 (j 0)) (score x0 x2 x3 x4 (j 0) (j 1) u.val) - μ)) := by
  have he : ∀ u : S16x16x1024.Idx, idx_main_v29 (idx_main_v30 u) = idx_main_v29 (idx_main_v30 j) →
      val_main_v32 (F := Ideal) x0 x1 x2 x3 x4 u
        = Ideal.exp (masked ((u 2).val < seen x1 (u 0)) (score x0 x2 x3 x4 (u 0) (u 1) (u 2).val) - μ) := fun u hu => by
    rw [val_main_v32_apply, val_main_v31_apply, val_main_v30_apply, val_main_v29_apply, hu, hμ, masked_eq]
    rfl
  rw [val_main_v36_apply, val_main_v35_apply, val_main_v34_apply, val_main_v33_apply, he j rfl]
  refine congrArg (Ideal.div _) ?_
  have h0 : val_main_cst_5 (F := Ideal) (Shape.Idx.first h_S_) = (0 : EReal) := by
    rw [val_main_cst_5_apply]
    exact zero_bits
  rw [h0, zero_add]
  exact Finset.sum_congr rfl fun u _ => he _ rfl

/-- On the domain, dimension `j₂` of head `j₁` of sequence `j₀` is the attention. -/
theorem out_eq (hD : Domain x0 x1 x2 x3 x4) (x5 : Vec Ideal Values .f32) (j : S16x16x128.Idx) :
    val_main_v37 (F := Ideal) x0 x1 x2 x3 x4 x5 j = attention x0 x1 x2 x3 x4 x5 (j 0) (j 1) (j 2) := by
  obtain ⟨μ, hμ⟩ := maximum_real hD (idx_main_v29 (idx_main_v30 (lidx_main_v37 j ⟨0, by decide⟩)))
  have hx := score_real hD (j 0) (j 1)
  choose x hx using hx
  refine (val_main_v37_apply x0 x1 x2 x3 x4 x5 j).trans
    (Eq.trans ?_ (softmax_eq (n := 1024) _ _ (hD.pos (j 0)) (hD.le (j 0)) x (fun t _ => hx t) μ))
  refine Finset.sum_congr rfl fun t _ => (mul_comm _ _).trans ?_
  have hr : ridx_main_v37 j t = ix4 (j 0) t (j 1) (j 2) := by
    funext a
    refine Fin.ext ?_
    match a with
    | ⟨0, _⟩ => rfl
    | ⟨1, _⟩ => rfl
    | ⟨2, _⟩ => rfl
    | ⟨3, _⟩ => rfl
  exact congrArg₂ (· * ·) ((congrArg _ hr).trans (value_eq x0 x5 (j 0) t (j 1) (j 2))) (weight_eq (lidx_main_v37 j t) μ hμ)

/-- On the domain, the reference computes the decode step's result. -/
theorem final (hD : Domain x0 x1 x2 x3 x4) (x5 : Vec Ideal Values .f32) (x6 : Vec Ideal Rows .f32) (i : S4112x16x128.Idx) :
    val_main_v39 (F := Ideal) x0 x1 x2 x3 x4 x5 x6 i = Decode.result x0 x1 x2 x3 x4 x5 x6 i := by
  have hi : (i 0).val < 4112 := (i 0).isLt
  unfold val_main_v39 Decode.result
  by_cases h : (i 0).val < 4096
  · rw [dif_pos h]
    refine (concatenate_pair_apply_left (s₁ := S4096x16x128) (s₂ := S16x16x128) (0 : Fin 3) _ _ concatenates_S4096x16x128_S16x16x128_S4112x16x128_d0 i rfl
      (ix3 ⟨(i 0).val, h⟩ (i 1) (i 2)) (fun b => by
        match b with
        | ⟨0, _⟩ => rfl
        | ⟨1, _⟩ => rfl
        | ⟨2, _⟩ => rfl)).trans ?_
    rw [val_main_v38_apply]
    refine congrArg x6 (funext fun a => Fin.ext ?_)
    match a with
    | ⟨0, _⟩ => rfl
    | ⟨1, _⟩ => rfl
    | ⟨2, _⟩ => rfl
  · rw [dif_neg h]
    refine (concatenate_pair_apply_right (s₁ := S4096x16x128) (s₂ := S16x16x128) (0 : Fin 3) _ _ concatenates_S4096x16x128_S16x16x128_S4112x16x128_d0 i rfl rfl
      (ix3 ⟨(i 0).val - 4096, by omega⟩ (i 1) (i 2)) (fun b hb => by
        match b with
        | ⟨0, _⟩ => exact absurd rfl hb
        | ⟨1, _⟩ => rfl
        | ⟨2, _⟩ => rfl) (by show (i 0).val - 4096 + 4096 = (i 0).val; omega)).trans ?_
    exact out_eq hD x5 _

end Cert.DecodeReferenceIdeal.Attention

end
-- ==== Proof.OwnerSpec.lean ====
/-
  What the owner program computes, in plain terms: every slot starts at −1, and the tokens are placed in order, token `k`'s
  number over whatever its slot held.
-/
module

public import Idealize.ShloMosaic.PureOps

@[expose] public section

namespace Cert.Owner.Spec

/-- What slot `i` holds after the first `k` tokens of the table `w` are placed. -/
def placed (w : ℕ → BitVec 32) : ℕ → Fin 8192 → BitVec 32
  | 0, _ => 4294967295#32
  | k + 1, i => if (w k).toNat = i.val then BitVec.ofNat 32 k else placed w k i

/-- No token placed, every slot holds −1. -/
theorem placed_zero (w : ℕ → BitVec 32) (i : Fin 8192) : placed w 0 i = 4294967295#32 := rfl

/-- One more token placed changes its own slot alone. -/
theorem placed_succ (w : ℕ → BitVec 32) (k : ℕ) (i : Fin 8192) :
    placed w (k + 1) i = if (w k).toNat = i.val then BitVec.ofNat 32 k else placed w k i := rfl

end Cert.Owner.Spec
-- ==== Proof.OwnerDomain.lean ====
/-
  What the owner program's precondition says: every word of the slot table lies below 8192.
-/
module

public import proofs.«01_k».proof.Proof.DecodeDomain
public import Idealize.ShloMosaic.Lib.ValueIdxCore
public import proofs.«01_k».proof.Pre_slots_in_range

@[expose] public section

noncomputable section

namespace Cert.Owner.Spec

open Idealize.ShloMosaic

theorem slots_facts : Cert.Pre_slots_in_range.Facts := ⟨by decide⟩

/-- A word at least 0 and less than 8192, both signed, is less than 8192. -/
theorem slot_lt (w : BitVec 32) (h : IntOp.andi (IntOp.cmpi .sge w 0#32) (IntOp.cmpi .slt w 8192#32) = 1#1) : w.toNat < 8192 := by
  obtain ⟨h1, h2⟩ := Cert.Attention.Decode.both _ _ h
  have a := Cert.Attention.Decode.of_bit _ h1
  have b := Cert.Attention.Decode.of_bit _ h2
  rw [BitVec.sle_iff_toInt_le] at a
  rw [BitVec.slt_iff_toInt_lt] at b
  simp at a b
  rw [BitVec.toInt_eq_toNat_cond] at a b
  have := w.isLt
  split at a <;> omega

section
attribute [local instance] slots_facts

/-- The precondition, read at one token. -/
theorem lt_of_slots {F : FTy → Type} [FloatOps F] (X : IVec ⟨1, ![4112]⟩ 32) (h : Cert.Pre_slots_in_range.fn (F := F) X = fun _ => 1#1)
    (k : Fin 4112) : (X (ValueIdx.ix1 k)).toNat < 8192 :=
  slot_lt _ (congrFun h (ValueIdx.ix1 k))
end

end Cert.Owner.Spec

end
-- ==== Proof.OwnerIdealFrame.lean ====
/-
  The frame of the owner program `OwnerIdeal`, for every contents of its slot table whose words lie below 8192: one trip of each of
  its two loops, what the first loop leaves (−1 everywhere) and what the second leaves (`placed`: each token's number at its
  slot, the later token over the earlier), the body, the run, and that the argument ends unchanged.
-/
module

public import proofs.«01_k».proof.Proof.Gen.OwnerIdeal.Launch
public import proofs.«01_k».proof.Proof.Gen.OwnerIdeal.Skeleton
public import proofs.«01_k».proof.Proof.OwnerSpec
public import Idealize.ShloMosaic.Lib.Pipeline.FrameBody
public import Idealize.ShloMosaic.Lib.CellWrites.SmemRing
public import Idealize.ShloMosaic.Lib.Tactic
public import Idealize.ShloMosaic.Lib.Claim

@[expose] public section

noncomputable section

namespace Cert.OwnerIdeal.Attention

open Cert.OwnerIdeal.Gen
open Cert.Owner.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.CellWrites.SmemRing (cells readAt_cell cells_writes_cons cells_writes_nil idxR)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two loops -/

section Loops

variable (c : Dev nD) (i : grid0.Coords) (arg1 : Memref sig .tc .smem S4112 .i32) (harg1 : arg1.IsWhole)
  (arg2 : Memref sig .tc .smem S8192 .i32) (harg2 : arg2.IsWhole)

/-- The output's words held at contents `f`. -/
abbrev held (f : BufTy.Contents (Elt F) arg2.view.ty) : sProp 𝕄 :=
  iprop((arg2.view.loc (c : Thread nD τ) ↦[arg2.view.set]{fullShare} f))

/-- The table held at half the full share, at contents `X`. -/
abbrev table (X : Buf (Elt F) (arg1.view.loc (c : Thread nD τ))) : sProp 𝕄 :=
  iprop(arg1.view.loc (c : Thread nD τ) ↦{fullShare.right} X)

/-- One trip of the first loop stores −1 at cell `k`. -/
theorem clear_trip (E : Set ℕ) (k : Fin k0_t1_loop.trips) (f : BufTy.Contents (Elt F) arg2.view.ty) :
    held (F := F) c arg2 f
      ⊢ wp frame (wpE (defs₀ (F := F)) Variants.none (c : Thread nD τ) none) E (k0_t1_body (F := F) i arg1 harg1 arg2 harg2 k PUnit.unit)
          (fun _ => held (F := F) c arg2 (arg2.view.writes (Elt F) f
            [(⟨Rect.unit (s := S8192) (k0_off1 k) S1.size (k0_off1_inb k), fun _ => 4294967295#32⟩ : View.Piece (Elt F) S8192 .i32)])) := by
  have hk : k.val < 8192 := Nat.lt_of_lt_of_le k.isLt k0_t1_abs.2.1
  unfold k0_t1_body
  iintro H
  sl_exec
  sl_step
  iexact H

/-- The word the table holds for trip `k`. -/
def wordAt (X : Buf (Elt F) (arg1.view.loc (c : Thread nD τ))) (k : Fin k0_t2_loop.trips) : BitVec 32 :=
  arg1.view.readAt (Elt F) (Rect.unit (s := S4112) (k0_off2 k) S1.size (k0_off2_inb k)).toLoadRect X (Shape.Idx.first (numel1_S1.symm ▸ Nat.one_pos))

/-- One trip of the second loop stores the trip's number at the cell its word names. -/
theorem place_trip (E : Set ℕ) (X : Buf (Elt F) (arg1.view.loc (c : Thread nD τ))) (k : Fin k0_t2_loop.trips) (hw : k0_chk1 (wordAt (F := F) c arg1 X k))
    (f : BufTy.Contents (Elt F) arg2.view.ty) :
    iprop(table (F := F) c arg1 X ∗ held (F := F) c arg2 f)
      ⊢ wp frame (wpE (defs₀ (F := F)) Variants.none (c : Thread nD τ) none) E (k0_t2_body (F := F) i arg1 harg1 arg2 harg2 k PUnit.unit)
          (fun _ => iprop(table (F := F) c arg1 X ∗ held (F := F) c arg2 (arg2.view.writes (Elt F) f
            [(⟨Rect.unit (s := S8192) (k0_off3 (wordAt (F := F) c arg1 X k)) S1.size (k0_off3_inb _ hw), fun _ => Scf.iv 0#32 1#32 k⟩ : View.Piece (Elt F) S8192 .i32)]))) := by
  have hk : k.val < 4112 := Nat.lt_of_lt_of_le k.isLt k0_t2_abs.2.1
  unfold wordAt at hw
  unfold k0_t2_body wordAt
  iintro ⟨HT, H⟩
  sl_exec
  sl_step
  isplitl [HT]; · iexact HT
  iexact H

/-- The first loop runs 8192 trips. -/
theorem clear_trips : k0_t1_loop.trips = 8192 := by decide

/-- The second loop runs 4112 trips. -/
theorem place_trips : k0_t2_loop.trips = 4112 := by decide

/-- The words of the table by number, zero past the last. -/
def words (X : Buf (Elt F) (arg1.view.loc (c : Thread nD τ))) (k : ℕ) : BitVec 32 :=
  if h : k < k0_t2_loop.trips then wordAt (F := F) c arg1 X ⟨k, h⟩ else 0#32

/-- After trip `k` of the first loop the cells up to `k` hold −1. -/
theorem clear_step (k : Fin k0_t1_loop.trips) (f : BufTy.Contents (Elt F) arg2.view.ty)
    (hf : ∀ j : Fin 8192, j.val < k.val → cells (F := F) arg2 f j = 4294967295#32) (j : Fin 8192) (hj : j.val < k.val + 1) :
    cells (F := F) arg2 (arg2.view.writes (Elt F) f
      [(⟨Rect.unit (s := S8192) (k0_off1 k) S1.size (k0_off1_inb k), fun _ => 4294967295#32⟩ : View.Piece (Elt F) S8192 .i32)]) j = 4294967295#32 := by
  have hk : k.val < 8192 := Nat.lt_of_lt_of_le k.isLt k0_t1_abs.2.1
  have h0 : k0_off1 k 0 = k.val := congrFun (k0_off1_eq k) 0
  refine (congrFun (cells_writes_cons (F := F) arg2 f (k0_off1 k) (k0_off1_inb k) (by rw [h0]; exact hk) 4294967295#32 []) j).trans ?_
  by_cases hjk : j = ⟨k0_off1 k 0, by rw [h0]; exact hk⟩
  · rw [hjk, Function.update_self]
  · rw [Function.update_of_ne hjk, cells_writes_nil]
    refine hf j ?_
    have : j.val ≠ k.val := fun h => hjk (Fin.ext (h.trans h0.symm))
    omega

/-- The cell a word names is the word's number. -/
theorem place_off (v : BitVec 32) : k0_off3 v 0 = v.toNat := rfl

/-- A word the body accepts lies below 8192. -/
theorem place_lt (v : BitVec 32) (h : k0_chk1 v) : v.toNat < 8192 := by
  have := k0_off3_inb v h 0
  exact this

/-- After trip `k` of the second loop the slots hold what placing one more token leaves. -/
theorem place_step (X : Buf (Elt F) (arg1.view.loc (c : Thread nD τ))) (k : Fin k0_t2_loop.trips) (hw : k0_chk1 (wordAt (F := F) c arg1 X k))
    (f : BufTy.Contents (Elt F) arg2.view.ty) (hf : ∀ j, cells (F := F) arg2 f j = placed (words (F := F) c arg1 X) k.val j) (j : Fin 8192) :
    cells (F := F) arg2 (arg2.view.writes (Elt F) f
      [(⟨Rect.unit (s := S8192) (k0_off3 (wordAt (F := F) c arg1 X k)) S1.size (k0_off3_inb _ hw), fun _ => Scf.iv 0#32 1#32 k⟩ : View.Piece (Elt F) S8192 .i32)]) j
      = placed (words (F := F) c arg1 X) (k.val + 1) j := by
  have hlt := place_lt _ hw
  refine (congrFun (cells_writes_cons (F := F) arg2 f (k0_off3 (wordAt (F := F) c arg1 X k)) (k0_off3_inb _ hw) hlt (Scf.iv 0#32 1#32 k) []) j).trans ?_
  have hword : words (F := F) c arg1 X k.val = wordAt (F := F) c arg1 X k := dif_pos k.isLt
  rw [placed_succ, hword]
  by_cases hj : (wordAt (F := F) c arg1 X k).toNat = j.val
  · rw [if_pos hj, show j = ⟨k0_off3 (wordAt (F := F) c arg1 X k) 0, hlt⟩ from Fin.ext hj.symm, Function.update_self]
    simp [Scf.iv]
  · rw [if_neg hj, Function.update_of_ne (fun h => hj (congrArg Fin.val h).symm), cells_writes_nil]
    exact hf j

/-- The body, from the table and an output of any contents: every slot ends at what placing the 4112 tokens leaves. -/
theorem owner_body (E : Set ℕ) (X : Buf (Elt F) (arg1.view.loc (c : Thread nD τ))) (hw : ∀ k, k0_chk1 (wordAt (F := F) c arg1 X k))
    (f₀ : BufTy.Contents (Elt F) arg2.view.ty) :
    iprop(table (F := F) c arg1 X ∗ held (F := F) c arg2 f₀)
      ⊢ wp frame (wpE (defs₀ (F := F)) Variants.none (c : Thread nD τ) none) E (cc0__owner_kernel (F := F) i arg1 harg1 arg2 harg2)
          (fun _ => iprop(table (F := F) c arg1 X ∗ ∃ f, held (F := F) c arg2 f ∗ ⌜∀ j, cells (F := F) arg2 f j = placed (words (F := F) c arg1 X) 4112 j⌝)) := by
  rw [cc0__owner_kernel_eq_skeleton]
  unfold cc0__owner_kernel_skel
  iintro ⟨HT, H⟩
  iapply (Scf.wp_for_bind frame (wpE (defs₀ (F := F)) Variants.none (c : Thread nD τ) none) E _ _ _ k0_t1_ok PUnit.unit _
    (fun k _ => iprop(∃ f, held (F := F) c arg2 f ∗ ⌜∀ j : Fin 8192, j.val < k → cells (F := F) arg2 f j = 4294967295#32⌝)) (fun k _ => by
      iintro ⟨%f, H, %hf⟩
      iapply (wp_wand_r frame (wpE (defs₀ (F := F)) Variants.none (c : Thread nD τ) none) E)
      isplitl [H]
      · iapply (clear_trip c i arg1 harg1 arg2 harg2 E k f)
        iexact H
      · iintro %_ H
        iexists _
        isplitl [H]; · iexact H
        ipureintro
        intro j hj
        exact clear_step arg2 k f hf j hj)) $$ [H]
  · iexists f₀
    isplitl [H]; · iexact H
    ipureintro
    intro j hj
    exact absurd hj (Nat.not_lt_zero _)
  iintro %_ ⟨%f₁, H, %hf₁⟩
  iapply (Scf.wp_for_bind frame (wpE (defs₀ (F := F)) Variants.none (c : Thread nD τ) none) E _ _ _ k0_t2_ok PUnit.unit _
    (fun k _ => iprop(table (F := F) c arg1 X ∗ ∃ f, held (F := F) c arg2 f ∗ ⌜∀ j, cells (F := F) arg2 f j = placed (words (F := F) c arg1 X) k j⌝)) (fun k _ => by
      iintro ⟨HT, %f, H, %hf⟩
      iapply (wp_wand_r frame (wpE (defs₀ (F := F)) Variants.none (c : Thread nD τ) none) E)
      isplitl [HT H]
      · iapply (place_trip c i arg1 harg1 arg2 harg2 E X k (hw k) f)
        isplitl [HT]; · iexact HT
        iexact H
      · iintro %_ ⟨HT, H⟩
        isplitl [HT]; · iexact HT
        iexists _
        isplitl [H]; · iexact H
        ipureintro
        intro j
        exact place_step c arg1 arg2 X k (hw k) f hf j)) $$ [HT H]
  · isplitl [HT]; · iexact HT
    iexists f₁
    isplitl [H]; · iexact H
    ipureintro
    intro j
    exact hf₁ j (lt_of_lt_of_eq j.isLt clear_trips.symm)
  iintro %_ ⟨HT, %f₂, H, %hf₂⟩
  sl_step
  isplitl [HT]; · iexact HT
  iexists f₂
  isplitl [H]; · iexact H
  ipureintro
  intro j
  exact (hf₂ j).trans (congrArg (fun n => placed _ n j) place_trips)

end Loops

end Cert.OwnerIdeal.Attention

end
-- ==== Proof.OwnerIdealRun.lean ====
/-
  The run of the owner program `OwnerIdeal`, for every slot table whose words lie below 8192 (`InRange`): the proof data of its one
  grid point, the body's obligation, the launch, what the result holds (`result`), that the argument ends unchanged, and what the words the body reads are.
-/
module

public import proofs.«01_k».proof.Proof.OwnerIdealFrame
public import Idealize.ShloMosaic.Lib.ValueIdxCore

@[expose] public section

noncomputable section

namespace Cert.OwnerIdeal.Attention

open Cert.OwnerIdeal.Gen
open Cert.Owner.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.CellWrites.SmemRing (cells idxR)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region and the table -/

/-- Core `c`'s buffers when the region is entered: as launched. -/
abbrev V (c : Dev nD) (b : Ref sig .tc) : Buf (Elt F) ((c : Thread nD τ).loc b) := m ((c : Thread nD τ).loc b)

/-- @main is the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The table's contents when the region is entered. -/
def tbl : pre0.Contents (Elt F) := fun j => V m (0 : Dev nD) (pre0.ref j)

/-- The one device's table holds them. -/
theorem V_pre (c : Dev nD) (j : Fin 1) : V m c (pre0.ref j) = tbl m j := by
  obtain rfl : c = 0 := Subsingleton.elim _ _; rfl

/-- The pipeline has no side condition of the table. -/
theorem admits : ok0 (F := F) (tbl m) := trivial

/-- The pipeline at the table's contents. -/
abbrev adm : (pcfg0 (F := F)).Adm := ⟨tbl m, admits m⟩
abbrev cfgM : Pipeline.Cfg sig Λ₀ := cfg0 (adm m)

/-- The table as the body is handed it. -/
abbrev tbM : Memref sig .tc .smem S4112 .i32 := Memref.whole main_arg0
abbrev htbM : tbM.IsWhole := Memref.isWhole_whole _

/-- The table's half the region hands the body. -/
theorem PhiT_eq (c : Dev nD) : (Pipeline.ΦT pre0 (tbl m) c : sProp 𝕄) = table (F := F) c tbM (tbl m 0) := by
  unfold Pipeline.ΦT Pipeline.prefHeld
  rw [show (Finset.univ : Finset (Fin 1)) = {(0 : Fin 1)} from by decide, bigSep_singleton]
  rfl

/-- Every word of the table lies below 8192: what the body assumes of each as it reads it. -/
def InRange : Prop := ∀ (c : Dev nD) (k : Fin k0_t2_loop.trips), k0_chk1 (wordAt (F := F) c tbM (tbl m 0) k)

/-- What the result holds: every slot at what placing the 4112 tokens leaves. -/
def result (c : Dev nD) : S8192.Idx → BitVec 32 := fun x => placed (words (F := F) c tbM (tbl m 0)) 4112 (x 0)

/-! ## The proof data and the body's obligation -/

/-- The proof data: the result's array as launched, after the one point at `result`. -/
def dats (_ : Fin 1) (c : Dev nD) : Dat τ (Elt F) Unit ℕ (UR sig nD τ) ℕ (cfgM m) c where
  A w := V m c (Pipeline.arrRef spec0 w)
  after w _ := match w with
    | ⟨0, _⟩ => result (F := F) m c
    | ⟨_ + 1, h⟩ => absurd h (Nat.not_lt.2 (Nat.le_add_left _ _))
  Φ _ := iprop(Pipeline.ΦA spec0 c ∗ Pipeline.ΦT pre0 (tbl m) c)
  q _ := fullShare
  owed _ := 0

/-- The proof data's array is the launched one. -/
theorem A_eq (c : Dev nD) (w : Fin (cfgM m).W) : (dats m 0 c).A w = V m c (Pipeline.arrRef spec0 w) := by
  dsimp only [dats]

/-- What the body leaves in the result's staging memory. -/
theorem after_eq (c : Dev nD) (t : Fin (cfgM m).N) : (dats m 0 c).after 0 t = result (F := F) m c := by dsimp only [dats]; try rfl

/-- The staging memref of the result at point `t`. -/
abbrev ms (t : Fin (cfgM m).N) : Memref sig .tc .smem S8192 .i32 := spec0_0.stage ((cfgM m).slots t 0)
abbrev hs (t : Fin (cfgM m).N) : (ms m t).IsWhole := hstage0_0 (((cfgM m).slots t 0).cast nbuf0_0)

/-- The body at point `t`. -/
abbrev bodyAt (t : Fin (cfgM m).N) : Prog (TpuEff nD τ sig (Elt F) Λ₀ .tc) PUnit :=
  cc0__owner_kernel (grid0.coords t) tbM htbM (ms m t) (hs m t)

/-- What the body is called with, -/
def bodyPre (c : Dev nD) (t : Fin (cfgM m).N) : sProp 𝕄 :=
  iprop((dats m 0 c).Φ t.castSucc ∗ (dats m 0 c).owesAt () t.castSucc
    ∗ (∃ d, owns (c : Thread nD τ) (ms m t) fullShare ((dats m 0 c).before 0 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms m t) fullShare ((dats m 0 c).after 0 t))

/-- The body at the one point. -/
theorem sound_body (hW : InRange m) (c : Dev nD) (t : Fin (cfgM m).N) :
    bodyPre m c t ⊢ wp frame (wpE (defs₀ (F := F)) Variants.none c none) Set.univ (bodyAt m t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl, after_eq]
  rw [show (dats m 0 c).Φ t.castSucc = iprop(Pipeline.ΦA spec0 c ∗ Pipeline.ΦT pre0 (tbl m) c) from rfl, PhiT_eq]
  unfold owns
  iintro ⟨⟨HΦ, HT⟩, Ho, ⟨%d, %f, %hf, H⟩⟩
  iapply (wp_wand_r frame (wpE (defs₀ (F := F)) Variants.none (c : Thread nD τ) none) Set.univ)
  isplitl [HT H]
  · iapply (owner_body c (grid0.coords t) tbM htbM (ms m t) (hs m t) Set.univ (tbl m 0) (hW c) f)
    isplitl [HT]; · iexact HT
    iexact H
  iintro %_ ⟨HT, %g, H, %hg⟩
  isplitl [HΦ HT]
  · isplitl [HΦ]; · iexact HΦ
    iexact HT
  isplitl [Ho]; · iexact Ho
  iexists g
  isplitr
  swap; · iexact H
  ipureintro
  exact funext fun x => (congrArg (View.read (Elt F) (ms m t).view g) (show x = idxR (n := 8192) (x 0) from
    funext fun a => match a with | ⟨0, _⟩ => rfl)).trans (hg (x 0))

/-- The body table's row is the body. -/
theorem defs₀_row (t : Fin (cfgM m).N) :
    defs₀ (F := F) .tc (cfgM m).body ((cfgM m).bodyArgs t ((cfgM m).slots t)) = bodyAt m t := by
  unfold defs₀; rw [Defs.onTc_tc]

/-- The library's body obligation. -/
theorem body_obligation (hW : InRange m) (c : Dev nD) : BodyObligation (dats (F := F) m 0 c) (defs₀ (F := F)) Variants.none () Set.univ := fun t => by
  rw [bigSep_W0, bigSep_W0, defs₀_row m]
  exact triple_restated (sound_body m hW c t) rfl .rfl fun _ => .rfl

/-! ## The run and the frame -/

set_option backward.isDefEq.respectTransparency.types false in
/-- The launch, and every semaphore counter at zero at the end. -/
theorem run_main_quiescent (hW : InRange m) : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (body_obligation m hW c).loose) (hshare := fun c => (dats m 0 c).share_full fun _ => rfl)
    (howed := fun _ _ => rfl) (V := V m) (hmain := hmain m Variants.none) (hA := A_eq m) (hpf := V_pre m)
    (hΦ := fun _ _ => rfl)

/-- Every execution ends, the result's array at what the proof data says and every other buffer as launched. -/
theorem run_main (hW : InRange m) : θ_run defs (onTc (τ := τ) (main (F := F))) (s₀ m ρ)
    (Pipeline.FramePost (Pipeline.pin pcfgs fun _ => adm m) (dats m) 0 (V m)) :=
  (θ_run defs _ _).mono (fun _ h => h.1) (run_main_quiescent m ρ hW)

/-- The argument ends unchanged. -/
theorem unchanged (hW : InRange m) : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2 main_arg0 (by decide : main_arg0 ∈ Pipeline.restRefs sig spec0)) (run_main m ρ hW)

/-- The argument ends unchanged and no counter is left. -/
theorem frame (hW : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ hW) ((θ_run defs _ _).mono (fun _ h => h.2) (run_main_quiescent m ρ hW))

/-! ## The table read by number -/

/-- The word the body reads for token `k` is the table's entry `k`. -/
theorem wordAt_eq (c : Dev nD) (X : Buf (Elt F) ((c : Thread nD τ).loc main_arg0)) (k : Fin k0_t2_loop.trips) (hk : k.val < 4112) :
    wordAt (F := F) c tbM X k = (X : (⟨1, ![4112]⟩ : Shape).Idx → BitVec 32) (ValueIdx.ix1 ⟨k.val, hk⟩) := by
  refine congrArg X (funext fun a => Fin.ext ?_)
  match a with
  | ⟨0, _⟩ =>
    have h0 : k0_off2 k 0 = k.val := congrFun (k0_off2_eq k) 0
    show k0_off2 k 0 + 1 * 0 = k.val
    omega

/-- The words of the table by number. -/
theorem words_eq (c : Dev nD) (X : Buf (Elt F) ((c : Thread nD τ).loc main_arg0)) (k : ℕ) (hk : k < 4112) :
    words (F := F) c tbM X k = (X : (⟨1, ![4112]⟩ : Shape).Idx → BitVec 32) (ValueIdx.ix1 ⟨k, hk⟩) :=
  (dif_pos (by rw [place_trips]; exact hk)).trans (wordAt_eq c X _ hk)

/-- A table of words below 8192 passes every check. -/
theorem inRange (h : ∀ k : Fin 4112, ((tbl m 0 : (⟨1, ![4112]⟩ : Shape).Idx → BitVec 32) (ValueIdx.ix1 k)).toNat < 8192) : InRange m := fun c k a => by
  have hk : k.val < 4112 := Nat.lt_of_lt_of_eq k.isLt place_trips
  have hw := h ⟨k.val, hk⟩
  rw [← wordAt_eq c (tbl m 0) k hk] at hw
  obtain rfl : a = 0 := Subsingleton.elim _ _
  show _ + 1 ≤ 8192
  exact hw

end Cert.OwnerIdeal.Attention

end
-- ==== Proof.OwnerValue.lean ====
/-
  What the idealized owner program leaves in its result: one point writes the whole array, so it ends at `result`.
-/
module

public import proofs.«01_k».proof.Proof.OwnerIdealRun
public import Idealize.ShloMosaic.Lib.Pipeline.Value

@[expose] public section

noncomputable section

namespace Cert.OwnerIdeal.Attention

open Cert.OwnerIdeal.Gen Cert.Owner.Spec
open Idealize.ShloMosaic Idealize.ShloMosaic.TcCoe

variable {F : FTy → Type} [FloatOps F] (m : (ℓ : Loc nD τ sig) → Buf (Elt F) ℓ) (c : Dev nD)

/-- The one block is the whole array. -/
theorem mem0 (t : Fin (cfgM m).N) (i : S8192.Idx) : i ∈ (((cfgM m).win 0).blk t).view.set := by
  show i ∈ ((View.whole main_v0).slice (((cfgM m).win 0).rect t)).set
  refine (iff_of_eq (congrArg (i ∈ ·) (View.set_slice_whole main_v0 (((cfgM m).win 0).rect t)))).mpr (Rect.mem_set_unit.mpr fun a => ?_)
  match a with
  | ⟨0, _⟩ =>
    have hi : (i 0).val < 8192 := (i 0).isLt
    exact ⟨by show 0 * 8192 ≤ (i 0).val; omega, by show (i 0).val < 0 * 8192 + 8192; omega⟩

/-- The one point flushes its block. -/
theorem flush0 (t : Fin (cfgM m).N) : ((cfgM m).win 0).flush t = true :=
  (by decide : ∀ t : Fin grid0.N, Pipeline.Window.flushOf grid0 true cc0_transform_0 t = true) t

/-- The array after the run. -/
theorem final : (dats m 0 c).arrAt 0 (cfgM m).N = result (F := F) m c := by
  funext i
  refine (dats m 0 c).arrAt_apply_of_mem 0 (result (F := F) m c) (fun t _ => ?_) (cfgM m).N t0_0 i (Fin.isLt _) (flush0 m _) (mem0 m _ i)
  show ((cfgM m).win 0).cut (grid0.coords t) ((dats m 0 c).after 0 t) = _
  rw [after_eq m c t]
  refine funext fun (y : S8192.Idx) => ?_
  refine Eq.trans ?_ (View.read_apply _ _).symm
  refine congrArg (result (F := F) m c) (funext fun a => Fin.ext ?_)
  match a with
  | ⟨0, _⟩ =>
    show (y 0).val = 0 * 8192 + 1 * (y 0).val
    omega

end Cert.OwnerIdeal.Attention

end
-- ==== Proof.OwnerReference.lean ====
/-
  What the owner reference leaves: a scatter that sets, over an array of −1, of every token's number at its slot, the last one
  at a slot standing; entry by entry, what placing the 4112 tokens in order leaves.
-/
module

public import proofs.«01_k».proof.Proof.OwnerDomain
public import proofs.«01_k».proof.Proof.OwnerSpec
public import proofs.«01_k».proof.Proof.Gen.OwnerReferenceIdeal.Read
public import Idealize.ShloMosaic.Lib.Routing.OpsSet

@[expose] public section

noncomputable section

namespace Cert.OwnerReferenceIdeal.Attention

open Cert.OwnerReferenceIdeal Cert.OwnerReferenceIdeal.Gen Cert.OwnerReferenceIdeal.Read Cert.Owner.Spec
open Idealize.ShloMosaic Idealize.ShloMosaic.Routing

/-- The last of the first `n` tokens whose word is `i`, or −1, is what placing them leaves at slot `i`. -/
theorem lastHit_placed (w : ℕ → BitVec 32) (i : Fin 8192) (n : ℕ) :
    LaneScatter.lastHit (fun e => (w e).toNat = i.val) (fun e => BitVec.ofNat 32 e) 4294967295#32 n = placed w n i := by
  induction n with
  | zero => rfl
  | succ n ih =>
    rw [placed_succ, ← ih]
    rfl

variable (X : (⟨S4112, .i32⟩ : BufTy).Contents (Elt Ideal)) (hX : ∀ k : Fin 4112, ((X : IVec S4112 32) (ValueIdx.ix1 k)).toNat < 8192)
include hX

/-- An index word below 8192 passes the wrap of negative indices as it is. -/
theorem index_eq (k : Fin 4112) : (val_main_v7 (F := Ideal) X : IVec S4112x1 32) (ValueIdx.ix2 k (0 : Fin 1)) = (X : IVec S4112 32) (ValueIdx.ix1 k) := by
  rw [val_main_v7_apply]
  have e : idx_main_v7 (ValueIdx.ix2 k (0 : Fin 1)) = ValueIdx.ix1 k := funext fun a => match a with | ⟨0, _⟩ => rfl
  rw [e, val_main_v6_apply, val_main_v3_apply, val_main_v2_apply]
  have := hX k
  exact wrap_of_lt _ _ (by omega)

/-- Update `k` lands at slot `i` exactly when its word is `i`. -/
theorem lands (k : Fin 4112) (i : Fin 8192) :
    scatter_S8192_S4112x1_S4112_n_0_0_1.resultIdx? (ValueIdx.ix1 k) (val_main_v7 (F := Ideal) X) = some (ValueIdx.ix1 i)
      ↔ ((X : IVec S4112 32) (ValueIdx.ix1 k)).toNat = i.val := by
  have hw := hX k
  have hstart : scatter_S8192_S4112x1_S4112_n_0_0_1.start (ValueIdx.ix1 k) (val_main_v7 (F := Ideal) X) 0
      = ((X : IVec S4112 32) (ValueIdx.ix1 k)).toInt := by
    rw [← index_eq X hX k]
    unfold ScatterDims.start
    rw [dif_pos (by exact List.mem_singleton.2 rfl)]
    refine congrArg (fun x => (val_main_v7 (F := Ideal) X x).toInt) (funext fun b => Fin.ext ?_)
    match b with
    | ⟨0, _⟩ => rfl
    | ⟨1, _⟩ => rfl
  have hwin : scatter_S8192_S4112x1_S4112_n_0_0_1.window (ValueIdx.ix1 k) 0 = 0 := rfl
  rw [resultIdx?_ix1, hstart, hwin, BitVec.toInt_eq_toNat_of_lt (by omega)]
  omega

/-- The reference's result, entry by entry. -/
theorem final (w : ℕ → BitVec 32) (hword : ∀ k : Fin 4112, w k.val = (X : IVec S4112 32) (ValueIdx.ix1 k)) (i : Fin 8192) :
    (val_main_v8 (F := Ideal) X : IVec S8192 32) (ValueIdx.ix1 i) = placed w 4112 i := by
  unfold val_main_v8
  rw [scatter_at, ← lastHit_placed, ← foldl_finRange_lastHit]
  have hN : (S4112 : Shape).numel = 4112 := numel1 4112
  have key : ∀ (M : Nat) (hM : M = 4112) (g : BitVec 32 → Fin M → BitVec 32) (g' : BitVec 32 → Fin 4112 → BitVec 32),
      (∀ a n, g a n = g' a (n.cast hM)) → ∀ a, (List.finRange M).foldl g a = (List.finRange 4112).foldl g' a := by
    intro M hM g g' hg a
    subst hM
    exact congrArg (fun f => (List.finRange 4112).foldl f a) (funext fun a => funext fun n => hg a n)
  refine (key _ hN _ (fun a (e : Fin 4112) => if (w e.val).toNat = i.val then BitVec.ofNat 32 e.val else a) (fun a n => ?_) _).trans ?_
  · have hs : S4112.rowMajor.symm n = ValueIdx.ix1 (n.cast hN) := symm1 n
    rw [hs, hword]
    exact ite_congr (propext (lands X hX (n.cast hN) i)) (fun _ => rfl) (fun _ => rfl)
  · exact congrArg (fun x => (List.finRange 4112).foldl (fun a (e : Fin 4112) => if (w e.val).toNat = i.val then BitVec.ofNat 32 e.val else a) x)
      (val_main_v0_apply (F := Ideal) (ValueIdx.ix1 i))

end Cert.OwnerReferenceIdeal.Attention

end
-- ==== Proof.MergeSpec.lean ====
/-
  The merge of the new rows into the blocks, entry by entry: slot `s` of block `b` is written by the token its owner names, or
  keeps what it held where the owner is −1.
-/
module

public import proofs.«01_k».proof.Proof.DecodeDomain
public import Idealize.ShloMosaic.Lib.ValueIdxCore
public import proofs.«01_k».proof.Pre_owner_in_range

@[expose] public section

noncomputable section

namespace Cert.Merge.Spec

open Idealize.ShloMosaic

abbrev Tokens : Shape := ⟨3, ![4112, 16, 128]⟩
abbrev Cache : Shape := ⟨4, ![512, 16, 16, 128]⟩
abbrev Fresh : Shape := ⟨4, ![512, 16, 17, 128]⟩
abbrev Slots : Shape := ⟨1, ![8192]⟩

/-- The token an owner names: the owner itself, token 0 for a negative one, at most the last token. -/
def source (w : BitVec 32) : Fin 4112 := ⟨min (IntOp.maxsi w 0#32).toNat 4111, by omega⟩

/-- Whether an owner names a token. -/
abbrev owned (w : BitVec 32) : BitVec 1 := IntOp.cmpi .sge w 0#32

/-- The owner of slot `s` of block `b`. -/
def ownerAt (O : IVec Slots 32) (b : Fin 512) (s : Fin 16) : BitVec 32 := O (ValueIdx.ix1 ⟨16 * b.val + s.val, by omega⟩)

/-- The merged values: the owner's row of `X`, or the cache's. -/
def values {F : FTy → Type} (X : Vec F Tokens .f32) (C : Vec F Cache .f32) (O : IVec Slots 32) : Vec F Cache .f32 := fun i =>
  Scalar.select (owned (ownerAt O (i 0) (i 2))) (X (ix3 (source (ownerAt O (i 0) (i 2))) (i 1) (i 3))) (C i)

/-- The fresh keys: the owner's row of `X`, and in a seventeenth row whether the slot is owned. -/
def keys {F : FTy → Type} [FloatOps F] (X : Vec F Tokens .f32) (O : IVec Slots 32) : Vec F Fresh .f32 := fun i =>
  if h : (i 2).val < 16 then X (ix3 (source (ownerAt O (i 0) (i 1))) ⟨(i 2).val, h⟩ (i 3))
  else Scalar.select (owned (ownerAt O (i 0) (i 1))) (Scalar.ofBits .f32 0x3F800000#32) (Scalar.ofBits .f32 0x00000000#32)

/-! ## The precondition -/

theorem owner_facts : Cert.Pre_owner_in_range.Facts := ⟨by decide⟩

/-- An owner below 4112, signed, names a token without the clip. -/
theorem source_lt (w : BitVec 32) (h : IntOp.cmpi .slt w 4112#32 = 1#1) : (IntOp.maxsi w 0#32).toNat < 4112 := by
  have b := Cert.Attention.Decode.of_bit _ h
  rw [BitVec.slt_iff_toInt_lt] at b
  simp at b
  rw [BitVec.toInt_eq_toNat_cond] at b
  have hw := w.isLt
  unfold IntOp.maxsi
  split
  · rename_i hs
    rw [BitVec.slt_iff_toInt_lt] at hs
    simp at hs
    rw [BitVec.toInt_eq_toNat_cond] at hs
    split at b <;> omega
  · exact Nat.zero_lt_succ _

section
attribute [local instance] owner_facts

/-- The precondition, read at one slot. -/
theorem lt_of_owner {F : FTy → Type} [FloatOps F] (K V : FVec F Tokens .f32) (C : FVec F Cache .f32) (S : IVec ⟨1, ![4112]⟩ 32) (O : IVec Slots 32)
    (h : Cert.Pre_owner_in_range.fn K V C S O = fun _ => 1#1) (x : Slots.Idx) : (IntOp.maxsi (O x) 0#32).toNat < 4112 :=
  source_lt _ (congrFun h x)
end

end Cert.Merge.Spec

end
-- ==== Proof.MergeIdealOk.lean ====
/-
  Where every owner is below 4112, every row of tokens the idealized merge program copies lies inside its array.
-/
module

public import proofs.«01_k».proof.Proof.MergeSpec
public import proofs.«01_k».proof.Proof.Gen.MergeIdeal.Frame.Runs

@[expose] public section

noncomputable section

namespace Cert.MergeIdeal.Attention

open Cert.MergeIdeal Cert.MergeIdeal.Gen Idealize.ShloMosaic Idealize.ShloMosaic.TcCoe

variable {F : FTy → Type} [FloatOps F] (m : (ℓ : Loc nD τ sig) → Buf (Elt F) ℓ)

/-- A token's row is inside the array of rows. -/
theorem rows (w : BitVec 32) (h : w.toNat < 4112) (a : Fin 3) :
    ((![w.toNat, (0#32).toNat, (0#32).toNat] : Fin 3 → Nat) a + 1) * S1x16x128.size a ≤ S4112x16x128.size a :=
  match a with
  | ⟨0, _⟩ => (Nat.mul_one _).le.trans h
  | ⟨1, _⟩ => le_refl 16
  | ⟨2, _⟩ => le_refl 128

/-- The launch's condition on the tables holds where every owner names a token. -/
theorem ok_of_lt (h : ∀ x : S8192.Idx, (IntOp.maxsi (tbl m 1 x : BitVec 32) 0#32).toNat < 4112) : Ok m :=
  ⟨fun i => ⟨rows _ (h ((Rect.unit (s := S8192) (k0_off1 i 0#32) S1.size (k0_off1_inb i 0)).emb (Shape.Idx.first (numel1_S1.symm ▸ Nat.one_pos)))), .inl rfl⟩,
    fun i => ⟨rows _ (h ((Rect.unit (s := S8192) (k0_off1 i 1#32) S1.size (k0_off1_inb i 1)).emb (Shape.Idx.first (numel1_S1.symm ▸ Nat.one_pos)))), .inl rfl⟩,
    fun i => ⟨rows _ (h ((Rect.unit (s := S8192) (k0_off1 i 2#32) S1.size (k0_off1_inb i 2)).emb (Shape.Idx.first (numel1_S1.symm ▸ Nat.one_pos)))), .inl rfl⟩,
    fun i => ⟨rows _ (h ((Rect.unit (s := S8192) (k0_off1 i 3#32) S1.size (k0_off1_inb i 3)).emb (Shape.Idx.first (numel1_S1.symm ▸ Nat.one_pos)))), .inl rfl⟩,
    fun i => ⟨rows _ (h ((Rect.unit (s := S8192) (k0_off1 i 4#32) S1.size (k0_off1_inb i 4)).emb (Shape.Idx.first (numel1_S1.symm ▸ Nat.one_pos)))), .inl rfl⟩,
    fun i => ⟨rows _ (h ((Rect.unit (s := S8192) (k0_off1 i 5#32) S1.size (k0_off1_inb i 5)).emb (Shape.Idx.first (numel1_S1.symm ▸ Nat.one_pos)))), .inl rfl⟩,
    fun i => ⟨rows _ (h ((Rect.unit (s := S8192) (k0_off1 i 6#32) S1.size (k0_off1_inb i 6)).emb (Shape.Idx.first (numel1_S1.symm ▸ Nat.one_pos)))), .inl rfl⟩,
    fun i => ⟨rows _ (h ((Rect.unit (s := S8192) (k0_off1 i 7#32) S1.size (k0_off1_inb i 7)).emb (Shape.Idx.first (numel1_S1.symm ▸ Nat.one_pos)))), .inl rfl⟩,
    fun i => ⟨rows _ (h ((Rect.unit (s := S8192) (k0_off1 i 8#32) S1.size (k0_off1_inb i 8)).emb (Shape.Idx.first (numel1_S1.symm ▸ Nat.one_pos)))), .inl rfl⟩,
    fun i => ⟨rows _ (h ((Rect.unit (s := S8192) (k0_off1 i 9#32) S1.size (k0_off1_inb i 9)).emb (Shape.Idx.first (numel1_S1.symm ▸ Nat.one_pos)))), .inl rfl⟩,
    fun i => ⟨rows _ (h ((Rect.unit (s := S8192) (k0_off1 i 10#32) S1.size (k0_off1_inb i 10)).emb (Shape.Idx.first (numel1_S1.symm ▸ Nat.one_pos)))), .inl rfl⟩,
    fun i => ⟨rows _ (h ((Rect.unit (s := S8192) (k0_off1 i 11#32) S1.size (k0_off1_inb i 11)).emb (Shape.Idx.first (numel1_S1.symm ▸ Nat.one_pos)))), .inl rfl⟩,
    fun i => ⟨rows _ (h ((Rect.unit (s := S8192) (k0_off1 i 12#32) S1.size (k0_off1_inb i 12)).emb (Shape.Idx.first (numel1_S1.symm ▸ Nat.one_pos)))), .inl rfl⟩,
    fun i => ⟨rows _ (h ((Rect.unit (s := S8192) (k0_off1 i 13#32) S1.size (k0_off1_inb i 13)).emb (Shape.Idx.first (numel1_S1.symm ▸ Nat.one_pos)))), .inl rfl⟩,
    fun i => ⟨rows _ (h ((Rect.unit (s := S8192) (k0_off1 i 14#32) S1.size (k0_off1_inb i 14)).emb (Shape.Idx.first (numel1_S1.symm ▸ Nat.one_pos)))), .inl rfl⟩,
    fun i => ⟨rows _ (h ((Rect.unit (s := S8192) (k0_off1 i 15#32) S1.size (k0_off1_inb i 15)).emb (Shape.Idx.first (numel1_S1.symm ▸ Nat.one_pos)))), .inl rfl⟩,
    fun i => ⟨rows _ (h ((Rect.unit (s := S8192) (k0_off1 i 0#32) S1.size (k0_off1_inb i 0)).emb (Shape.Idx.first (numel1_S1.symm ▸ Nat.one_pos)))), .inl rfl⟩,
    fun i => ⟨rows _ (h ((Rect.unit (s := S8192) (k0_off1 i 1#32) S1.size (k0_off1_inb i 1)).emb (Shape.Idx.first (numel1_S1.symm ▸ Nat.one_pos)))), .inl rfl⟩,
    fun i => ⟨rows _ (h ((Rect.unit (s := S8192) (k0_off1 i 2#32) S1.size (k0_off1_inb i 2)).emb (Shape.Idx.first (numel1_S1.symm ▸ Nat.one_pos)))), .inl rfl⟩,
    fun i => ⟨rows _ (h ((Rect.unit (s := S8192) (k0_off1 i 3#32) S1.size (k0_off1_inb i 3)).emb (Shape.Idx.first (numel1_S1.symm ▸ Nat.one_pos)))), .inl rfl⟩,
    fun i => ⟨rows _ (h ((Rect.unit (s := S8192) (k0_off1 i 4#32) S1.size (k0_off1_inb i 4)).emb (Shape.Idx.first (numel1_S1.symm ▸ Nat.one_pos)))), .inl rfl⟩,
    fun i => ⟨rows _ (h ((Rect.unit (s := S8192) (k0_off1 i 5#32) S1.size (k0_off1_inb i 5)).emb (Shape.Idx.first (numel1_S1.symm ▸ Nat.one_pos)))), .inl rfl⟩,
    fun i => ⟨rows _ (h ((Rect.unit (s := S8192) (k0_off1 i 6#32) S1.size (k0_off1_inb i 6)).emb (Shape.Idx.first (numel1_S1.symm ▸ Nat.one_pos)))), .inl rfl⟩,
    fun i => ⟨rows _ (h ((Rect.unit (s := S8192) (k0_off1 i 7#32) S1.size (k0_off1_inb i 7)).emb (Shape.Idx.first (numel1_S1.symm ▸ Nat.one_pos)))), .inl rfl⟩,
    fun i => ⟨rows _ (h ((Rect.unit (s := S8192) (k0_off1 i 8#32) S1.size (k0_off1_inb i 8)).emb (Shape.Idx.first (numel1_S1.symm ▸ Nat.one_pos)))), .inl rfl⟩,
    fun i => ⟨rows _ (h ((Rect.unit (s := S8192) (k0_off1 i 9#32) S1.size (k0_off1_inb i 9)).emb (Shape.Idx.first (numel1_S1.symm ▸ Nat.one_pos)))), .inl rfl⟩,
    fun i => ⟨rows _ (h ((Rect.unit (s := S8192) (k0_off1 i 10#32) S1.size (k0_off1_inb i 10)).emb (Shape.Idx.first (numel1_S1.symm ▸ Nat.one_pos)))), .inl rfl⟩,
    fun i => ⟨rows _ (h ((Rect.unit (s := S8192) (k0_off1 i 11#32) S1.size (k0_off1_inb i 11)).emb (Shape.Idx.first (numel1_S1.symm ▸ Nat.one_pos)))), .inl rfl⟩,
    fun i => ⟨rows _ (h ((Rect.unit (s := S8192) (k0_off1 i 12#32) S1.size (k0_off1_inb i 12)).emb (Shape.Idx.first (numel1_S1.symm ▸ Nat.one_pos)))), .inl rfl⟩,
    fun i => ⟨rows _ (h ((Rect.unit (s := S8192) (k0_off1 i 13#32) S1.size (k0_off1_inb i 13)).emb (Shape.Idx.first (numel1_S1.symm ▸ Nat.one_pos)))), .inl rfl⟩,
    fun i => ⟨rows _ (h ((Rect.unit (s := S8192) (k0_off1 i 14#32) S1.size (k0_off1_inb i 14)).emb (Shape.Idx.first (numel1_S1.symm ▸ Nat.one_pos)))), .inl rfl⟩,
    fun i => ⟨rows _ (h ((Rect.unit (s := S8192) (k0_off1 i 15#32) S1.size (k0_off1_inb i 15)).emb (Shape.Idx.first (numel1_S1.symm ▸ Nat.one_pos)))), .inl rfl⟩⟩

/-- So it holds where the owners are below 4112. -/
theorem ok (h : ∀ x : S8192.Idx, (IntOp.maxsi (m (((0 : Dev nD) : Thread nD τ).loc main_arg4) x : BitVec 32) 0#32).toNat < 4112) : Ok m :=
  ok_of_lt m h

end Cert.MergeIdeal.Attention

end
-- ==== Proof.MergeIdealRun.lean ====
/-
  The run of the merge program `MergeIdeal`'s body at one block of sixteen slots: it follows the run modules generated for this
  problem's other programs.
-/
module

public import proofs.«01_k».proof.Proof.Gen.MergeIdeal.Frame.Runs

@[expose] public section

set_option maxRecDepth 16384

noncomputable section

namespace Cert.MergeIdeal.Attention

open Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 20000000 in
/-- What the body's stores leave in each output's staging memory, as pieces (last first), with the proof that the body runs
    from the inputs at their contents and the outputs at any, to the inputs as they were and each output's pieces written. -/
noncomputable def kernelRun0_A (c : Dev nD) (i : grid0.Coords) (arg3 : Memref sig .tc .vmem S1x16x16x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x128 .f32) (harg8 : arg8.IsWhole) (arg9 : Memref sig .tc .vmem S1x16x128 .f32) (harg9 : arg9.IsWhole) (arg10 : Memref sig .tc .vmem S1x16x128 .f32) (harg10 : arg10.IsWhole) (arg11 : Memref sig .tc .vmem S1x16x128 .f32) (harg11 : arg11.IsWhole) (arg12 : Memref sig .tc .vmem S1x16x128 .f32) (harg12 : arg12.IsWhole) (arg13 : Memref sig .tc .vmem S1x16x128 .f32) (harg13 : arg13.IsWhole) (arg14 : Memref sig .tc .vmem S1x16x128 .f32) (harg14 : arg14.IsWhole) (arg15 : Memref sig .tc .vmem S1x16x128 .f32) (harg15 : arg15.IsWhole) (arg16 : Memref sig .tc .vmem S1x16x128 .f32) (harg16 : arg16.IsWhole) (arg17 : Memref sig .tc .vmem S1x16x128 .f32) (harg17 : arg17.IsWhole) (arg18 : Memref sig .tc .vmem S1x16x128 .f32) (harg18 : arg18.IsWhole) (arg19 : Memref sig .tc .vmem S1x16x128 .f32) (harg19 : arg19.IsWhole) (arg20 : Memref sig .tc .vmem S1x16x128 .f32) (harg20 : arg20.IsWhole) (arg21 : Memref sig .tc .vmem S1x16x128 .f32) (harg21 : arg21.IsWhole) (arg22 : Memref sig .tc .vmem S1x16x128 .f32) (harg22 : arg22.IsWhole) (arg23 : Memref sig .tc .vmem S1x16x128 .f32) (harg23 : arg23.IsWhole) (arg24 : Memref sig .tc .vmem S1x16x128 .f32) (harg24 : arg24.IsWhole) (arg25 : Memref sig .tc .vmem S1x16x128 .f32) (harg25 : arg25.IsWhole) (arg26 : Memref sig .tc .vmem S1x16x128 .f32) (harg26 : arg26.IsWhole) (arg27 : Memref sig .tc .vmem S1x16x128 .f32) (harg27 : arg27.IsWhole) (arg28 : Memref sig .tc .vmem S1x16x128 .f32) (harg28 : arg28.IsWhole) (arg29 : Memref sig .tc .vmem S1x16x128 .f32) (harg29 : arg29.IsWhole) (arg30 : Memref sig .tc .vmem S1x16x128 .f32) (harg30 : arg30.IsWhole) (arg31 : Memref sig .tc .vmem S1x16x128 .f32) (harg31 : arg31.IsWhole) (arg32 : Memref sig .tc .vmem S1x16x128 .f32) (harg32 : arg32.IsWhole) (arg33 : Memref sig .tc .vmem S1x16x128 .f32) (harg33 : arg33.IsWhole) (arg34 : Memref sig .tc .vmem S1x16x128 .f32) (harg34 : arg34.IsWhole) (arg35 : Memref sig .tc .vmem S1x16x128 .f32) (harg35 : arg35.IsWhole) (arg36 : Memref sig .tc .vmem S1x16x16x128 .f32) (harg36 : arg36.IsWhole) (arg37 : Memref sig .tc .vmem S1x16x17x128 .f32) (harg37 : arg37.IsWhole)
    (x0 : Vec F S1x16x16x128 .f32) (x1 : Vec F S1x16x128 .f32) (x2 : Vec F S1x16x128 .f32) (x3 : Vec F S1x16x128 .f32) (x4 : Vec F S1x16x128 .f32) (x5 : Vec F S1x16x128 .f32) (x6 : Vec F S1x16x128 .f32) (x7 : Vec F S1x16x128 .f32) (x8 : Vec F S1x16x128 .f32) (x9 : Vec F S1x16x128 .f32) (x10 : Vec F S1x16x128 .f32) (x11 : Vec F S1x16x128 .f32) (x12 : Vec F S1x16x128 .f32) (x13 : Vec F S1x16x128 .f32) (x14 : Vec F S1x16x128 .f32) (x15 : Vec F S1x16x128 .f32) (x16 : Vec F S1x16x128 .f32) (x17 : Vec F S1x16x128 .f32) (x18 : Vec F S1x16x128 .f32) (x19 : Vec F S1x16x128 .f32) (x20 : Vec F S1x16x128 .f32) (x21 : Vec F S1x16x128 .f32) (x22 : Vec F S1x16x128 .f32) (x23 : Vec F S1x16x128 .f32) (x24 : Vec F S1x16x128 .f32) (x25 : Vec F S1x16x128 .f32) (x26 : Vec F S1x16x128 .f32) (x27 : Vec F S1x16x128 .f32) (x28 : Vec F S1x16x128 .f32) (x29 : Vec F S1x16x128 .f32) (x30 : Vec F S1x16x128 .f32) (x31 : Vec F S1x16x128 .f32) (x32 : Vec F S1x16x128 .f32) (xt0 : TbBuf0 (F := F) c tbM0_0) (xt1 : TbBuf0 (F := F) c tbM0_1) :
    Σ' (L33 : List (View.Piece (Elt F) S1x16x16x128 .f32)), { L34 : List (View.Piece (Elt F) S1x16x17x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ (∃ d, owns (c : Thread nD τ) arg36 fullShare d) ∗ (∃ d, owns (c : Thread nD τ) arg37 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ (∃ f, arg36.view.loc (c : Thread nD τ) ↦[arg36.view.set]{fullShare} arg36.view.writes (Elt F) f L33) ∗ (∃ f, arg37.view.loc (c : Thread nD τ) ↦[arg37.view.set]{fullShare} arg37.view.writes (Elt F) f L34) ∗ tbPt0 c tbM0_0 xt0 ∗ tbPt0 c tbM0_1 xt1) -∗ K ⟨⟩))
          ⊢ wp frame (wpE (defs₀ (F := F)) Variants.none c none) E (cc0__merge_kernel i tbM0_0 htbM0_0 tbM0_1 htbM0_1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K } := by
  refine ⟨?_, ?_, fun E K => ?run⟩
  case run =>
    simp only [cc0__merge_kernel_eq_skeleton]; unfold cc0__merge_kernel_skel
    simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%d33, %f33, -, H33⟩, ⟨%d34, %f34, -, H34⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24; obtain rfl := harg28.eq_unread hf25; obtain rfl := harg29.eq_unread hf26; obtain rfl := harg30.eq_unread hf27; obtain rfl := harg31.eq_unread hf28; obtain rfl := harg32.eq_unread hf29; obtain rfl := harg33.eq_unread hf30; obtain rfl := harg34.eq_unread hf31; obtain rfl := harg35.eq_unread hf32
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [H22]
    · iexists _; isplitr; · ipureintro; exact harg25.read_unread _
      iexact H22
    isplitl [H23]
    · iexists _; isplitr; · ipureintro; exact harg26.read_unread _
      iexact H23
    isplitl [H24]
    · iexists _; isplitr; · ipureintro; exact harg27.read_unread _
      iexact H24
    isplitl [H25]
    · iexists _; isplitr; · ipureintro; exact harg28.read_unread _
      iexact H25
    isplitl [H26]
    · iexists _; isplitr; · ipureintro; exact harg29.read_unread _
      iexact H26
    isplitl [H27]
    · iexists _; isplitr; · ipureintro; exact harg30.read_unread _
      iexact H27
    isplitl [H28]
    · iexists _; isplitr; · ipureintro; exact harg31.read_unread _
      iexact H28
    isplitl [H29]
    · iexists _; isplitr; · ipureintro; exact harg32.read_unread _
      iexact H29
    isplitl [H30]
    · iexists _; isplitr; · ipureintro; exact harg33.read_unread _
      iexact H30
    isplitl [H31]
    · iexists _; isplitr; · ipureintro; exact harg34.read_unread _
      iexact H31
    isplitl [H32]
    · iexists _; isplitr; · ipureintro; exact harg35.read_unread _
      iexact H32
    isplitl [H33]; · iexists _; iexact H33
    isplitl [H34]; · iexists _; iexact H34
    isplitl [HT0]; · iexact HT0
    iexact HT1

end Cert.MergeIdeal.Attention

end
-- ==== Proof.MergeIdealFrame.lean ====
/-
  The frame of the merge program `MergeIdeal`, for every contents of its two tables whose words name arrays' rows (`Gen.Ok`): what
  the outputs hold after each block, the proof data, the body's obligation, the run, and that the arguments end unchanged.
  It follows the frame modules generated for this problem's other programs.
-/
module

public import proofs.«01_k».proof.Proof.MergeIdealRun
public import Idealize.ShloMosaic.Lib.Claim

@[expose] public section

set_option maxRecDepth 16384

noncomputable section

namespace Cert.MergeIdeal.Attention

open Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (arg3 : Memref sig .tc .vmem S1x16x16x128 .f32) (harg3 : arg3.IsWhole) (arg4 : Memref sig .tc .vmem S1x16x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x128 .f32) (harg8 : arg8.IsWhole) (arg9 : Memref sig .tc .vmem S1x16x128 .f32) (harg9 : arg9.IsWhole) (arg10 : Memref sig .tc .vmem S1x16x128 .f32) (harg10 : arg10.IsWhole) (arg11 : Memref sig .tc .vmem S1x16x128 .f32) (harg11 : arg11.IsWhole) (arg12 : Memref sig .tc .vmem S1x16x128 .f32) (harg12 : arg12.IsWhole) (arg13 : Memref sig .tc .vmem S1x16x128 .f32) (harg13 : arg13.IsWhole) (arg14 : Memref sig .tc .vmem S1x16x128 .f32) (harg14 : arg14.IsWhole) (arg15 : Memref sig .tc .vmem S1x16x128 .f32) (harg15 : arg15.IsWhole) (arg16 : Memref sig .tc .vmem S1x16x128 .f32) (harg16 : arg16.IsWhole) (arg17 : Memref sig .tc .vmem S1x16x128 .f32) (harg17 : arg17.IsWhole) (arg18 : Memref sig .tc .vmem S1x16x128 .f32) (harg18 : arg18.IsWhole) (arg19 : Memref sig .tc .vmem S1x16x128 .f32) (harg19 : arg19.IsWhole) (arg20 : Memref sig .tc .vmem S1x16x128 .f32) (harg20 : arg20.IsWhole) (arg21 : Memref sig .tc .vmem S1x16x128 .f32) (harg21 : arg21.IsWhole) (arg22 : Memref sig .tc .vmem S1x16x128 .f32) (harg22 : arg22.IsWhole) (arg23 : Memref sig .tc .vmem S1x16x128 .f32) (harg23 : arg23.IsWhole) (arg24 : Memref sig .tc .vmem S1x16x128 .f32) (harg24 : arg24.IsWhole) (arg25 : Memref sig .tc .vmem S1x16x128 .f32) (harg25 : arg25.IsWhole) (arg26 : Memref sig .tc .vmem S1x16x128 .f32) (harg26 : arg26.IsWhole) (arg27 : Memref sig .tc .vmem S1x16x128 .f32) (harg27 : arg27.IsWhole) (arg28 : Memref sig .tc .vmem S1x16x128 .f32) (harg28 : arg28.IsWhole) (arg29 : Memref sig .tc .vmem S1x16x128 .f32) (harg29 : arg29.IsWhole) (arg30 : Memref sig .tc .vmem S1x16x128 .f32) (harg30 : arg30.IsWhole) (arg31 : Memref sig .tc .vmem S1x16x128 .f32) (harg31 : arg31.IsWhole) (arg32 : Memref sig .tc .vmem S1x16x128 .f32) (harg32 : arg32.IsWhole) (arg33 : Memref sig .tc .vmem S1x16x128 .f32) (harg33 : arg33.IsWhole) (arg34 : Memref sig .tc .vmem S1x16x128 .f32) (harg34 : arg34.IsWhole) (arg35 : Memref sig .tc .vmem S1x16x128 .f32) (harg35 : arg35.IsWhole) (arg36 : Memref sig .tc .vmem S1x16x16x128 .f32) (harg36 : arg36.IsWhole) (arg37 : Memref sig .tc .vmem S1x16x17x128 .f32) (harg37 : arg37.IsWhole) (x0 : Vec F S1x16x16x128 .f32) (x1 : Vec F S1x16x128 .f32) (x2 : Vec F S1x16x128 .f32) (x3 : Vec F S1x16x128 .f32) (x4 : Vec F S1x16x128 .f32) (x5 : Vec F S1x16x128 .f32) (x6 : Vec F S1x16x128 .f32) (x7 : Vec F S1x16x128 .f32) (x8 : Vec F S1x16x128 .f32) (x9 : Vec F S1x16x128 .f32) (x10 : Vec F S1x16x128 .f32) (x11 : Vec F S1x16x128 .f32) (x12 : Vec F S1x16x128 .f32) (x13 : Vec F S1x16x128 .f32) (x14 : Vec F S1x16x128 .f32) (x15 : Vec F S1x16x128 .f32) (x16 : Vec F S1x16x128 .f32) (x17 : Vec F S1x16x128 .f32) (x18 : Vec F S1x16x128 .f32) (x19 : Vec F S1x16x128 .f32) (x20 : Vec F S1x16x128 .f32) (x21 : Vec F S1x16x128 .f32) (x22 : Vec F S1x16x128 .f32) (x23 : Vec F S1x16x128 .f32) (x24 : Vec F S1x16x128 .f32) (x25 : Vec F S1x16x128 .f32) (x26 : Vec F S1x16x128 .f32) (x27 : Vec F S1x16x128 .f32) (x28 : Vec F S1x16x128 .f32) (x29 : Vec F S1x16x128 .f32) (x30 : Vec F S1x16x128 .f32) (x31 : Vec F S1x16x128 .f32) (x32 : Vec F S1x16x128 .f32) (xt0 : TbBuf0 (F := F) c tbM0_0) (xt1 : TbBuf0 (F := F) c tbM0_1)

/-- The run's pieces for output 33 tile its block (16 stores of `S1x16x1x128`), so they cover it. -/
theorem cover0_A_33 (y : S1x16x16x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 x31 x32 xt0 xt1).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 x31 x32 xt0 xt1).1 S1x16x1x128.size (by sl_kernel_rfl) y

/-- What the run leaves in output 33's staging buffer: its pieces read back over junk. -/
def out0_A_33 : Vec F S1x16x16x128 .f32 :=
  VO0_33.read (Elt F) (VO0_33.writes (Elt F) VO0_33.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 x31 x32 xt0 xt1).1)

/-- The run's pieces for output 34 are of SEVERAL sizes (32 stores of `S1x1x16x128`, `S1x1x1x128`): cut into blocks of `![1, 1, 1, 128]` they tile its block, so they cover it. -/
theorem cover0_A_34 (y : S1x16x17x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 x31 x32 xt0 xt1).2.1, y ∈ pc.1.set :=
  View.cover_of_tiledBy (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 x31 x32 xt0 xt1).2.1 ![1, 1, 1, 128] (by sl_kernel_rfl) y

/-- What the run leaves in output 34's staging buffer: its pieces read back over junk. -/
def out0_A_34 : Vec F S1x16x17x128 .f32 :=
  VO0_34.read (Elt F) (VO0_34.writes (Elt F) VO0_34.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 x0 x1 x2 x3 x4 x5 x6 x7 x8 x9 x10 x11 x12 x13 x14 x15 x16 x17 x18 x19 x20 x21 x22 x23 x24 x25 x26 x27 x28 x29 x30 x31 x32 xt0 xt1).2.1)

end

/-! ## What the outputs hold after each point -/

/-- What the outputs' staging buffers hold after the body at point `t` (as a tuple, in window order): the run's contents at
    the point's memrefs and input blocks. -/
def outsAt0 (hO : Ok m) (c : Dev nD) (t : Fin (cfgM m hO).N) : Vec F S1x16x16x128 .f32 × Vec F S1x16x17x128 .f32 :=
  (out0_A_33 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (tbl m 0) (tbl m 1), out0_A_34 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (tbl m 0) (tbl m 1))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => (outsAt0 m hO c t).1
    | ⟨34, _⟩ => (outsAt0 m hO c t).2
    | ⟨_ + 35, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

section
variable (hO : Ok m) (c : Dev nD) (t : Fin (cfgM m hO).N)

/-- What the body leaves, window by window (the proof data's `match` reduced by `dsimp`). -/
theorem after0_0 : (dats m hO 0 c).after 0 t = iblk m hO c 0 t := by dsimp only [dats]; try rfl
theorem after0_1 : (dats m hO 0 c).after 1 t = iblk m hO c 1 t := by dsimp only [dats]; try rfl
theorem after0_2 : (dats m hO 0 c).after 2 t = iblk m hO c 2 t := by dsimp only [dats]; try rfl
theorem after0_3 : (dats m hO 0 c).after 3 t = iblk m hO c 3 t := by dsimp only [dats]; try rfl
theorem after0_4 : (dats m hO 0 c).after 4 t = iblk m hO c 4 t := by dsimp only [dats]; try rfl
theorem after0_5 : (dats m hO 0 c).after 5 t = iblk m hO c 5 t := by dsimp only [dats]; try rfl
theorem after0_6 : (dats m hO 0 c).after 6 t = iblk m hO c 6 t := by dsimp only [dats]; try rfl
theorem after0_7 : (dats m hO 0 c).after 7 t = iblk m hO c 7 t := by dsimp only [dats]; try rfl
theorem after0_8 : (dats m hO 0 c).after 8 t = iblk m hO c 8 t := by dsimp only [dats]; try rfl
theorem after0_9 : (dats m hO 0 c).after 9 t = iblk m hO c 9 t := by dsimp only [dats]; try rfl
theorem after0_10 : (dats m hO 0 c).after 10 t = iblk m hO c 10 t := by dsimp only [dats]; try rfl
theorem after0_11 : (dats m hO 0 c).after 11 t = iblk m hO c 11 t := by dsimp only [dats]; try rfl
theorem after0_12 : (dats m hO 0 c).after 12 t = iblk m hO c 12 t := by dsimp only [dats]; try rfl
theorem after0_13 : (dats m hO 0 c).after 13 t = iblk m hO c 13 t := by dsimp only [dats]; try rfl
theorem after0_14 : (dats m hO 0 c).after 14 t = iblk m hO c 14 t := by dsimp only [dats]; try rfl
theorem after0_15 : (dats m hO 0 c).after 15 t = iblk m hO c 15 t := by dsimp only [dats]; try rfl
theorem after0_16 : (dats m hO 0 c).after 16 t = iblk m hO c 16 t := by dsimp only [dats]; try rfl
theorem after0_17 : (dats m hO 0 c).after 17 t = iblk m hO c 17 t := by dsimp only [dats]; try rfl
theorem after0_18 : (dats m hO 0 c).after 18 t = iblk m hO c 18 t := by dsimp only [dats]; try rfl
theorem after0_19 : (dats m hO 0 c).after 19 t = iblk m hO c 19 t := by dsimp only [dats]; try rfl
theorem after0_20 : (dats m hO 0 c).after 20 t = iblk m hO c 20 t := by dsimp only [dats]; try rfl
theorem after0_21 : (dats m hO 0 c).after 21 t = iblk m hO c 21 t := by dsimp only [dats]; try rfl
theorem after0_22 : (dats m hO 0 c).after 22 t = iblk m hO c 22 t := by dsimp only [dats]; try rfl
theorem after0_23 : (dats m hO 0 c).after 23 t = iblk m hO c 23 t := by dsimp only [dats]; try rfl
theorem after0_24 : (dats m hO 0 c).after 24 t = iblk m hO c 24 t := by dsimp only [dats]; try rfl
theorem after0_25 : (dats m hO 0 c).after 25 t = iblk m hO c 25 t := by dsimp only [dats]; try rfl
theorem after0_26 : (dats m hO 0 c).after 26 t = iblk m hO c 26 t := by dsimp only [dats]; try rfl
theorem after0_27 : (dats m hO 0 c).after 27 t = iblk m hO c 27 t := by dsimp only [dats]; try rfl
theorem after0_28 : (dats m hO 0 c).after 28 t = iblk m hO c 28 t := by dsimp only [dats]; try rfl
theorem after0_29 : (dats m hO 0 c).after 29 t = iblk m hO c 29 t := by dsimp only [dats]; try rfl
theorem after0_30 : (dats m hO 0 c).after 30 t = iblk m hO c 30 t := by dsimp only [dats]; try rfl
theorem after0_31 : (dats m hO 0 c).after 31 t = iblk m hO c 31 t := by dsimp only [dats]; try rfl
theorem after0_32 : (dats m hO 0 c).after 32 t = iblk m hO c 32 t := by dsimp only [dats]; try rfl
theorem after0_33 : (dats m hO 0 c).after 33 t = (outsAt0 m hO c t).1 := by dsimp only [dats]; try rfl
theorem after0_34 : (dats m hO 0 c).after 34 t = (outsAt0 m hO c t).2 := by dsimp only [dats]; try rfl

/-- Each input's current staging buffer holds its block at every point, fetched there or not (`beforeK_W_of`). -/
theorem before0_0 (d) : (dats m hO 0 c).before 0 t d = iblk m hO c 0 t :=
  before0_0_of m hO (dats m hO 0 c) (A_eq m hO c 0) (after0_0 m hO c) t d
theorem before0_1 (d) : (dats m hO 0 c).before 1 t d = iblk m hO c 1 t :=
  before0_1_of m hO (dats m hO 0 c) (A_eq m hO c 1) (after0_1 m hO c) t d
theorem before0_2 (d) : (dats m hO 0 c).before 2 t d = iblk m hO c 2 t :=
  before0_2_of m hO (dats m hO 0 c) (A_eq m hO c 2) (after0_2 m hO c) t d
theorem before0_3 (d) : (dats m hO 0 c).before 3 t d = iblk m hO c 3 t :=
  before0_3_of m hO (dats m hO 0 c) (A_eq m hO c 3) (after0_3 m hO c) t d
theorem before0_4 (d) : (dats m hO 0 c).before 4 t d = iblk m hO c 4 t :=
  before0_4_of m hO (dats m hO 0 c) (A_eq m hO c 4) (after0_4 m hO c) t d
theorem before0_5 (d) : (dats m hO 0 c).before 5 t d = iblk m hO c 5 t :=
  before0_5_of m hO (dats m hO 0 c) (A_eq m hO c 5) (after0_5 m hO c) t d
theorem before0_6 (d) : (dats m hO 0 c).before 6 t d = iblk m hO c 6 t :=
  before0_6_of m hO (dats m hO 0 c) (A_eq m hO c 6) (after0_6 m hO c) t d
theorem before0_7 (d) : (dats m hO 0 c).before 7 t d = iblk m hO c 7 t :=
  before0_7_of m hO (dats m hO 0 c) (A_eq m hO c 7) (after0_7 m hO c) t d
theorem before0_8 (d) : (dats m hO 0 c).before 8 t d = iblk m hO c 8 t :=
  before0_8_of m hO (dats m hO 0 c) (A_eq m hO c 8) (after0_8 m hO c) t d
theorem before0_9 (d) : (dats m hO 0 c).before 9 t d = iblk m hO c 9 t :=
  before0_9_of m hO (dats m hO 0 c) (A_eq m hO c 9) (after0_9 m hO c) t d
theorem before0_10 (d) : (dats m hO 0 c).before 10 t d = iblk m hO c 10 t :=
  before0_10_of m hO (dats m hO 0 c) (A_eq m hO c 10) (after0_10 m hO c) t d
theorem before0_11 (d) : (dats m hO 0 c).before 11 t d = iblk m hO c 11 t :=
  before0_11_of m hO (dats m hO 0 c) (A_eq m hO c 11) (after0_11 m hO c) t d
theorem before0_12 (d) : (dats m hO 0 c).before 12 t d = iblk m hO c 12 t :=
  before0_12_of m hO (dats m hO 0 c) (A_eq m hO c 12) (after0_12 m hO c) t d
theorem before0_13 (d) : (dats m hO 0 c).before 13 t d = iblk m hO c 13 t :=
  before0_13_of m hO (dats m hO 0 c) (A_eq m hO c 13) (after0_13 m hO c) t d
theorem before0_14 (d) : (dats m hO 0 c).before 14 t d = iblk m hO c 14 t :=
  before0_14_of m hO (dats m hO 0 c) (A_eq m hO c 14) (after0_14 m hO c) t d
theorem before0_15 (d) : (dats m hO 0 c).before 15 t d = iblk m hO c 15 t :=
  before0_15_of m hO (dats m hO 0 c) (A_eq m hO c 15) (after0_15 m hO c) t d
theorem before0_16 (d) : (dats m hO 0 c).before 16 t d = iblk m hO c 16 t :=
  before0_16_of m hO (dats m hO 0 c) (A_eq m hO c 16) (after0_16 m hO c) t d
theorem before0_17 (d) : (dats m hO 0 c).before 17 t d = iblk m hO c 17 t :=
  before0_17_of m hO (dats m hO 0 c) (A_eq m hO c 17) (after0_17 m hO c) t d
theorem before0_18 (d) : (dats m hO 0 c).before 18 t d = iblk m hO c 18 t :=
  before0_18_of m hO (dats m hO 0 c) (A_eq m hO c 18) (after0_18 m hO c) t d
theorem before0_19 (d) : (dats m hO 0 c).before 19 t d = iblk m hO c 19 t :=
  before0_19_of m hO (dats m hO 0 c) (A_eq m hO c 19) (after0_19 m hO c) t d
theorem before0_20 (d) : (dats m hO 0 c).before 20 t d = iblk m hO c 20 t :=
  before0_20_of m hO (dats m hO 0 c) (A_eq m hO c 20) (after0_20 m hO c) t d
theorem before0_21 (d) : (dats m hO 0 c).before 21 t d = iblk m hO c 21 t :=
  before0_21_of m hO (dats m hO 0 c) (A_eq m hO c 21) (after0_21 m hO c) t d
theorem before0_22 (d) : (dats m hO 0 c).before 22 t d = iblk m hO c 22 t :=
  before0_22_of m hO (dats m hO 0 c) (A_eq m hO c 22) (after0_22 m hO c) t d
theorem before0_23 (d) : (dats m hO 0 c).before 23 t d = iblk m hO c 23 t :=
  before0_23_of m hO (dats m hO 0 c) (A_eq m hO c 23) (after0_23 m hO c) t d
theorem before0_24 (d) : (dats m hO 0 c).before 24 t d = iblk m hO c 24 t :=
  before0_24_of m hO (dats m hO 0 c) (A_eq m hO c 24) (after0_24 m hO c) t d
theorem before0_25 (d) : (dats m hO 0 c).before 25 t d = iblk m hO c 25 t :=
  before0_25_of m hO (dats m hO 0 c) (A_eq m hO c 25) (after0_25 m hO c) t d
theorem before0_26 (d) : (dats m hO 0 c).before 26 t d = iblk m hO c 26 t :=
  before0_26_of m hO (dats m hO 0 c) (A_eq m hO c 26) (after0_26 m hO c) t d
theorem before0_27 (d) : (dats m hO 0 c).before 27 t d = iblk m hO c 27 t :=
  before0_27_of m hO (dats m hO 0 c) (A_eq m hO c 27) (after0_27 m hO c) t d
theorem before0_28 (d) : (dats m hO 0 c).before 28 t d = iblk m hO c 28 t :=
  before0_28_of m hO (dats m hO 0 c) (A_eq m hO c 28) (after0_28 m hO c) t d
theorem before0_29 (d) : (dats m hO 0 c).before 29 t d = iblk m hO c 29 t :=
  before0_29_of m hO (dats m hO 0 c) (A_eq m hO c 29) (after0_29 m hO c) t d
theorem before0_30 (d) : (dats m hO 0 c).before 30 t d = iblk m hO c 30 t :=
  before0_30_of m hO (dats m hO 0 c) (A_eq m hO c 30) (after0_30 m hO c) t d
theorem before0_31 (d) : (dats m hO 0 c).before 31 t d = iblk m hO c 31 t :=
  before0_31_of m hO (dats m hO 0 c) (A_eq m hO c 31) (after0_31 m hO c) t d
theorem before0_32 (d) : (dats m hO 0 c).before 32 t d = iblk m hO c 32 t :=
  before0_32_of m hO (dats m hO 0 c) (A_eq m hO c 32) (after0_32 m hO c) t d

end

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t)
    ∗ owns (c : Thread nD τ) (ms0_28 m hO t) fullShare ((dats m hO 0 c).after 28 t)
    ∗ owns (c : Thread nD τ) (ms0_29 m hO t) fullShare ((dats m hO 0 c).after 29 t)
    ∗ owns (c : Thread nD τ) (ms0_30 m hO t) fullShare ((dats m hO 0 c).after 30 t)
    ∗ owns (c : Thread nD τ) (ms0_31 m hO t) fullShare ((dats m hO 0 c).after 31 t)
    ∗ owns (c : Thread nD τ) (ms0_32 m hO t) fullShare ((dats m hO 0 c).after 32 t)
    ∗ owns (c : Thread nD τ) (ms0_33 m hO t) fullShare ((dats m hO 0 c).after 33 t)
    ∗ owns (c : Thread nD τ) (ms0_34 m hO t) fullShare ((dats m hO 0 c).after 34 t))

set_option maxHeartbeats 3200000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34]
  rw [show (dats m hO 0 c).Φ t.castSucc = iprop(Pipeline.ΦA spec0 c ∗ Pipeline.ΦT pre0 (tbl m) c) from rfl, PhiT0_eq]
  unfold outsAt0
  unfold out0_A_33 out0_A_34; (try dsimp only)
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (tbl m 0) (tbl m 1)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexists _; iexact H33
  isplitl [H34]; · iexists _; iexact H34
  isplitl [HT0]; · iexact HT0
  isplitl [HT1]; · iexact HT1
  iintro ⟨H0, H1, H2, H3, H4, H5, H6, H7, H8, H9, H10, H11, H12, H13, H14, H15, H16, H17, H18, H19, H20, H21, H22, H23, H24, H25, H26, H27, H28, H29, H30, H31, H32, ⟨%e33, H33⟩, ⟨%e34, H34⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]
  · unfold owns; iexists _; isplitr
    swap; · iexact H33
    ipureintro; exact View.read_writes_of_cover _ _ _ _ _ (cover0_A_33 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H34
  ipureintro; exact View.read_writes_of_cover _ _ _ _ _ (cover0_A_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 6400000 in
/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
/-- `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- From any memory whose tables name blocks inside the arrays the program runs, its five arguments end unchanged and every
    semaphore counter is zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.MergeIdeal.Attention

end
-- ==== Proof.MergePayloads.lean ====
/-
  What the merge kernel writes for one slot, element by element, over the extended reals: the values, the fresh key and the flag.
-/
module

public import proofs.«01_k».proof.Proof.Gen.MergeIdeal.Skeleton
public import Idealize.ShloMosaic.Lib.Pointwise

@[expose] public section

noncomputable section

namespace Cert.MergeIdeal.Attention

open Cert.MergeIdeal Cert.MergeIdeal.Gen Idealize.ShloMosaic

/-- The values of slot `t`: the new row where the bit is set, the block's own otherwise. -/
def valueSlot (t : Fin 16) (hs : S16x16x128.Slices ![0, t.val, 0] S16x1x128) (C : Vec Ideal S1x16x16x128 .f32) (bit : BitVec 1)
    (X : Vec Ideal S1x16x128 .f32) : FVec Ideal S1x16x1x128 .f32 :=
  shapeCast S1x16x1x128 (Scalar.select bit (shapeCast S16x128 X shapeCasts_S1x16x128_S16x128)
    (shapeCast S16x128 (extractStridedSlice S16x1x128 ![0, t.val, 0] (shapeCast S16x16x128 C shapeCasts_S1x16x16x128_S16x16x128) hs) shapeCasts_S16x1x128_S16x128))
    shapeCasts_S16x128_S1x16x1x128

theorem valueSlot_apply (t : Fin 16) (hs : S16x16x128.Slices ![0, t.val, 0] S16x1x128) (C : Vec Ideal S1x16x16x128 .f32) (bit : BitVec 1)
    (X : Vec Ideal S1x16x128 .f32) (h : Fin 16) (d : Fin 128) :
    valueSlot t hs C bit X (ix4 0 h 0 d) = Scalar.select bit (X (ix3 0 h d)) (C (ix4 0 h t d)) := by
  unfold valueSlot Scalar.select
  by_cases hb : bit = 1
  · simp only [if_pos hb]
    pointwise
  · simp only [if_neg hb]
    refine (shapeCast_apply _ _ _ (ix2 h d) ?_).trans ((shapeCast_apply _ _ _ (ix3 h 0 d) ?_).trans
      ((extractStridedSlice_apply _ _ _ _ (ix3 h t d) fun a => ?_).trans (shapeCast_apply _ _ _ (ix4 0 h t d) ?_)))
    · rw [Shape.rowMajor_val_two, Shape.rowMajor_val_four]
      show h.val * 128 + d.val = ((0 * 16 + h.val) * 1 + 0) * 128 + d.val
      omega
    · rw [Shape.rowMajor_val_two, Shape.rowMajor_val_three]
      show (h.val * 1 + 0) * 128 + d.val = h.val * 128 + d.val
      omega
    · match a with
      | ⟨0, _⟩ => exact (Nat.zero_add _).symm
      | ⟨1, _⟩ => rfl
      | ⟨2, _⟩ => exact (Nat.zero_add _).symm
    · rw [Shape.rowMajor_val_four, Shape.rowMajor_val_three]
      show ((0 * 16 + h.val) * 16 + t.val) * 128 + d.val = (h.val * 16 + t.val) * 128 + d.val
      omega

/-- The fresh key of a slot: the new row. -/
def keySlot (X : Vec Ideal S1x16x128 .f32) : FVec Ideal S1x1x16x128 .f32 :=
  shapeCast S1x1x16x128 (shapeCast S16x128 X shapeCasts_S1x16x128_S16x128) shapeCasts_S16x128_S1x1x16x128

theorem keySlot_apply (X : Vec Ideal S1x16x128 .f32) (h : Fin 16) (d : Fin 128) : keySlot X (ix4 0 0 h d) = X (ix3 0 h d) := by
  pointwise [keySlot]

/-- The flag of a slot: one where the bit is set, zero otherwise. -/
def flagSlot (bit : BitVec 1) : FVec Ideal S1x1x1x128 .f32 :=
  shapeCast S1x1x1x128 (mulf (broadcast S1x128 (Scalar.select bit (Scalar.ofBits .f32 0x3F800000#32) (Scalar.ofBits .f32 0x00000000#32)))
    (broadcast S1x128 (Scalar.ofBits .f32 0x3F800000#32))) shapeCasts_S1x128_S1x1x1x128

theorem flagSlot_apply (bit : BitVec 1) (d : Fin 128) :
    flagSlot bit (ix4 0 0 0 d) = Scalar.select bit (Scalar.ofBits (F := Ideal) .f32 0x3F800000#32) (Scalar.ofBits (F := Ideal) .f32 0x00000000#32) := by
  pointwise [flagSlot]

end Cert.MergeIdeal.Attention

end
-- ==== Proof.MergeBlock.lean ====
/-
  The block of merged values and the block of fresh keys that one point of the idealized merge program leaves.
-/
module

public import proofs.«01_k».proof.Proof.MergeIdealFrame
public import proofs.«01_k».proof.Proof.MergePayloads
public import Idealize.ShloMosaic.Lib.Pipeline.ValueKit

@[expose] public section

noncomputable section

namespace Cert.MergeIdeal.Attention

open Cert.MergeIdeal Cert.MergeIdeal.Gen Idealize.ShloMosaic Idealize.ShloMosaic.TcCoe

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The owner's word the body reads for slot `t`. -/
def ownerWord (c : Dev nD) (i : grid0.Coords) (xt1 : TbBuf0 (F := Ideal) c tbM0_1) (t : Fin 16) : BitVec 32 :=
  tbM0_1.view.readAt (Elt Ideal) (Rect.unit (s := S8192) (k0_off1 i (BitVec.ofNat 32 t.val)) S1.size (k0_off1_inb i t)).toLoadRect xt1
    (Shape.Idx.first (numel1_S1.symm ▸ Nat.one_pos))

/-- The block of values: slot by slot the new row where the owner is at least 0, the block's own otherwise. -/
def blockValues (w : Fin 16 → BitVec 32) (C : Vec Ideal S1x16x16x128 .f32) (X : Fin 16 → Vec Ideal S1x16x128 .f32) : Vec Ideal S1x16x16x128 .f32 :=
  fun y => Scalar.select (IntOp.cmpi .sge (w (y 2)) 0#32) (X (y 2) (ix3 0 (y 1) (y 3))) (C y)

/-- The block of fresh keys: slot by slot the new row, and in a seventeenth row whether the owner is at least 0. -/
def blockKeys (w : Fin 16 → BitVec 32) (X : Fin 16 → Vec Ideal S1x16x128 .f32) : Vec Ideal S1x16x17x128 .f32 := fun y =>
  if h : (y 2).val < 16 then X (y 1) (ix3 0 ⟨(y 2).val, h⟩ (y 3))
  else Scalar.select (IntOp.cmpi .sge (w (y 1)) 0#32) (Scalar.ofBits (F := Ideal) .f32 0x3F800000#32) (Scalar.ofBits (F := Ideal) .f32 0x00000000#32)

theorem blockKeys_key (w : Fin 16 → BitVec 32) (X : Fin 16 → Vec Ideal S1x16x128 .f32) (t h : Fin 16) (hh : h.val < 17) (d : Fin 128) :
    blockKeys w X (ix4 0 t ⟨h.val, hh⟩ d) = X t (ix3 0 h d) := by
  unfold blockKeys
  exact dif_pos h.isLt

theorem blockKeys_flag (w : Fin 16 → BitVec 32) (X : Fin 16 → Vec Ideal S1x16x128 .f32) (t : Fin 16) (d : Fin 128) :
    blockKeys w X (ix4 0 t 16 d)
      = Scalar.select (IntOp.cmpi .sge (w t) 0#32) (Scalar.ofBits (F := Ideal) .f32 0x3F800000#32) (Scalar.ofBits (F := Ideal) .f32 0x00000000#32) := by
  unfold blockKeys
  exact dif_neg (Nat.lt_irrefl 16)

/-- A store of one slot's values agrees with the block of values. -/
theorem value_piece (w : Fin 16 → BitVec 32) (C : Vec Ideal S1x16x16x128 .f32) (X : Fin 16 → Vec Ideal S1x16x128 .f32) (t : Fin 16)
    (hs : S16x16x128.Slices ![0, t.val, 0] S16x1x128) (inb : ∀ a, (![0, 0, t.val, 0] : Fin 4 → Nat) a + S1x16x1x128.size a ≤ S1x16x16x128.size a)
    (x : S1x16x1x128.Idx) :
    valueSlot t hs C (IntOp.cmpi .sge (w t) 0#32) (X t) x = blockValues w C X ((Rect.unit (s := S1x16x16x128) ![0, 0, t.val, 0] S1x16x1x128.size inb).emb x) := by
  have x0 : (x 0).val < 1 := (x 0).isLt
  have x2 : (x 2).val < 1 := (x 2).isLt
  have e : x = ix4 0 (x 1) 0 (x 3) := funext fun a => Fin.ext (match a with
    | ⟨0, _⟩ => by show (x 0).val = 0; omega
    | ⟨1, _⟩ => rfl
    | ⟨2, _⟩ => by show (x 2).val = 0; omega
    | ⟨3, _⟩ => rfl)
  have e' : (Rect.unit (s := S1x16x16x128) ![0, 0, t.val, 0] S1x16x1x128.size inb).emb x = ix4 0 (x 1) t (x 3) := funext fun a => Fin.ext (match a with
    | ⟨0, _⟩ => by show 0 + 1 * (x 0).val = 0; omega
    | ⟨1, _⟩ => by show 0 + 1 * (x 1).val = (x 1).val; omega
    | ⟨2, _⟩ => by show t.val + 1 * (x 2).val = t.val; omega
    | ⟨3, _⟩ => by show 0 + 1 * (x 3).val = (x 3).val; omega)
  exact (congrArg (valueSlot t hs C _ (X t)) e).trans ((valueSlot_apply t hs C _ (X t) (x 1) (x 3)).trans (congrArg (blockValues w C X) e').symm)

/-- A store of one slot's fresh key agrees with the block of fresh keys. -/
theorem key_piece (w : Fin 16 → BitVec 32) (X : Fin 16 → Vec Ideal S1x16x128 .f32) (t : Fin 16)
    (inb : ∀ a, (![0, t.val, 0, 0] : Fin 4 → Nat) a + S1x1x16x128.size a ≤ S1x16x17x128.size a) (x : S1x1x16x128.Idx) :
    keySlot (X t) x = blockKeys w X ((Rect.unit (s := S1x16x17x128) ![0, t.val, 0, 0] S1x1x16x128.size inb).emb x) := by
  have x0 : (x 0).val < 1 := (x 0).isLt
  have x1 : (x 1).val < 1 := (x 1).isLt
  have x2 : (x 2).val < 16 := (x 2).isLt
  have e : x = ix4 0 0 (x 2) (x 3) := funext fun a => Fin.ext (match a with
    | ⟨0, _⟩ => by show (x 0).val = 0; omega
    | ⟨1, _⟩ => by show (x 1).val = 0; omega
    | ⟨2, _⟩ => rfl
    | ⟨3, _⟩ => rfl)
  have e' : (Rect.unit (s := S1x16x17x128) ![0, t.val, 0, 0] S1x1x16x128.size inb).emb x = ix4 0 t ⟨(x 2).val, by omega⟩ (x 3) := funext fun a => Fin.ext (match a with
    | ⟨0, _⟩ => by show 0 + 1 * (x 0).val = 0; omega
    | ⟨1, _⟩ => by show t.val + 1 * (x 1).val = t.val; omega
    | ⟨2, _⟩ => by show 0 + 1 * (x 2).val = (x 2).val; omega
    | ⟨3, _⟩ => by show 0 + 1 * (x 3).val = (x 3).val; omega)
  exact (congrArg (keySlot (X t)) e).trans (((keySlot_apply (X t) (x 2) (x 3)).trans (blockKeys_key w X t (x 2) (by omega) (x 3)).symm).trans (congrArg (blockKeys w X) e').symm)

/-- A store of one slot's flag agrees with the block of fresh keys. -/
theorem flag_piece (w : Fin 16 → BitVec 32) (X : Fin 16 → Vec Ideal S1x16x128 .f32) (t : Fin 16)
    (inb : ∀ a, (![0, t.val, 16, 0] : Fin 4 → Nat) a + S1x1x1x128.size a ≤ S1x16x17x128.size a) (x : S1x1x1x128.Idx) :
    flagSlot (IntOp.cmpi .sge (w t) 0#32) x = blockKeys w X ((Rect.unit (s := S1x16x17x128) ![0, t.val, 16, 0] S1x1x1x128.size inb).emb x) := by
  have x0 : (x 0).val < 1 := (x 0).isLt
  have x1 : (x 1).val < 1 := (x 1).isLt
  have x2 : (x 2).val < 1 := (x 2).isLt
  have e : x = ix4 0 0 0 (x 3) := funext fun a => Fin.ext (match a with
    | ⟨0, _⟩ => by show (x 0).val = 0; omega
    | ⟨1, _⟩ => by show (x 1).val = 0; omega
    | ⟨2, _⟩ => by show (x 2).val = 0; omega
    | ⟨3, _⟩ => rfl)
  have e' : (Rect.unit (s := S1x16x17x128) ![0, t.val, 16, 0] S1x1x1x128.size inb).emb x = ix4 0 t 16 (x 3) := funext fun a => Fin.ext (match a with
    | ⟨0, _⟩ => by show 0 + 1 * (x 0).val = 0; omega
    | ⟨1, _⟩ => by show t.val + 1 * (x 1).val = t.val; omega
    | ⟨2, _⟩ => by show 16 + 1 * (x 2).val = 16; omega
    | ⟨3, _⟩ => by show 0 + 1 * (x 3).val = (x 3).val; omega)
  exact (congrArg (flagSlot _) e).trans (((flagSlot_apply _ (x 3)).trans (blockKeys_flag w X t (x 3)).symm).trans (congrArg (blockKeys w X) e').symm)

variable (c : Dev nD) (i : grid0.Coords) (a3 : Memref sig .tc .vmem S1x16x16x128 .f32) (h3 : a3.IsWhole) (a4 : Memref sig .tc .vmem S1x16x128 .f32) (h4 : a4.IsWhole)
  (a5 : Memref sig .tc .vmem S1x16x128 .f32) (h5 : a5.IsWhole) (a6 : Memref sig .tc .vmem S1x16x128 .f32) (h6 : a6.IsWhole)
  (a7 : Memref sig .tc .vmem S1x16x128 .f32) (h7 : a7.IsWhole) (a8 : Memref sig .tc .vmem S1x16x128 .f32) (h8 : a8.IsWhole)
  (a9 : Memref sig .tc .vmem S1x16x128 .f32) (h9 : a9.IsWhole) (a10 : Memref sig .tc .vmem S1x16x128 .f32) (h10 : a10.IsWhole)
  (a11 : Memref sig .tc .vmem S1x16x128 .f32) (h11 : a11.IsWhole) (a12 : Memref sig .tc .vmem S1x16x128 .f32) (h12 : a12.IsWhole)
  (a13 : Memref sig .tc .vmem S1x16x128 .f32) (h13 : a13.IsWhole) (a14 : Memref sig .tc .vmem S1x16x128 .f32) (h14 : a14.IsWhole)
  (a15 : Memref sig .tc .vmem S1x16x128 .f32) (h15 : a15.IsWhole) (a16 : Memref sig .tc .vmem S1x16x128 .f32) (h16 : a16.IsWhole)
  (a17 : Memref sig .tc .vmem S1x16x128 .f32) (h17 : a17.IsWhole) (a18 : Memref sig .tc .vmem S1x16x128 .f32) (h18 : a18.IsWhole)
  (a19 : Memref sig .tc .vmem S1x16x128 .f32) (h19 : a19.IsWhole) (a20 : Memref sig .tc .vmem S1x16x128 .f32) (h20 : a20.IsWhole)
  (a21 : Memref sig .tc .vmem S1x16x128 .f32) (h21 : a21.IsWhole) (a22 : Memref sig .tc .vmem S1x16x128 .f32) (h22 : a22.IsWhole)
  (a23 : Memref sig .tc .vmem S1x16x128 .f32) (h23 : a23.IsWhole) (a24 : Memref sig .tc .vmem S1x16x128 .f32) (h24 : a24.IsWhole)
  (a25 : Memref sig .tc .vmem S1x16x128 .f32) (h25 : a25.IsWhole) (a26 : Memref sig .tc .vmem S1x16x128 .f32) (h26 : a26.IsWhole)
  (a27 : Memref sig .tc .vmem S1x16x128 .f32) (h27 : a27.IsWhole) (a28 : Memref sig .tc .vmem S1x16x128 .f32) (h28 : a28.IsWhole)
  (a29 : Memref sig .tc .vmem S1x16x128 .f32) (h29 : a29.IsWhole) (a30 : Memref sig .tc .vmem S1x16x128 .f32) (h30 : a30.IsWhole)
  (a31 : Memref sig .tc .vmem S1x16x128 .f32) (h31 : a31.IsWhole) (a32 : Memref sig .tc .vmem S1x16x128 .f32) (h32 : a32.IsWhole)
  (a33 : Memref sig .tc .vmem S1x16x128 .f32) (h33 : a33.IsWhole) (a34 : Memref sig .tc .vmem S1x16x128 .f32) (h34 : a34.IsWhole)
  (a35 : Memref sig .tc .vmem S1x16x128 .f32) (h35 : a35.IsWhole) (a36 : Memref sig .tc .vmem S1x16x16x128 .f32) (h36 : a36.IsWhole)
  (a37 : Memref sig .tc .vmem S1x16x17x128 .f32) (h37 : a37.IsWhole)
  (x0 : Vec Ideal S1x16x16x128 .f32) (x1 x2 x3 x4 x5 x6 x7 x8 x9 x10 x11 x12 x13 x14 x15 x16 x17 x18 x19 x20 x21 x22 x23 x24 x25 x26 x27 x28 x29 x30 x31 x32 : Vec Ideal S1x16x128 .f32)
  (xt0 : TbBuf0 (F := Ideal) c tbM0_0) (xt1 : TbBuf0 (F := Ideal) c tbM0_1)

set_option maxHeartbeats 6400000 in
/-- The block of values a point leaves. -/
theorem out_values : out0_A_33 c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 x0 x1 x2 x3 x4 x5 x6 x7 x8 x9 x10 x11 x12 x13 x14 x15 x16 x17 x18 x19 x20 x21 x22 x23 x24 x25 x26 x27 x28 x29 x30 x31 x32 xt0 xt1
    = blockValues (ownerWord c i xt1) x0 ![x17, x18, x19, x20, x21, x22, x23, x24, x25, x26, x27, x28, x29, x30, x31, x32] := by
  unfold out0_A_33
  rw [View.read_writes_eq_canon _ _ _ (cover0_A_33 c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 x0 x1 x2 x3 x4 x5 x6 x7 x8 x9 x10 x11 x12 x13 x14 x15 x16 x17 x18 x19 x20 x21 x22 x23 x24 x25 x26 x27 x28 x29 x30 x31 x32 xt0 xt1)]
  funext y
  refine View.canon_apply_of_pieces _ _ ?_ y ((cover0_A_33 c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 x0 x1 x2 x3 x4 x5 x6 x7 x8 x9 x10 x11 x12 x13 x14 x15 x16 x17 x18 x19 x20 x21 x22 x23 x24 x25 x26 x27 x28 x29 x30 x31 x32 xt0 xt1) y)
  unfold kernelRun0_A
  dsimp only
  sl_unfold_words
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread, h27.read_unread, h28.read_unread, h29.read_unread, h30.read_unread, h31.read_unread, h32.read_unread, h33.read_unread, h34.read_unread, h35.read_unread,
    View.ld_unit_zero (S := S1x16x128) hz3, View.ld_unit_zero (S := S1x16x16x128) hz4]
  refine List.forall_mem_cons.2 ⟨?_, ?_⟩
  · exact fun x => value_piece (ownerWord c i xt1) x0 ![x17, x18, x19, x20, x21, x22, x23, x24, x25, x26, x27, x28, x29, x30, x31, x32] 15 slices_S16x16x128_o0_15_0_S16x1x128 inb_S1x16x16x128_S1x16x1x128_0_0_15_0 x
  refine List.forall_mem_cons.2 ⟨?_, ?_⟩
  · exact fun x => value_piece (ownerWord c i xt1) x0 ![x17, x18, x19, x20, x21, x22, x23, x24, x25, x26, x27, x28, x29, x30, x31, x32] 14 slices_S16x16x128_o0_14_0_S16x1x128 inb_S1x16x16x128_S1x16x1x128_0_0_14_0 x
  refine List.forall_mem_cons.2 ⟨?_, ?_⟩
  · exact fun x => value_piece (ownerWord c i xt1) x0 ![x17, x18, x19, x20, x21, x22, x23, x24, x25, x26, x27, x28, x29, x30, x31, x32] 13 slices_S16x16x128_o0_13_0_S16x1x128 inb_S1x16x16x128_S1x16x1x128_0_0_13_0 x
  refine List.forall_mem_cons.2 ⟨?_, ?_⟩
  · exact fun x => value_piece (ownerWord c i xt1) x0 ![x17, x18, x19, x20, x21, x22, x23, x24, x25, x26, x27, x28, x29, x30, x31, x32] 12 slices_S16x16x128_o0_12_0_S16x1x128 inb_S1x16x16x128_S1x16x1x128_0_0_12_0 x
  refine List.forall_mem_cons.2 ⟨?_, ?_⟩
  · exact fun x => value_piece (ownerWord c i xt1) x0 ![x17, x18, x19, x20, x21, x22, x23, x24, x25, x26, x27, x28, x29, x30, x31, x32] 11 slices_S16x16x128_o0_11_0_S16x1x128 inb_S1x16x16x128_S1x16x1x128_0_0_11_0 x
  refine List.forall_mem_cons.2 ⟨?_, ?_⟩
  · exact fun x => value_piece (ownerWord c i xt1) x0 ![x17, x18, x19, x20, x21, x22, x23, x24, x25, x26, x27, x28, x29, x30, x31, x32] 10 slices_S16x16x128_o0_10_0_S16x1x128 inb_S1x16x16x128_S1x16x1x128_0_0_10_0 x
  refine List.forall_mem_cons.2 ⟨?_, ?_⟩
  · exact fun x => value_piece (ownerWord c i xt1) x0 ![x17, x18, x19, x20, x21, x22, x23, x24, x25, x26, x27, x28, x29, x30, x31, x32] 9 slices_S16x16x128_o0_9_0_S16x1x128 inb_S1x16x16x128_S1x16x1x128_0_0_9_0 x
  refine List.forall_mem_cons.2 ⟨?_, ?_⟩
  · exact fun x => value_piece (ownerWord c i xt1) x0 ![x17, x18, x19, x20, x21, x22, x23, x24, x25, x26, x27, x28, x29, x30, x31, x32] 8 slices_S16x16x128_o0_8_0_S16x1x128 inb_S1x16x16x128_S1x16x1x128_0_0_8_0 x
  refine List.forall_mem_cons.2 ⟨?_, ?_⟩
  · exact fun x => value_piece (ownerWord c i xt1) x0 ![x17, x18, x19, x20, x21, x22, x23, x24, x25, x26, x27, x28, x29, x30, x31, x32] 7 slices_S16x16x128_o0_7_0_S16x1x128 inb_S1x16x16x128_S1x16x1x128_0_0_7_0 x
  refine List.forall_mem_cons.2 ⟨?_, ?_⟩
  · exact fun x => value_piece (ownerWord c i xt1) x0 ![x17, x18, x19, x20, x21, x22, x23, x24, x25, x26, x27, x28, x29, x30, x31, x32] 6 slices_S16x16x128_o0_6_0_S16x1x128 inb_S1x16x16x128_S1x16x1x128_0_0_6_0 x
  refine List.forall_mem_cons.2 ⟨?_, ?_⟩
  · exact fun x => value_piece (ownerWord c i xt1) x0 ![x17, x18, x19, x20, x21, x22, x23, x24, x25, x26, x27, x28, x29, x30, x31, x32] 5 slices_S16x16x128_o0_5_0_S16x1x128 inb_S1x16x16x128_S1x16x1x128_0_0_5_0 x
  refine List.forall_mem_cons.2 ⟨?_, ?_⟩
  · exact fun x => value_piece (ownerWord c i xt1) x0 ![x17, x18, x19, x20, x21, x22, x23, x24, x25, x26, x27, x28, x29, x30, x31, x32] 4 slices_S16x16x128_o0_4_0_S16x1x128 inb_S1x16x16x128_S1x16x1x128_0_0_4_0 x
  refine List.forall_mem_cons.2 ⟨?_, ?_⟩
  · exact fun x => value_piece (ownerWord c i xt1) x0 ![x17, x18, x19, x20, x21, x22, x23, x24, x25, x26, x27, x28, x29, x30, x31, x32] 3 slices_S16x16x128_o0_3_0_S16x1x128 inb_S1x16x16x128_S1x16x1x128_0_0_3_0 x
  refine List.forall_mem_cons.2 ⟨?_, ?_⟩
  · exact fun x => value_piece (ownerWord c i xt1) x0 ![x17, x18, x19, x20, x21, x22, x23, x24, x25, x26, x27, x28, x29, x30, x31, x32] 2 slices_S16x16x128_o0_2_0_S16x1x128 inb_S1x16x16x128_S1x16x1x128_0_0_2_0 x
  refine List.forall_mem_cons.2 ⟨?_, ?_⟩
  · exact fun x => value_piece (ownerWord c i xt1) x0 ![x17, x18, x19, x20, x21, x22, x23, x24, x25, x26, x27, x28, x29, x30, x31, x32] 1 slices_S16x16x128_o0_1_0_S16x1x128 inb_S1x16x16x128_S1x16x1x128_0_0_1_0 x
  refine List.forall_mem_cons.2 ⟨?_, ?_⟩
  · exact fun x => value_piece (ownerWord c i xt1) x0 ![x17, x18, x19, x20, x21, x22, x23, x24, x25, x26, x27, x28, x29, x30, x31, x32] 0 slices_S16x16x128_o0_0_0_S16x1x128 inb_S1x16x16x128_S1x16x1x128_0_0_0_0 x
  exact fun p hp => absurd hp List.not_mem_nil

set_option maxHeartbeats 6400000 in
/-- The block of fresh keys a point leaves. -/
theorem out_keys : out0_A_34 c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 x0 x1 x2 x3 x4 x5 x6 x7 x8 x9 x10 x11 x12 x13 x14 x15 x16 x17 x18 x19 x20 x21 x22 x23 x24 x25 x26 x27 x28 x29 x30 x31 x32 xt0 xt1
    = blockKeys (ownerWord c i xt1) ![x1, x2, x3, x4, x5, x6, x7, x8, x9, x10, x11, x12, x13, x14, x15, x16] := by
  unfold out0_A_34
  rw [View.read_writes_eq_canon _ _ _ (cover0_A_34 c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 x0 x1 x2 x3 x4 x5 x6 x7 x8 x9 x10 x11 x12 x13 x14 x15 x16 x17 x18 x19 x20 x21 x22 x23 x24 x25 x26 x27 x28 x29 x30 x31 x32 xt0 xt1)]
  funext y
  refine View.canon_apply_of_pieces _ _ ?_ y ((cover0_A_34 c i a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 x0 x1 x2 x3 x4 x5 x6 x7 x8 x9 x10 x11 x12 x13 x14 x15 x16 x17 x18 x19 x20 x21 x22 x23 x24 x25 x26 x27 x28 x29 x30 x31 x32 xt0 xt1) y)
  unfold kernelRun0_A
  dsimp only
  sl_unfold_words
  simp only [View.readAt_eq_ld, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, h25.read_unread, h26.read_unread, h27.read_unread, h28.read_unread, h29.read_unread, h30.read_unread, h31.read_unread, h32.read_unread, h33.read_unread, h34.read_unread, h35.read_unread,
    View.ld_unit_zero (S := S1x16x128) hz3, View.ld_unit_zero (S := S1x16x16x128) hz4]
  refine List.forall_mem_cons.2 ⟨?_, ?_⟩
  · exact fun x => flag_piece (ownerWord c i xt1) ![x1, x2, x3, x4, x5, x6, x7, x8, x9, x10, x11, x12, x13, x14, x15, x16] 15 inb_S1x16x17x128_S1x1x1x128_0_15_16_0 x
  refine List.forall_mem_cons.2 ⟨?_, ?_⟩
  · exact fun x => key_piece (ownerWord c i xt1) ![x1, x2, x3, x4, x5, x6, x7, x8, x9, x10, x11, x12, x13, x14, x15, x16] 15 inb_S1x16x17x128_S1x1x16x128_0_15_0_0 x
  refine List.forall_mem_cons.2 ⟨?_, ?_⟩
  · exact fun x => flag_piece (ownerWord c i xt1) ![x1, x2, x3, x4, x5, x6, x7, x8, x9, x10, x11, x12, x13, x14, x15, x16] 14 inb_S1x16x17x128_S1x1x1x128_0_14_16_0 x
  refine List.forall_mem_cons.2 ⟨?_, ?_⟩
  · exact fun x => key_piece (ownerWord c i xt1) ![x1, x2, x3, x4, x5, x6, x7, x8, x9, x10, x11, x12, x13, x14, x15, x16] 14 inb_S1x16x17x128_S1x1x16x128_0_14_0_0 x
  refine List.forall_mem_cons.2 ⟨?_, ?_⟩
  · exact fun x => flag_piece (ownerWord c i xt1) ![x1, x2, x3, x4, x5, x6, x7, x8, x9, x10, x11, x12, x13, x14, x15, x16] 13 inb_S1x16x17x128_S1x1x1x128_0_13_16_0 x
  refine List.forall_mem_cons.2 ⟨?_, ?_⟩
  · exact fun x => key_piece (ownerWord c i xt1) ![x1, x2, x3, x4, x5, x6, x7, x8, x9, x10, x11, x12, x13, x14, x15, x16] 13 inb_S1x16x17x128_S1x1x16x128_0_13_0_0 x
  refine List.forall_mem_cons.2 ⟨?_, ?_⟩
  · exact fun x => flag_piece (ownerWord c i xt1) ![x1, x2, x3, x4, x5, x6, x7, x8, x9, x10, x11, x12, x13, x14, x15, x16] 12 inb_S1x16x17x128_S1x1x1x128_0_12_16_0 x
  refine List.forall_mem_cons.2 ⟨?_, ?_⟩
  · exact fun x => key_piece (ownerWord c i xt1) ![x1, x2, x3, x4, x5, x6, x7, x8, x9, x10, x11, x12, x13, x14, x15, x16] 12 inb_S1x16x17x128_S1x1x16x128_0_12_0_0 x
  refine List.forall_mem_cons.2 ⟨?_, ?_⟩
  · exact fun x => flag_piece (ownerWord c i xt1) ![x1, x2, x3, x4, x5, x6, x7, x8, x9, x10, x11, x12, x13, x14, x15, x16] 11 inb_S1x16x17x128_S1x1x1x128_0_11_16_0 x
  refine List.forall_mem_cons.2 ⟨?_, ?_⟩
  · exact fun x => key_piece (ownerWord c i xt1) ![x1, x2, x3, x4, x5, x6, x7, x8, x9, x10, x11, x12, x13, x14, x15, x16] 11 inb_S1x16x17x128_S1x1x16x128_0_11_0_0 x
  refine List.forall_mem_cons.2 ⟨?_, ?_⟩
  · exact fun x => flag_piece (ownerWord c i xt1) ![x1, x2, x3, x4, x5, x6, x7, x8, x9, x10, x11, x12, x13, x14, x15, x16] 10 inb_S1x16x17x128_S1x1x1x128_0_10_16_0 x
  refine List.forall_mem_cons.2 ⟨?_, ?_⟩
  · exact fun x => key_piece (ownerWord c i xt1) ![x1, x2, x3, x4, x5, x6, x7, x8, x9, x10, x11, x12, x13, x14, x15, x16] 10 inb_S1x16x17x128_S1x1x16x128_0_10_0_0 x
  refine List.forall_mem_cons.2 ⟨?_, ?_⟩
  · exact fun x => flag_piece (ownerWord c i xt1) ![x1, x2, x3, x4, x5, x6, x7, x8, x9, x10, x11, x12, x13, x14, x15, x16] 9 inb_S1x16x17x128_S1x1x1x128_0_9_16_0 x
  refine List.forall_mem_cons.2 ⟨?_, ?_⟩
  · exact fun x => key_piece (ownerWord c i xt1) ![x1, x2, x3, x4, x5, x6, x7, x8, x9, x10, x11, x12, x13, x14, x15, x16] 9 inb_S1x16x17x128_S1x1x16x128_0_9_0_0 x
  refine List.forall_mem_cons.2 ⟨?_, ?_⟩
  · exact fun x => flag_piece (ownerWord c i xt1) ![x1, x2, x3, x4, x5, x6, x7, x8, x9, x10, x11, x12, x13, x14, x15, x16] 8 inb_S1x16x17x128_S1x1x1x128_0_8_16_0 x
  refine List.forall_mem_cons.2 ⟨?_, ?_⟩
  · exact fun x => key_piece (ownerWord c i xt1) ![x1, x2, x3, x4, x5, x6, x7, x8, x9, x10, x11, x12, x13, x14, x15, x16] 8 inb_S1x16x17x128_S1x1x16x128_0_8_0_0 x
  refine List.forall_mem_cons.2 ⟨?_, ?_⟩
  · exact fun x => flag_piece (ownerWord c i xt1) ![x1, x2, x3, x4, x5, x6, x7, x8, x9, x10, x11, x12, x13, x14, x15, x16] 7 inb_S1x16x17x128_S1x1x1x128_0_7_16_0 x
  refine List.forall_mem_cons.2 ⟨?_, ?_⟩
  · exact fun x => key_piece (ownerWord c i xt1) ![x1, x2, x3, x4, x5, x6, x7, x8, x9, x10, x11, x12, x13, x14, x15, x16] 7 inb_S1x16x17x128_S1x1x16x128_0_7_0_0 x
  refine List.forall_mem_cons.2 ⟨?_, ?_⟩
  · exact fun x => flag_piece (ownerWord c i xt1) ![x1, x2, x3, x4, x5, x6, x7, x8, x9, x10, x11, x12, x13, x14, x15, x16] 6 inb_S1x16x17x128_S1x1x1x128_0_6_16_0 x
  refine List.forall_mem_cons.2 ⟨?_, ?_⟩
  · exact fun x => key_piece (ownerWord c i xt1) ![x1, x2, x3, x4, x5, x6, x7, x8, x9, x10, x11, x12, x13, x14, x15, x16] 6 inb_S1x16x17x128_S1x1x16x128_0_6_0_0 x
  refine List.forall_mem_cons.2 ⟨?_, ?_⟩
  · exact fun x => flag_piece (ownerWord c i xt1) ![x1, x2, x3, x4, x5, x6, x7, x8, x9, x10, x11, x12, x13, x14, x15, x16] 5 inb_S1x16x17x128_S1x1x1x128_0_5_16_0 x
  refine List.forall_mem_cons.2 ⟨?_, ?_⟩
  · exact fun x => key_piece (ownerWord c i xt1) ![x1, x2, x3, x4, x5, x6, x7, x8, x9, x10, x11, x12, x13, x14, x15, x16] 5 inb_S1x16x17x128_S1x1x16x128_0_5_0_0 x
  refine List.forall_mem_cons.2 ⟨?_, ?_⟩
  · exact fun x => flag_piece (ownerWord c i xt1) ![x1, x2, x3, x4, x5, x6, x7, x8, x9, x10, x11, x12, x13, x14, x15, x16] 4 inb_S1x16x17x128_S1x1x1x128_0_4_16_0 x
  refine List.forall_mem_cons.2 ⟨?_, ?_⟩
  · exact fun x => key_piece (ownerWord c i xt1) ![x1, x2, x3, x4, x5, x6, x7, x8, x9, x10, x11, x12, x13, x14, x15, x16] 4 inb_S1x16x17x128_S1x1x16x128_0_4_0_0 x
  refine List.forall_mem_cons.2 ⟨?_, ?_⟩
  · exact fun x => flag_piece (ownerWord c i xt1) ![x1, x2, x3, x4, x5, x6, x7, x8, x9, x10, x11, x12, x13, x14, x15, x16] 3 inb_S1x16x17x128_S1x1x1x128_0_3_16_0 x
  refine List.forall_mem_cons.2 ⟨?_, ?_⟩
  · exact fun x => key_piece (ownerWord c i xt1) ![x1, x2, x3, x4, x5, x6, x7, x8, x9, x10, x11, x12, x13, x14, x15, x16] 3 inb_S1x16x17x128_S1x1x16x128_0_3_0_0 x
  refine List.forall_mem_cons.2 ⟨?_, ?_⟩
  · exact fun x => flag_piece (ownerWord c i xt1) ![x1, x2, x3, x4, x5, x6, x7, x8, x9, x10, x11, x12, x13, x14, x15, x16] 2 inb_S1x16x17x128_S1x1x1x128_0_2_16_0 x
  refine List.forall_mem_cons.2 ⟨?_, ?_⟩
  · exact fun x => key_piece (ownerWord c i xt1) ![x1, x2, x3, x4, x5, x6, x7, x8, x9, x10, x11, x12, x13, x14, x15, x16] 2 inb_S1x16x17x128_S1x1x16x128_0_2_0_0 x
  refine List.forall_mem_cons.2 ⟨?_, ?_⟩
  · exact fun x => flag_piece (ownerWord c i xt1) ![x1, x2, x3, x4, x5, x6, x7, x8, x9, x10, x11, x12, x13, x14, x15, x16] 1 inb_S1x16x17x128_S1x1x1x128_0_1_16_0 x
  refine List.forall_mem_cons.2 ⟨?_, ?_⟩
  · exact fun x => key_piece (ownerWord c i xt1) ![x1, x2, x3, x4, x5, x6, x7, x8, x9, x10, x11, x12, x13, x14, x15, x16] 1 inb_S1x16x17x128_S1x1x16x128_0_1_0_0 x
  refine List.forall_mem_cons.2 ⟨?_, ?_⟩
  · exact fun x => flag_piece (ownerWord c i xt1) ![x1, x2, x3, x4, x5, x6, x7, x8, x9, x10, x11, x12, x13, x14, x15, x16] 0 inb_S1x16x17x128_S1x1x1x128_0_0_16_0 x
  refine List.forall_mem_cons.2 ⟨?_, ?_⟩
  · exact fun x => key_piece (ownerWord c i xt1) ![x1, x2, x3, x4, x5, x6, x7, x8, x9, x10, x11, x12, x13, x14, x15, x16] 0 inb_S1x16x17x128_S1x1x16x128_0_0_0_0 x
  exact fun p hp => absurd hp List.not_mem_nil

end Cert.MergeIdeal.Attention

end
-- ==== Proof.MergeValue.lean ====
/-
  What the idealized merge program leaves in its two results: the merged values and the fresh keys of `Cert.Merge.Spec`, on this
  program's arguments.
-/
module

public import proofs.«01_k».proof.Proof.MergeBlock
public import proofs.«01_k».proof.Proof.MergeSpec
public import Idealize.ShloMosaic.Lib.Pipeline.Value

@[expose] public section

noncomputable section

namespace Cert.MergeIdeal.Attention

open Cert.MergeIdeal Cert.MergeIdeal.Gen Cert.Merge.Spec Idealize.ShloMosaic Idealize.ShloMosaic.TcCoe

variable (m : (ℓ : Loc nD τ sig) → Buf (Elt Ideal) ℓ) (c : Dev nD)

abbrev argK : Vec Ideal Tokens .f32 := m ((c : Thread nD τ).loc main_arg0)
abbrev argV : Vec Ideal Tokens .f32 := m ((c : Thread nD τ).loc main_arg1)
abbrev argC : Vec Ideal Cache .f32 := m ((c : Thread nD τ).loc main_arg2)
abbrev argO : IVec Slots 32 := m ((c : Thread nD τ).loc main_arg4)

/-! ## The owners' words -/

theorem coords_eq : ∀ t : Fin grid0.N, (grid0.coords t 0).val = t.val := by decide +kernel

/-- The block a point merges. -/
def block (t : Fin grid0.N) : Fin 512 := ⟨t.val, Nat.lt_of_lt_of_eq t.isLt N_0⟩

theorem off1_eq (t : Fin grid0.N) (s : Fin 16) : k0_off1 (grid0.coords t) (BitVec.ofNat 32 s.val) 0 = 16 * (block t).val + s.val := by
  have ht : t.val < 512 := Nat.lt_of_lt_of_eq t.isLt N_0
  have hs := s.isLt
  show (BitVec.ofNat 32 (grid0.coords t 0).val * 16#32 + BitVec.ofNat 32 s.val).toNat = 16 * t.val + s.val
  rw [coords_eq, BitVec.toNat_add, BitVec.toNat_mul, BitVec.toNat_ofNat, BitVec.toNat_ofNat, BitVec.toNat_ofNat]
  omega

/-- The owner an index map reads. -/
theorem tbl_word (t : Fin grid0.N) (s : Fin 16) :
    Pipeline.Prefetch.Contents.at (tbl m) 1 (Rect.unit (s := S8192) (k0_off1 (grid0.coords t) (BitVec.ofNat 32 s.val)) S1.size (k0_off1_inb (grid0.coords t) s)) numel1_S1
      = ownerAt (argO m c) (block t) s := by
  refine (congrFun (V_pre m c 1).symm _).trans ?_
  refine congrArg (argO m c) (funext fun a => Fin.ext ?_)
  match a with
  | ⟨0, _⟩ =>
    show k0_off1 (grid0.coords t) (BitVec.ofNat 32 s.val) 0 + 1 * 0 = 16 * (block t).val + s.val
    rw [off1_eq, Nat.mul_zero, Nat.add_zero]

/-- The owner the body reads. -/
theorem ownerWord_eq (t : Fin grid0.N) (s : Fin 16) : ownerWord c (grid0.coords t) (tbl m 1) s = ownerAt (argO m c) (block t) s := by
  refine (congrFun (V_pre m c 1).symm _).trans ?_
  refine congrArg (argO m c) (funext fun a => Fin.ext ?_)
  match a with
  | ⟨0, _⟩ =>
    show k0_off1 (grid0.coords t) (BitVec.ofNat 32 s.val) 0 + 1 * 0 = 16 * (block t).val + s.val
    rw [off1_eq, Nat.mul_zero, Nat.add_zero]

/-! ## What a point reads -/

variable (hlt : ∀ x : S8192.Idx, (IntOp.maxsi (argO m c x) 0#32).toNat < 4112)

include hlt in
/-- The row of tokens a slot's index map names is the row of the slot's owner. -/
theorem row_of (A : Vec Ideal Tokens .f32) (t : Fin grid0.N) (s : Fin 16) (e : Tokens.Idx) (h : Fin 16) (d : Fin 128)
    (h0 : (e 0).val = (IntOp.maxsi (Pipeline.Prefetch.Contents.at (tbl m) 1 (Rect.unit (s := S8192) (k0_off1 (grid0.coords t) (BitVec.ofNat 32 s.val)) S1.size
      (k0_off1_inb (grid0.coords t) s)) numel1_S1) 0#32).toNat * 1 + 1 * 0)
    (h1 : (e 1).val = 0 * 16 + 1 * h.val) (h2 : (e 2).val = 0 * 128 + 1 * d.val) :
    A e = A (ix3 (source (ownerAt (argO m c) (block t) s)) h d) := by
  rw [tbl_word m c t s] at h0
  have hw : (IntOp.maxsi (ownerAt (argO m c) (block t) s) 0#32).toNat < 4112 := hlt _
  refine congrArg A (funext fun a => Fin.ext ?_)
  match a with
  | ⟨0, _⟩ =>
    refine h0.trans ?_
    show _ = min (IntOp.maxsi (ownerAt (argO m c) (block t) s) 0#32).toNat 4111
    omega
  | ⟨1, _⟩ => exact h1.trans (by show 0 * 16 + 1 * h.val = h.val; omega)
  | ⟨2, _⟩ => exact h2.trans (by show 0 * 128 + 1 * d.val = d.val; omega)

variable (hO : Ok m)

/-- The block of the cache, the sixteen new rows of keys and the sixteen of values. -/
def cacheAt (t : Fin (cfgM m hO).N) : Vec Ideal S1x16x16x128 .f32 := iblk m hO c 0 t
def newKeys (t : Fin (cfgM m hO).N) : Fin 16 → Vec Ideal S1x16x128 .f32 := ![iblk m hO c 1 t, iblk m hO c 2 t, iblk m hO c 3 t, iblk m hO c 4 t, iblk m hO c 5 t, iblk m hO c 6 t, iblk m hO c 7 t, iblk m hO c 8 t, iblk m hO c 9 t, iblk m hO c 10 t, iblk m hO c 11 t, iblk m hO c 12 t, iblk m hO c 13 t, iblk m hO c 14 t, iblk m hO c 15 t, iblk m hO c 16 t]
def newValues (t : Fin (cfgM m hO).N) : Fin 16 → Vec Ideal S1x16x128 .f32 := ![iblk m hO c 17 t, iblk m hO c 18 t, iblk m hO c 19 t, iblk m hO c 20 t, iblk m hO c 21 t, iblk m hO c 22 t, iblk m hO c 23 t, iblk m hO c 24 t, iblk m hO c 25 t, iblk m hO c 26 t, iblk m hO c 27 t, iblk m hO c 28 t, iblk m hO c 29 t, iblk m hO c 30 t, iblk m hO c 31 t, iblk m hO c 32 t]

theorem cacheAt_apply (t : Fin (cfgM m hO).N) (h s : Fin 16) (d : Fin 128) :
    cacheAt m c hO t (ix4 0 h s d) = argC m c (ix4 (block t) h s d) := by
  unfold cacheAt iblk
  refine (View.read_apply _ _).trans ?_
  refine congrArg (argC m c) (funext fun x => Fin.ext ?_)
  match x with
  | ⟨0, _⟩ =>
    show (BitVec.ofNat 32 (grid0.coords t 0).val).toNat * 1 + 1 * 0 = t.val
    have ht : t.val < 512 := Nat.lt_of_lt_of_eq t.isLt N_0
    rw [coords_eq, BitVec.toNat_ofNat]
    omega
  | ⟨1, _⟩ => show 0 * 16 + 1 * h.val = h.val; omega
  | ⟨2, _⟩ => show 0 * 16 + 1 * s.val = s.val; omega
  | ⟨3, _⟩ => show 0 * 128 + 1 * d.val = d.val; omega

include hlt in
theorem newKeys_apply (t : Fin (cfgM m hO).N) (s h : Fin 16) (d : Fin 128) :
    newKeys m c hO t s (ix3 0 h d) = argK m c (ix3 (source (ownerAt (argO m c) (block t) s)) h d) := by
  match s with
  | ⟨0, _⟩ =>
    show iblk m hO c 1 t (ix3 0 h d) = _
    unfold iblk
    exact (View.read_apply _ _).trans (row_of m c hlt (argK m c) t 0 _ h d rfl rfl rfl)
  | ⟨1, _⟩ =>
    show iblk m hO c 2 t (ix3 0 h d) = _
    unfold iblk
    exact (View.read_apply _ _).trans (row_of m c hlt (argK m c) t 1 _ h d rfl rfl rfl)
  | ⟨2, _⟩ =>
    show iblk m hO c 3 t (ix3 0 h d) = _
    unfold iblk
    exact (View.read_apply _ _).trans (row_of m c hlt (argK m c) t 2 _ h d rfl rfl rfl)
  | ⟨3, _⟩ =>
    show iblk m hO c 4 t (ix3 0 h d) = _
    unfold iblk
    exact (View.read_apply _ _).trans (row_of m c hlt (argK m c) t 3 _ h d rfl rfl rfl)
  | ⟨4, _⟩ =>
    show iblk m hO c 5 t (ix3 0 h d) = _
    unfold iblk
    exact (View.read_apply _ _).trans (row_of m c hlt (argK m c) t 4 _ h d rfl rfl rfl)
  | ⟨5, _⟩ =>
    show iblk m hO c 6 t (ix3 0 h d) = _
    unfold iblk
    exact (View.read_apply _ _).trans (row_of m c hlt (argK m c) t 5 _ h d rfl rfl rfl)
  | ⟨6, _⟩ =>
    show iblk m hO c 7 t (ix3 0 h d) = _
    unfold iblk
    exact (View.read_apply _ _).trans (row_of m c hlt (argK m c) t 6 _ h d rfl rfl rfl)
  | ⟨7, _⟩ =>
    show iblk m hO c 8 t (ix3 0 h d) = _
    unfold iblk
    exact (View.read_apply _ _).trans (row_of m c hlt (argK m c) t 7 _ h d rfl rfl rfl)
  | ⟨8, _⟩ =>
    show iblk m hO c 9 t (ix3 0 h d) = _
    unfold iblk
    exact (View.read_apply _ _).trans (row_of m c hlt (argK m c) t 8 _ h d rfl rfl rfl)
  | ⟨9, _⟩ =>
    show iblk m hO c 10 t (ix3 0 h d) = _
    unfold iblk
    exact (View.read_apply _ _).trans (row_of m c hlt (argK m c) t 9 _ h d rfl rfl rfl)
  | ⟨10, _⟩ =>
    show iblk m hO c 11 t (ix3 0 h d) = _
    unfold iblk
    exact (View.read_apply _ _).trans (row_of m c hlt (argK m c) t 10 _ h d rfl rfl rfl)
  | ⟨11, _⟩ =>
    show iblk m hO c 12 t (ix3 0 h d) = _
    unfold iblk
    exact (View.read_apply _ _).trans (row_of m c hlt (argK m c) t 11 _ h d rfl rfl rfl)
  | ⟨12, _⟩ =>
    show iblk m hO c 13 t (ix3 0 h d) = _
    unfold iblk
    exact (View.read_apply _ _).trans (row_of m c hlt (argK m c) t 12 _ h d rfl rfl rfl)
  | ⟨13, _⟩ =>
    show iblk m hO c 14 t (ix3 0 h d) = _
    unfold iblk
    exact (View.read_apply _ _).trans (row_of m c hlt (argK m c) t 13 _ h d rfl rfl rfl)
  | ⟨14, _⟩ =>
    show iblk m hO c 15 t (ix3 0 h d) = _
    unfold iblk
    exact (View.read_apply _ _).trans (row_of m c hlt (argK m c) t 14 _ h d rfl rfl rfl)
  | ⟨15, _⟩ =>
    show iblk m hO c 16 t (ix3 0 h d) = _
    unfold iblk
    exact (View.read_apply _ _).trans (row_of m c hlt (argK m c) t 15 _ h d rfl rfl rfl)
  | ⟨k + 16, hk⟩ => omega

include hlt in
theorem newValues_apply (t : Fin (cfgM m hO).N) (s h : Fin 16) (d : Fin 128) :
    newValues m c hO t s (ix3 0 h d) = argV m c (ix3 (source (ownerAt (argO m c) (block t) s)) h d) := by
  match s with
  | ⟨0, _⟩ =>
    show iblk m hO c 17 t (ix3 0 h d) = _
    unfold iblk
    exact (View.read_apply _ _).trans (row_of m c hlt (argV m c) t 0 _ h d rfl rfl rfl)
  | ⟨1, _⟩ =>
    show iblk m hO c 18 t (ix3 0 h d) = _
    unfold iblk
    exact (View.read_apply _ _).trans (row_of m c hlt (argV m c) t 1 _ h d rfl rfl rfl)
  | ⟨2, _⟩ =>
    show iblk m hO c 19 t (ix3 0 h d) = _
    unfold iblk
    exact (View.read_apply _ _).trans (row_of m c hlt (argV m c) t 2 _ h d rfl rfl rfl)
  | ⟨3, _⟩ =>
    show iblk m hO c 20 t (ix3 0 h d) = _
    unfold iblk
    exact (View.read_apply _ _).trans (row_of m c hlt (argV m c) t 3 _ h d rfl rfl rfl)
  | ⟨4, _⟩ =>
    show iblk m hO c 21 t (ix3 0 h d) = _
    unfold iblk
    exact (View.read_apply _ _).trans (row_of m c hlt (argV m c) t 4 _ h d rfl rfl rfl)
  | ⟨5, _⟩ =>
    show iblk m hO c 22 t (ix3 0 h d) = _
    unfold iblk
    exact (View.read_apply _ _).trans (row_of m c hlt (argV m c) t 5 _ h d rfl rfl rfl)
  | ⟨6, _⟩ =>
    show iblk m hO c 23 t (ix3 0 h d) = _
    unfold iblk
    exact (View.read_apply _ _).trans (row_of m c hlt (argV m c) t 6 _ h d rfl rfl rfl)
  | ⟨7, _⟩ =>
    show iblk m hO c 24 t (ix3 0 h d) = _
    unfold iblk
    exact (View.read_apply _ _).trans (row_of m c hlt (argV m c) t 7 _ h d rfl rfl rfl)
  | ⟨8, _⟩ =>
    show iblk m hO c 25 t (ix3 0 h d) = _
    unfold iblk
    exact (View.read_apply _ _).trans (row_of m c hlt (argV m c) t 8 _ h d rfl rfl rfl)
  | ⟨9, _⟩ =>
    show iblk m hO c 26 t (ix3 0 h d) = _
    unfold iblk
    exact (View.read_apply _ _).trans (row_of m c hlt (argV m c) t 9 _ h d rfl rfl rfl)
  | ⟨10, _⟩ =>
    show iblk m hO c 27 t (ix3 0 h d) = _
    unfold iblk
    exact (View.read_apply _ _).trans (row_of m c hlt (argV m c) t 10 _ h d rfl rfl rfl)
  | ⟨11, _⟩ =>
    show iblk m hO c 28 t (ix3 0 h d) = _
    unfold iblk
    exact (View.read_apply _ _).trans (row_of m c hlt (argV m c) t 11 _ h d rfl rfl rfl)
  | ⟨12, _⟩ =>
    show iblk m hO c 29 t (ix3 0 h d) = _
    unfold iblk
    exact (View.read_apply _ _).trans (row_of m c hlt (argV m c) t 12 _ h d rfl rfl rfl)
  | ⟨13, _⟩ =>
    show iblk m hO c 30 t (ix3 0 h d) = _
    unfold iblk
    exact (View.read_apply _ _).trans (row_of m c hlt (argV m c) t 13 _ h d rfl rfl rfl)
  | ⟨14, _⟩ =>
    show iblk m hO c 31 t (ix3 0 h d) = _
    unfold iblk
    exact (View.read_apply _ _).trans (row_of m c hlt (argV m c) t 14 _ h d rfl rfl rfl)
  | ⟨15, _⟩ =>
    show iblk m hO c 32 t (ix3 0 h d) = _
    unfold iblk
    exact (View.read_apply _ _).trans (row_of m c hlt (argV m c) t 15 _ h d rfl rfl rfl)
  | ⟨k + 16, hk⟩ => omega

/-! ## What a point leaves -/

set_option maxHeartbeats 3200000 in
theorem outs_values (t : Fin (cfgM m hO).N) :
    (outsAt0 m hO c t).1 = blockValues (ownerWord c (grid0.coords t) (tbl m 1)) (cacheAt m c hO t) (newValues m c hO t) :=
  by unfold outsAt0; exact out_values c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (tbl m 0) (tbl m 1)

set_option maxHeartbeats 3200000 in
theorem outs_keys (t : Fin (cfgM m hO).N) :
    (outsAt0 m hO c t).2 = blockKeys (ownerWord c (grid0.coords t) (tbl m 1)) (newKeys m c hO t) :=
  by unfold outsAt0; exact out_keys c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (tbl m 0) (tbl m 1)

include hlt in
/-- A point's block of values is its block of the merged values. -/
theorem outs_values_apply (t : Fin (cfgM m hO).N) (h s : Fin 16) (d : Fin 128) :
    (outsAt0 m hO c t).1 (ix4 0 h s d) = values (argV m c) (argC m c) (argO m c) (ix4 (block t) h s d) := by
  rw [outs_values]
  show Scalar.select (IntOp.cmpi .sge (ownerWord c (grid0.coords t) (tbl m 1) s) 0#32) (newValues m c hO t s (ix3 0 h d)) (cacheAt m c hO t (ix4 0 h s d)) = _
  rw [ownerWord_eq, newValues_apply m c hlt hO, cacheAt_apply]
  rfl

include hlt in
/-- A point's block of fresh keys is its block of `keys`. -/
theorem outs_keys_apply (t : Fin (cfgM m hO).N) (s : Fin 16) (r : Fin 17) (d : Fin 128) :
    (outsAt0 m hO c t).2 (ix4 0 s r d) = keys (argK m c) (argO m c) (ix4 (block t) s r d) := by
  rw [outs_keys]
  show (if h : r.val < 16 then newKeys m c hO t s (ix3 0 ⟨r.val, h⟩ d)
    else Scalar.select (IntOp.cmpi .sge (ownerWord c (grid0.coords t) (tbl m 1) s) 0#32) (Scalar.ofBits (F := Ideal) .f32 0x3F800000#32) (Scalar.ofBits (F := Ideal) .f32 0x00000000#32))
    = (if h : r.val < 16 then argK m c (ix3 (source (ownerAt (argO m c) (block t) s)) ⟨r.val, h⟩ d)
      else Scalar.select (owned (ownerAt (argO m c) (block t) s)) (Scalar.ofBits (F := Ideal) .f32 0x3F800000#32) (Scalar.ofBits (F := Ideal) .f32 0x00000000#32))
  by_cases hr : r.val < 16
  · rw [dif_pos hr, dif_pos hr, newKeys_apply m c hlt hO]
  · rw [dif_neg hr, dif_neg hr, ownerWord_eq]

/-! ## The arrays after the run -/

/-- The block a point writes of the merged values is its number's. -/
theorem mem33 (t : Fin (cfgM m hO).N) (i : S512x16x16x128.Idx) : i ∈ (((cfgM m hO).win 33).blk t).view.set ↔ (i 0).val = t.val := by
  have ht : t.val < 512 := Nat.lt_of_lt_of_eq t.isLt N_0
  have hx : ((cfgM m hO).win 33).index t (0 : Fin 4) = t.val := by
    show (BitVec.ofNat 32 (grid0.coords t 0).val).toNat = t.val
    rw [coords_eq, BitVec.toNat_ofNat]
    omega
  show i ∈ ((View.whole main_v0_0).slice (((cfgM m hO).win 33).rect t)).set ↔ _
  refine (iff_of_eq (congrArg (i ∈ ·) (View.set_slice_whole main_v0_0 (((cfgM m hO).win 33).rect t)))).trans (Rect.mem_set_unit.trans ?_)
  constructor
  · intro h
    have h0 : ((cfgM m hO).win 33).index t (0 : Fin 4) * 1 ≤ (i 0).val ∧ (i 0).val < ((cfgM m hO).win 33).index t (0 : Fin 4) * 1 + 1 := h 0
    rw [hx] at h0
    omega
  · intro h a
    match a with
    | ⟨0, _⟩ =>
      show ((cfgM m hO).win 33).index t (0 : Fin 4) * 1 ≤ (i 0).val ∧ (i 0).val < ((cfgM m hO).win 33).index t (0 : Fin 4) * 1 + 1
      rw [hx]; omega
    | ⟨1, _⟩ =>
      have hi : (i 1).val < 16 := (i 1).isLt
      exact ⟨by show 0 * 16 ≤ (i 1).val; omega, by show (i 1).val < 0 * 16 + 16; omega⟩
    | ⟨2, _⟩ =>
      have hi : (i 2).val < 16 := (i 2).isLt
      exact ⟨by show 0 * 16 ≤ (i 2).val; omega, by show (i 2).val < 0 * 16 + 16; omega⟩
    | ⟨3, _⟩ =>
      have hi : (i 3).val < 128 := (i 3).isLt
      exact ⟨by show 0 * 128 ≤ (i 3).val; omega, by show (i 3).val < 0 * 128 + 128; omega⟩

include hlt in
/-- The array of the merged values after the run. -/
theorem final33 : (dats m hO 0 c).arrAt 33 (cfgM m hO).N = values (argV m c) (argC m c) (argO m c) := by
  refine funext fun (i : S512x16x16x128.Idx) => ?_
  have hi : (i 0).val < 512 := (i 0).isLt
  refine (dats m hO 0 c).arrAt_apply_of_mem 33 (values (argV m c) (argC m c) (argO m c)) (fun t _ => ?_) (cfgM m hO).N ⟨(i 0).val, by show _ < grid0.N; rw [N_0]; exact hi⟩ i
    (Fin.isLt _) (flush0_33 _ _) ((mem33 m hO _ i).mpr rfl)
  show ((cfgM m hO).win 33).cut (grid0.coords t) ((dats m hO 0 c).after 33 t) = _
  rw [after0_33 m hO c t]
  refine funext fun (y : S1x16x16x128.Idx) => ?_
  refine Eq.trans ?_ (View.read_apply _ _).symm
  have ht : t.val < 512 := Nat.lt_of_lt_of_eq t.isLt N_0
  have y0 : (y 0).val < 1 := (y 0).isLt
  have e : ((cfgM m hO).win 33).xinj (grid0.coords t) y = (ix4 0 (y 1) (y 2) (y 3) : S1x16x16x128.Idx) := by
    funext a
    apply Fin.ext
    match a with
    | ⟨0, _⟩ => show (y 0).val = 0; omega
    | ⟨1, _⟩ => rfl
    | ⟨2, _⟩ => rfl
    | ⟨3, _⟩ => rfl
  have e' : (((cfgM m hO).win 33).blk t).view.emb y = (ix4 (block t) (y 1) (y 2) (y 3) : S512x16x16x128.Idx) := by
    funext a
    apply Fin.ext
    match a with
    | ⟨0, _⟩ =>
      show (BitVec.ofNat 32 (grid0.coords t 0).val).toNat * 1 + 1 * (y 0).val = t.val
      rw [coords_eq, BitVec.toNat_ofNat]
      omega
    | ⟨1, _⟩ => show 0 * 16 + 1 * (y 1).val = (y 1).val; omega
    | ⟨2, _⟩ => show 0 * 16 + 1 * (y 2).val = (y 2).val; omega
    | ⟨3, _⟩ => show 0 * 128 + 1 * (y 3).val = (y 3).val; omega
  show (outsAt0 m hO c t).1 (((cfgM m hO).win 33).xinj (grid0.coords t) y) = values (argV m c) (argC m c) (argO m c) ((((cfgM m hO).win 33).blk t).view.emb y)
  exact (congrArg (outsAt0 m hO c t).1 e).trans ((outs_values_apply m c hlt hO t (y 1) (y 2) (y 3)).trans (congrArg (values (argV m c) (argC m c) (argO m c)) e').symm)

/-- The block a point writes of the fresh keys is its number's. -/
theorem mem34 (t : Fin (cfgM m hO).N) (i : S512x16x17x128.Idx) : i ∈ (((cfgM m hO).win 34).blk t).view.set ↔ (i 0).val = t.val := by
  have ht : t.val < 512 := Nat.lt_of_lt_of_eq t.isLt N_0
  have hx : ((cfgM m hO).win 34).index t (0 : Fin 4) = t.val := by
    show (BitVec.ofNat 32 (grid0.coords t 0).val).toNat = t.val
    rw [coords_eq, BitVec.toNat_ofNat]
    omega
  show i ∈ ((View.whole main_v0_1).slice (((cfgM m hO).win 34).rect t)).set ↔ _
  refine (iff_of_eq (congrArg (i ∈ ·) (View.set_slice_whole main_v0_1 (((cfgM m hO).win 34).rect t)))).trans (Rect.mem_set_unit.trans ?_)
  constructor
  · intro h
    have h0 : ((cfgM m hO).win 34).index t (0 : Fin 4) * 1 ≤ (i 0).val ∧ (i 0).val < ((cfgM m hO).win 34).index t (0 : Fin 4) * 1 + 1 := h 0
    rw [hx] at h0
    omega
  · intro h a
    match a with
    | ⟨0, _⟩ =>
      show ((cfgM m hO).win 34).index t (0 : Fin 4) * 1 ≤ (i 0).val ∧ (i 0).val < ((cfgM m hO).win 34).index t (0 : Fin 4) * 1 + 1
      rw [hx]; omega
    | ⟨1, _⟩ =>
      have hi : (i 1).val < 16 := (i 1).isLt
      exact ⟨by show 0 * 16 ≤ (i 1).val; omega, by show (i 1).val < 0 * 16 + 16; omega⟩
    | ⟨2, _⟩ =>
      have hi : (i 2).val < 17 := (i 2).isLt
      exact ⟨by show 0 * 17 ≤ (i 2).val; omega, by show (i 2).val < 0 * 17 + 17; omega⟩
    | ⟨3, _⟩ =>
      have hi : (i 3).val < 128 := (i 3).isLt
      exact ⟨by show 0 * 128 ≤ (i 3).val; omega, by show (i 3).val < 0 * 128 + 128; omega⟩

include hlt in
/-- The array of the fresh keys after the run. -/
theorem final34 : (dats m hO 0 c).arrAt 34 (cfgM m hO).N = keys (argK m c) (argO m c) := by
  refine funext fun (i : S512x16x17x128.Idx) => ?_
  have hi : (i 0).val < 512 := (i 0).isLt
  refine (dats m hO 0 c).arrAt_apply_of_mem 34 (keys (argK m c) (argO m c)) (fun t _ => ?_) (cfgM m hO).N ⟨(i 0).val, by show _ < grid0.N; rw [N_0]; exact hi⟩ i
    (Fin.isLt _) (flush0_34 _ _) ((mem34 m hO _ i).mpr rfl)
  show ((cfgM m hO).win 34).cut (grid0.coords t) ((dats m hO 0 c).after 34 t) = _
  rw [after0_34 m hO c t]
  refine funext fun (y : S1x16x17x128.Idx) => ?_
  refine Eq.trans ?_ (View.read_apply _ _).symm
  have ht : t.val < 512 := Nat.lt_of_lt_of_eq t.isLt N_0
  have y0 : (y 0).val < 1 := (y 0).isLt
  have e : ((cfgM m hO).win 34).xinj (grid0.coords t) y = (ix4 0 (y 1) (y 2) (y 3) : S1x16x17x128.Idx) := by
    funext a
    apply Fin.ext
    match a with
    | ⟨0, _⟩ => show (y 0).val = 0; omega
    | ⟨1, _⟩ => rfl
    | ⟨2, _⟩ => rfl
    | ⟨3, _⟩ => rfl
  have e' : (((cfgM m hO).win 34).blk t).view.emb y = (ix4 (block t) (y 1) (y 2) (y 3) : S512x16x17x128.Idx) := by
    funext a
    apply Fin.ext
    match a with
    | ⟨0, _⟩ =>
      show (BitVec.ofNat 32 (grid0.coords t 0).val).toNat * 1 + 1 * (y 0).val = t.val
      rw [coords_eq, BitVec.toNat_ofNat]
      omega
    | ⟨1, _⟩ => show 0 * 16 + 1 * (y 1).val = (y 1).val; omega
    | ⟨2, _⟩ => show 0 * 17 + 1 * (y 2).val = (y 2).val; omega
    | ⟨3, _⟩ => show 0 * 128 + 1 * (y 3).val = (y 3).val; omega
  show (outsAt0 m hO c t).2 (((cfgM m hO).win 34).xinj (grid0.coords t) y) = keys (argK m c) (argO m c) ((((cfgM m hO).win 34).blk t).view.emb y)
  exact (congrArg (outsAt0 m hO c t).2 e).trans ((outs_keys_apply m c hlt hO t (y 1) (y 2) (y 3)).trans (congrArg (keys (argK m c) (argO m c)) e').symm)

end Cert.MergeIdeal.Attention

end
-- ==== Proof.MergeReference.lean ====
/-
  What the merge reference leaves, entry by entry: the merged values and the fresh keys of `Cert.Merge.Spec`.
-/
module

public import proofs.«01_k».proof.Proof.MergeSpec
public import proofs.«01_k».proof.Proof.Gen.MergeReferenceIdeal.Read

@[expose] public section

noncomputable section

namespace Cert.MergeReferenceIdeal.Attention

open Idealize.ShloMosaic Cert.MergeReferenceIdeal Cert.MergeReferenceIdeal.Gen Cert.MergeReferenceIdeal.Read Cert.Merge.Spec

/-- A word below 4112 is the same number signed and unsigned. -/
theorem clip_eq (u : BitVec 32) (h : u.toNat < 4112) : min u.toInt.toNat 4111 = min u.toNat 4111 := by
  rw [BitVec.toInt_eq_toNat_cond]
  split <;> omega

variable (O : IVec Slots 32) (hlt : ∀ x : Slots.Idx, (IntOp.maxsi (O x) 0#32).toNat < 4112)

include hlt in
/-- The row of tokens looked up for slot `n`. -/
theorem lookup (x : Vec Ideal Tokens .f32) (n : Fin 8192) (h : Fin 16) (d : Fin 128) :
    val_main_v5 (F := Ideal) x O (ix3 n h d) = x (ix3 (source (O (ValueIdx.ix1 n))) h d) := by
  unfold val_main_v5 Host.gather
  congr 1
  funext k
  refine Fin.ext ?_
  show gather_S4112x16x128_S8192x1_S8192x16x128_12_0_n_n_0_1_116128.start (ix3 n h d) (val_main_call0_v0 (F := Ideal) O) k + gather_S4112x16x128_S8192x1_S8192x16x128_12_0_n_n_0_1_116128.batchCoord (ix3 n h d) k + gather_S4112x16x128_S8192x1_S8192x16x128_12_0_n_n_0_1_116128.offCoord (ix3 n h d) k = _
  rw [GatherDims.batchCoord_eq_zero _ _ _ (List.not_mem_nil (a := k)), Nat.add_zero]
  match k with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, _⟩ : Fin 3) ∈ gather_S4112x16x128_S8192x1_S8192x16x128_12_0_n_n_0_1_116128.startIndexMap from List.mem_singleton.mpr rfl)]
    have hsi : ∀ q, gather_S4112x16x128_S8192x1_S8192x16x128_12_0_n_n_0_1_116128.siIdx (ix3 n h d) q = ix2 n 0 := fun q => by
      have hq : q = ⟨0, by decide⟩ := Fin.ext (by have : q.val < 1 := q.isLt; show q.val = 0; omega)
      subst hq
      funext b
      refine Fin.ext ?_
      match b with
      | ⟨0, _⟩ => rfl
      | ⟨1, _⟩ => rfl
    have hi : idx_main_call0_v0 (ix2 n 0) = (ValueIdx.ix1 n : Slots.Idx) := by
      funext b
      refine Fin.ext ?_
      match b with
      | ⟨0, _⟩ => rfl
    rw [hsi, val_main_call0_v0_apply, hi, val_main_v4_apply, val_main_v3_apply]
    exact clip_eq _ (hlt _)
  | ⟨1, _⟩ =>
    have hn : (⟨1, by decide⟩ : Fin 3) ∉ ([0] : List (Fin 3)) := by decide
    have hs : (⟨1, by decide⟩ : Fin S4112x16x128.rank) ∉ gather_S4112x16x128_S8192x1_S8192x16x128_12_0_n_n_0_1_116128.startIndexMap := hn
    have hk : (⟨1, by decide⟩ : Fin S4112x16x128.rank) ∈ gather_S4112x16x128_S8192x1_S8192x16x128_12_0_n_n_0_1_116128.sKept := (GatherDims.mem_sKept _ _).mpr ⟨hn, List.not_mem_nil⟩
    unfold GatherDims.start GatherDims.offCoord
    rw [dif_neg hs, dif_pos hk, Nat.zero_add]
    rfl
  | ⟨2, _⟩ =>
    have hn : (⟨2, by decide⟩ : Fin 3) ∉ ([0] : List (Fin 3)) := by decide
    have hs : (⟨2, by decide⟩ : Fin S4112x16x128.rank) ∉ gather_S4112x16x128_S8192x1_S8192x16x128_12_0_n_n_0_1_116128.startIndexMap := hn
    have hk : (⟨2, by decide⟩ : Fin S4112x16x128.rank) ∈ gather_S4112x16x128_S8192x1_S8192x16x128_12_0_n_n_0_1_116128.sKept := (GatherDims.mem_sKept _ _).mpr ⟨hn, List.not_mem_nil⟩
    unfold GatherDims.start GatherDims.offCoord
    rw [dif_neg hs, dif_pos hk, Nat.zero_add]
    rfl

theorem slot_eq (b : Fin 512) (s : Fin 16) : val_main_v0 (F := Ideal) O (ix2 b s) = ownerAt O b s := by
  rw [val_main_v0_apply]
  unfold ownerAt
  refine congrArg O (funext fun a => Fin.ext ?_)
  match a with
  | ⟨0, _⟩ => show b.val * 16 + s.val = 16 * b.val + s.val; omega

theorem owned_eq (b : Fin 512) (s : Fin 16) : val_main_v2 (F := Ideal) O (ix2 b s) = owned (ownerAt O b s) := by
  rw [val_main_v2_apply, slot_eq, val_main_v1_apply]
  rfl

include hlt in
/-- The looked-up rows, by block and slot. -/
theorem rows_eq (x : Vec Ideal Tokens .f32) (b : Fin 512) (s h : Fin 16) (d : Fin 128) :
    val_main_v6 (F := Ideal) x O (ix4 b s h d) = x (ix3 (source (ownerAt O b s)) h d) := by
  rw [val_main_v6_apply]
  have hb := b.isLt
  have hs := s.isLt
  have hh := h.isLt
  have hd := d.isLt
  have e : idx_main_v6 (ix4 b s h d) = ix3 (⟨16 * b.val + s.val, by omega⟩ : Fin 8192) h d := by
    funext a
    refine Fin.ext ?_
    match a with
    | ⟨0, _⟩ => show (((b.val * 16 + s.val) * 16 + h.val) * 128 + d.val) / 2048 = 16 * b.val + s.val; omega
    | ⟨1, _⟩ => show (((b.val * 16 + s.val) * 16 + h.val) * 128 + d.val) / 128 % 16 = h.val; omega
    | ⟨2, _⟩ => show (((b.val * 16 + s.val) * 16 + h.val) * 128 + d.val) % 128 = d.val; omega
  rw [e, lookup O hlt]
  rfl

include hlt in
/-- The reference's values. -/
theorem values_eq (X : Vec Ideal Tokens .f32) (C : Vec Ideal Cache .f32) : val_main_v12 (F := Ideal) X C O = values X C O := by
  refine funext fun (i : Cache.Idx) => ?_
  rw [val_main_v12_apply, val_main_call3_v0_apply, val_main_v11_apply, val_main_v9_apply]
  have e : idx_main_v11 (idx_main_call3_v0 i) = (ix2 (i 0) (i 2) : (⟨2, ![512, 16]⟩ : Shape).Idx) := by
    funext a
    match a with
    | ⟨0, _⟩ => rfl
    | ⟨1, _⟩ => rfl
  have e' : idx_main_v9 i = (ix4 (i 0) (i 2) (i 1) (i 3) : Cache.Idx) := by
    funext a
    match a with
    | ⟨0, _⟩ => rfl
    | ⟨1, _⟩ => rfl
    | ⟨2, _⟩ => rfl
    | ⟨3, _⟩ => rfl
  rw [e, e']
  exact congrArg₂ (fun a b => Scalar.select a b (C i)) (owned_eq O (i 0) (i 2)) (rows_eq O hlt X (i 0) (i 2) (i 1) (i 3))

include hlt in
/-- The reference's fresh keys. -/
theorem keys_eq (K : Vec Ideal Tokens .f32) : val_main_v15 (F := Ideal) K O = keys K O := by
  refine funext fun (i : Fresh.Idx) => ?_
  unfold val_main_v15 keys
  have hi : (i 2).val < 17 := (i 2).isLt
  by_cases h : (i 2).val < 16
  · rw [dif_pos h]
    refine (concatenate_pair_apply_left (s₁ := S512x16x16x128) (s₂ := S512x16x1x128) (2 : Fin 4) _ _ concatenates_S512x16x16x128_S512x16x1x128_S512x16x17x128_d2 i rfl
      (ix4 (i 0) (i 1) ⟨(i 2).val, h⟩ (i 3)) (fun b => by
        match b with
        | ⟨0, _⟩ => rfl
        | ⟨1, _⟩ => rfl
        | ⟨2, _⟩ => rfl
        | ⟨3, _⟩ => rfl)).trans ?_
    exact rows_eq O hlt K _ _ _ _
  · rw [dif_neg h]
    refine (concatenate_pair_apply_right (s₁ := S512x16x16x128) (s₂ := S512x16x1x128) (2 : Fin 4) _ _ concatenates_S512x16x16x128_S512x16x1x128_S512x16x17x128_d2 i rfl rfl
      (ix4 (i 0) (i 1) 0 (i 3)) (fun b hb => by
        match b with
        | ⟨0, _⟩ => rfl
        | ⟨1, _⟩ => rfl
        | ⟨2, _⟩ => exact absurd rfl hb
        | ⟨3, _⟩ => rfl) (by show 0 + 16 = (i 2).val; omega)).trans ?_
    rw [val_main_v14_apply, val_main_v13_apply, val_main_v10_apply, val_main_call2_v0_apply, val_main_call2_v1_apply]
    have e : idx_main_v13 (idx_main_v14 (ix4 (i 0) (i 1) 0 (i 3))) = (ix2 (i 0) (i 1) : (⟨2, ![512, 16]⟩ : Shape).Idx) := by
      funext a
      match a with
      | ⟨0, _⟩ => rfl
      | ⟨1, _⟩ => rfl
    rw [e]
    exact congrArg (fun a => Scalar.select a _ _) (owned_eq O (i 0) (i 1))

end Cert.MergeReferenceIdeal.Attention

end
-- ==== Proof.lean ====
/-
  The claims assembled, for each of the four calls (the prompt attention, the owners, the merge and the decode attention):
  the frames, the idealizations and the equations with the references.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Decode
public import proofs.«01_k».proof.Proof.Gen.Decode.Skeleton
public import proofs.«01_k».proof.Proof.Gen.Decode.Launch
public import proofs.«01_k».proof.Proof.Gen.Decode.Points
public import proofs.«01_k».proof.Proof.DecodeFrame
public import proofs.«01_k».proof.Proof.Gen.DecodeIdeal
public import proofs.«01_k».proof.Proof.Gen.DecodeIdeal.Skeleton
public import proofs.«01_k».proof.Proof.Gen.DecodeIdeal.Launch
public import proofs.«01_k».proof.Proof.Gen.DecodeIdeal.Points
public import proofs.«01_k».proof.Proof.DecodeIdealFrame
public import proofs.«01_k».proof.Proof.Gen.DecodeReferenceIdeal
public import proofs.«01_k».proof.Proof.Gen.DecodeReferenceIdeal.Run
public import proofs.«01_k».proof.Proof.Gen.DecodeReferenceIdeal.Read
public import proofs.«01_k».proof.Proof.Gen.Pre_tables_in_range
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame.Runs
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame.Runs
public import proofs.«01_k».proof.Proof.Gen.Owner
public import proofs.«01_k».proof.Proof.Gen.Owner.Skeleton
public import proofs.«01_k».proof.Proof.Gen.Owner.Loops
public import proofs.«01_k».proof.Proof.Gen.Owner.Launch
public import proofs.«01_k».proof.Proof.Gen.OwnerIdeal
public import proofs.«01_k».proof.Proof.Gen.OwnerIdeal.Skeleton
public import proofs.«01_k».proof.Proof.Gen.OwnerIdeal.Loops
public import proofs.«01_k».proof.Proof.Gen.OwnerIdeal.Launch
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.OwnerReferenceIdeal
public import proofs.«01_k».proof.Proof.Gen.OwnerReferenceIdeal.Run
public import proofs.«01_k».proof.Proof.Gen.OwnerReferenceIdeal.Read
public import proofs.«01_k».proof.Proof.Gen.Pre_owner_in_range
public import proofs.«01_k».proof.Proof.Gen.Pre_slots_in_range
public import proofs.«01_k».proof.Proof.Array
public import proofs.«01_k».proof.Proof.RefValue
public import proofs.«01_k».proof.Proof.Domain
public import proofs.«01_k».proof.Proof.DecodeKernelOk
public import proofs.«01_k».proof.Proof.DecodeOk
public import proofs.«01_k».proof.Proof.DecodeArray
public import proofs.«01_k».proof.Proof.DecodeRefValue
public import proofs.«01_k».proof.Proof.OwnerRun
public import proofs.«01_k».proof.Proof.OwnerDomain
public import proofs.«01_k».proof.Proof.OwnerValue
public import proofs.«01_k».proof.Proof.OwnerReference
public import Idealize.ShloMosaic.Adequacy
public import Idealize.ShloMosaic.Init
public import proofs.«01_k».proof.Proof.MergeOk
public import proofs.«01_k».proof.Proof.MergeIdealOk
public import proofs.«01_k».proof.Proof.MergeFrame
public import proofs.«01_k».proof.Proof.MergeIdealFrame
public import proofs.«01_k».proof.Proof.MergeValue
public import proofs.«01_k».proof.Proof.MergeReference
public import proofs.«01_k».proof.Proof.MergeSpec

@[expose] public section

noncomputable section

namespace Cert.Proof

open Idealize.ShloMosaic Idealize.SL.Sem Cert.Attention

/-- The kernel's program runs, leaves its arguments unchanged and every semaphore counter at zero. -/
theorem frame_kernel : Cert.quiescent_Kernel (hKernel := Cert.Kernel.Gen.facts) := fun m g _ => Cert.Kernel.Gen.frame m g

/-- The idealized kernel does so too. -/
theorem frame_ideal : Cert.quiescent_KernelIdeal (hKernelIdeal := Cert.KernelIdeal.Gen.facts) := fun m g _ => Cert.KernelIdeal.Gen.frame m g

/-- The reference runs, leaves its arguments unchanged and every semaphore counter at zero: it has none. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The idealized kernel is the kernel with the mask's −100000 read as −∞. -/
theorem preserved : Cert.preserves_Kernel_KernelIdeal := IdealRules.named_const.statement _ _ _ _ _ rfl

/-- With finite queries and keys, the idealized kernel and the reference leave the same attention in every prompt token's row. -/
theorem equal : Cert.algebraic_KernelIdeal_ReferenceIdeal_on_prompt_rows_pre_finite_qk (hKernelIdeal := Cert.KernelIdeal.Gen.facts)
    (hReferenceIdeal := Cert.ReferenceIdeal.Gen.facts) (hPre_finite_qk := pre_facts) (hOn_prompt_rows := rows_facts) := by
  intro m g m' g' hPre hArgs
  letI := pre_facts
  letI := rows_facts
  refine ⟨fun c => result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨fun i hi => ?_, (h c).2⟩) (Cert.KernelIdeal.Value.run_blocks (F := Ideal) m g)
    rw [(h c).1]
    exact Cert.KernelIdeal.Attention.final m c i (row_lt_of_rows _ _ _ i hi)
  · refine (θ_run Cert.ReferenceIdeal.defs _ _).mono (fun r h c => ⟨fun i hi => ?_, (h c).2⟩) (Cert.ReferenceIdeal.Value.run (F := Ideal) m' g')
    obtain ⟨hq, hk⟩ := real_of_pre _ _ _ (hPre c)
    obtain ⟨a0, a1, a2⟩ := hArgs c
    rw [(h c).1, Cert.ReferenceIdeal.Read.val_main_v33_eq, a0, a1, a2]
    exact Cert.ReferenceIdeal.Attention.final _ hq hk i (row_lt_of_rows _ _ _ i hi)

/-! ## The decode attention -/

/-- With block tables in range the decode program runs, leaves its arguments unchanged and every semaphore counter at zero. -/
theorem frame_decode : Cert.quiescent_Decode (hDecode := Cert.Decode.Gen.facts) (hPre_tables_in_range := Decode.tables_facts) := fun m g h =>
  letI := Decode.tables_facts
  Cert.Decode.Attention.frame m g (Cert.Decode.Attention.ok m fun x => Decode.lt_of_tables _ _ _ _ _ _ _ (h 0) x)

/-- The idealized decode program does so too. -/
theorem frame_decode_ideal : Cert.quiescent_DecodeIdeal (hDecodeIdeal := Cert.DecodeIdeal.Gen.facts)
    (hPre_tables_in_range := Decode.tables_facts) := fun m g h =>
  letI := Decode.tables_facts
  Cert.DecodeIdeal.Attention.frame m g (Cert.DecodeIdeal.Attention.ok m fun x => Decode.lt_of_tables _ _ _ _ _ _ _ (h 0) x)

/-- And on the value claim's domain, where the block tables are in range among other things. -/
theorem frame_decode_domain : Cert.quiescent_DecodeIdeal_pre_decode_domain (hDecodeIdeal := Cert.DecodeIdeal.Gen.facts)
    (hPre_decode_domain := Decode.domain_facts) := fun m g h =>
  letI := Decode.domain_facts
  Cert.DecodeIdeal.Attention.frame m g (Cert.DecodeIdeal.Attention.ok m (Decode.domain _ _ _ _ _ _ _ (h 0)).tables)

/-- The decode reference runs, leaves its arguments unchanged and every semaphore counter at zero: it has none. -/
theorem frame_decode_reference : Cert.quiescent_DecodeReferenceIdeal (hDecodeReferenceIdeal := Cert.DecodeReferenceIdeal.Gen.facts) := fun m g _ =>
  (θ_run Cert.DecodeReferenceIdeal.defs _ _).mono (fun r h => ⟨fun c => (h c).2, sem_eq_zero_of_no_sems (by decide) r.2⟩)
    (Cert.DecodeReferenceIdeal.Value.run (F := Ideal) m g)

/-- The idealized decode program is the decode program with the mask's −100000 read as −∞. -/
theorem preserved_decode : Cert.preserves_Decode_DecodeIdeal := IdealRules.named_const.statement _ _ _ _ _ rfl

/-- On the domain the idealized decode program leaves the decode step's result in its output array, and its arguments unchanged. -/
theorem run_decode (m : (ℓ : Loc Cert.DecodeIdeal.nD Cert.DecodeIdeal.τ Cert.DecodeIdeal.sig) → Buf (Elt Ideal) ℓ) (g : Dev Cert.DecodeIdeal.nD → PrngReg)
    (hD : ∀ c, Decode.Domain (Cert.DecodeIdeal.Attention.argBT m c) (Cert.DecodeIdeal.Attention.argCL m c) (Cert.DecodeIdeal.Attention.argQ m c)
      (Cert.DecodeIdeal.Attention.argKC m c) (Cert.DecodeIdeal.Attention.argKF m c)) :
    θ_run (Cert.DecodeIdeal.defs (F := Ideal)) (onTc (τ := Cert.DecodeIdeal.τ) (Cert.DecodeIdeal.main (F := Ideal))) ⟨m, fun _ => 0, g⟩
      (fun r => ∀ c : Dev Cert.DecodeIdeal.nD, r.2.mem ((c.tc : Thread Cert.DecodeIdeal.nD Cert.DecodeIdeal.τ).loc Cert.DecodeIdeal.main_v10)
        = Cert.DecodeIdeal.Attention.argResult m c) := by
  have hO := Cert.DecodeIdeal.Attention.ok m (hD 0).tables
  refine (θ_run Cert.DecodeIdeal.defs _ _).mono (fun r h c => ?_) (Cert.DecodeIdeal.Attention.run_main m g hO)
  exact ((h c).1 (4 : Fin 5)).trans (funext fun i => Cert.DecodeIdeal.Attention.final m c hO (hD c) i)

/-- On the domain the idealized decode program and its reference leave the same result. -/
theorem equal_decode : Cert.algebraic_DecodeIdeal_DecodeReferenceIdeal_pre_decode_domain (hDecodeIdeal := Cert.DecodeIdeal.Gen.facts)
    (hDecodeReferenceIdeal := Cert.DecodeReferenceIdeal.Gen.facts) (hPre_decode_domain := Decode.domain_facts) := by
  intro m g m' g' hPre hArgs
  letI := Decode.domain_facts
  have hD := fun c => Decode.domain _ _ _ _ _ _ _ (hPre c)
  refine ⟨fun c => Cert.DecodeIdeal.Attention.argResult m c, ?_, ?_⟩
  · exact (θ_run Cert.DecodeIdeal.defs _ _).mono (fun r h c => ⟨h.1 c, h.2 c⟩)
      (θ_run_and (run_decode m g hD) (Cert.DecodeIdeal.Attention.unchanged m g (Cert.DecodeIdeal.Attention.ok m (hD 0).tables)))
  · refine (θ_run Cert.DecodeReferenceIdeal.defs _ _).mono (fun r h c => ⟨?_, (h c).2⟩) (Cert.DecodeReferenceIdeal.Value.run (F := Ideal) m' g')
    obtain ⟨a0, a1, a2, a3, a4, a5, a6⟩ := hArgs c
    rw [(h c).1, Cert.DecodeReferenceIdeal.Read.val_main_v39_eq, a0, a1, a2, a3, a4, a5, a6]
    exact funext fun i => Cert.DecodeReferenceIdeal.Attention.final (hD c) _ _ i

/-! ## The slots' owners -/

/-- With slots in range the owner program runs, leaves its argument unchanged and every semaphore counter at zero. -/
theorem frame_owner : Cert.quiescent_Owner (hOwner := Cert.Owner.Gen.facts) (hPre_slots_in_range := Owner.Spec.slots_facts) := fun m g h =>
  letI := Owner.Spec.slots_facts
  Cert.Owner.Attention.frame m g (Cert.Owner.Attention.inRange m (Owner.Spec.lt_of_slots _ (h 0)))

/-- The idealized owner program does so too. -/
theorem frame_owner_ideal : Cert.quiescent_OwnerIdeal (hOwnerIdeal := Cert.OwnerIdeal.Gen.facts) (hPre_slots_in_range := Owner.Spec.slots_facts) :=
  fun m g h =>
  letI := Owner.Spec.slots_facts
  Cert.OwnerIdeal.Attention.frame m g (Cert.OwnerIdeal.Attention.inRange m (Owner.Spec.lt_of_slots _ (h 0)))

/-- The owner reference runs, leaves its argument unchanged and every semaphore counter at zero: it has none. -/
theorem frame_owner_reference : Cert.quiescent_OwnerReferenceIdeal (hOwnerReferenceIdeal := Cert.OwnerReferenceIdeal.Gen.facts) := fun m g _ =>
  (θ_run Cert.OwnerReferenceIdeal.defs _ _).mono (fun r h => ⟨fun c => (h c).2, sem_eq_zero_of_no_sems (by decide) r.2⟩)
    (Cert.OwnerReferenceIdeal.Value.run (F := Ideal) m g)

/-- With slots in range the idealized owner program and its reference leave the same owners. -/
theorem equal_owner : Cert.algebraic_OwnerIdeal_OwnerReferenceIdeal (hOwnerIdeal := Cert.OwnerIdeal.Gen.facts)
    (hOwnerReferenceIdeal := Cert.OwnerReferenceIdeal.Gen.facts) (hPre_slots_in_range := Owner.Spec.slots_facts) := by
  intro m g m' g' hPre hArgs
  letI := Owner.Spec.slots_facts
  have hlt := fun c => Owner.Spec.lt_of_slots _ (hPre c)
  have hW := Cert.OwnerIdeal.Attention.inRange m (hlt 0)
  refine ⟨fun c => Cert.OwnerIdeal.Attention.result m c, ?_, ?_⟩
  · exact (θ_run Cert.OwnerIdeal.defs _ _).mono
      (fun r h c => ⟨((h.1 c).1 (0 : Fin 1)).trans (Cert.OwnerIdeal.Attention.final m c), h.2 c⟩)
      (θ_run_and (Cert.OwnerIdeal.Attention.run_main m g hW) (Cert.OwnerIdeal.Attention.unchanged m g hW))
  · refine (θ_run Cert.OwnerReferenceIdeal.defs _ _).mono (fun r h c => ⟨?_, (h c).2⟩) (Cert.OwnerReferenceIdeal.Value.run (F := Ideal) m' g')
    obtain rfl : c = 0 := Subsingleton.elim _ _
    rw [(h 0).1, Cert.OwnerReferenceIdeal.Read.val_main_v8_eq, hArgs 0]
    funext i
    have e : i = ValueIdx.ix1 (i 0) := funext fun a => match a with | ⟨0, _⟩ => rfl
    rw [e]
    exact Cert.OwnerReferenceIdeal.Attention.final _ (hlt 0) (Cert.OwnerIdeal.Attention.words 0 Cert.OwnerIdeal.Attention.tbM (Cert.OwnerIdeal.Attention.tbl m 0))
      (fun k => Cert.OwnerIdeal.Attention.words_eq 0 _ k.val k.isLt) (i 0)

/-! ## The merge -/

/-- With owners below 4112 the merge program runs, leaves its arguments unchanged and every semaphore counter at zero. -/
theorem frame_merge : Cert.quiescent_Merge (hMerge := Cert.Merge.Gen.facts) (hPre_owner_in_range := Merge.Spec.owner_facts) := fun m g h =>
  letI := Merge.Spec.owner_facts
  Cert.Merge.Attention.frame m g (Cert.Merge.Attention.ok m (Merge.Spec.lt_of_owner _ _ _ _ _ (h 0)))

/-- The idealized merge program does so too. -/
theorem frame_merge_ideal : Cert.quiescent_MergeIdeal (hMergeIdeal := Cert.MergeIdeal.Gen.facts) (hPre_owner_in_range := Merge.Spec.owner_facts) :=
  fun m g h =>
  letI := Merge.Spec.owner_facts
  Cert.MergeIdeal.Attention.frame m g (Cert.MergeIdeal.Attention.ok m (Merge.Spec.lt_of_owner _ _ _ _ _ (h 0)))

/-- The merge reference runs, leaves its arguments unchanged and every semaphore counter at zero: it has none. -/
theorem frame_merge_reference : Cert.quiescent_MergeReferenceIdeal (hMergeReferenceIdeal := Cert.MergeReferenceIdeal.Gen.facts) := fun m g _ =>
  (θ_run Cert.MergeReferenceIdeal.defs _ _).mono (fun r h => ⟨fun c => (h c).2.2, sem_eq_zero_of_no_sems (by decide) r.2⟩)
    (Cert.MergeReferenceIdeal.Value.run (F := Ideal) m g)

/-- With owners below 4112 the idealized merge program and its reference leave the same merged values and the same fresh keys. -/
theorem equal_merge : Cert.algebraic_MergeIdeal_MergeReferenceIdeal (hMergeIdeal := Cert.MergeIdeal.Gen.facts)
    (hMergeReferenceIdeal := Cert.MergeReferenceIdeal.Gen.facts) (hPre_owner_in_range := Merge.Spec.owner_facts) := by
  intro m g m' g' hPre hArgs
  letI := Merge.Spec.owner_facts
  have hlt := fun c => Merge.Spec.lt_of_owner _ _ _ _ _ (hPre c)
  have hO := Cert.MergeIdeal.Attention.ok m (hlt 0)
  refine ⟨fun c => Merge.Spec.values (Cert.MergeIdeal.Attention.argV m c) (Cert.MergeIdeal.Attention.argC m c) (Cert.MergeIdeal.Attention.argO m c),
    fun c => Merge.Spec.keys (Cert.MergeIdeal.Attention.argK m c) (Cert.MergeIdeal.Attention.argO m c), ?_, ?_⟩
  · exact (θ_run Cert.MergeIdeal.defs _ _).mono
      (fun r h c => ⟨((h.1 c).1 (33 : Fin 35)).trans (Cert.MergeIdeal.Attention.final33 m c (hlt c) hO),
        ((h.1 c).1 (34 : Fin 35)).trans (Cert.MergeIdeal.Attention.final34 m c (hlt c) hO), h.2 c⟩)
      (θ_run_and (Cert.MergeIdeal.Attention.run_main m g hO) (Cert.MergeIdeal.Attention.unchanged m g hO))
  · refine (θ_run Cert.MergeReferenceIdeal.defs _ _).mono (fun r h c => ⟨?_, ?_, (h c).2.2⟩) (Cert.MergeReferenceIdeal.Value.run (F := Ideal) m' g')
    · rw [(h c).1, Cert.MergeReferenceIdeal.Read.val_main_v12_eq, (hArgs c).2.1, (hArgs c).2.2.1, (hArgs c).2.2.2.2]
      exact Cert.MergeReferenceIdeal.Attention.values_eq _ (hlt c) _ _
    · rw [(h c).2.1, Cert.MergeReferenceIdeal.Read.val_main_v15_eq, (hArgs c).1, (hArgs c).2.2.2.2]
      exact Cert.MergeReferenceIdeal.Attention.keys_eq _ (hlt c) _

/-- The claims together. -/
theorem claim : Cert.Claim :=
  ⟨Cert.Kernel.Gen.facts, Cert.KernelIdeal.Gen.facts, Cert.ReferenceIdeal.Gen.facts, Cert.Decode.Gen.facts, Cert.DecodeIdeal.Gen.facts,
    Cert.DecodeReferenceIdeal.Gen.facts, Cert.Merge.Gen.facts, Cert.MergeIdeal.Gen.facts, Cert.MergeReferenceIdeal.Gen.facts,
    Cert.Owner.Gen.facts, Cert.OwnerIdeal.Gen.facts, Cert.OwnerReferenceIdeal.Gen.facts,
    pre_facts, Decode.tables_facts, Decode.domain_facts, Merge.Spec.owner_facts, Owner.Spec.slots_facts, rows_facts,
    frame_kernel, frame_ideal, fun m g _ => Cert.KernelIdeal.Gen.frame m g, frame_reference, fun m g _ => frame_reference m g trivial,
    frame_decode, frame_decode_ideal, frame_decode_domain, frame_decode_reference, fun m g _ => frame_decode_reference m g trivial,
    frame_merge, frame_merge_ideal, frame_merge_reference, fun m g _ => frame_merge_reference m g trivial,
    frame_owner, frame_owner_ideal, frame_owner_reference, fun m g _ => frame_owner_reference m g trivial,
    preserved, equal, preserved_decode, equal_decode, trivial, equal_merge, trivial, equal_owner⟩

end Cert.Proof
